-- ==== Defs.lean ====
def Pre_Kernel [hPre_rows : Cert.Pre_rows.Facts] (m : (ℓ : Loc Cert.Kernel.nD Cert.Kernel.τ Cert.Kernel.sig) → Buf (Elt Bits) ℓ) : Prop :=
  ∀ c : Dev Cert.Kernel.nD,
    (Cert.Pre_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_rows : Cert.Pre_rows.Facts] (m : (ℓ : Loc Cert.KernelIdeal.nD Cert.KernelIdeal.τ Cert.KernelIdeal.sig) → Buf (Elt Ideal) ℓ) : Prop :=
  ∀ c : Dev Cert.KernelIdeal.nD,
    (Cert.Pre_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_rows_no_bias [hPre_rows_no_bias : Cert.Pre_rows_no_bias.Facts] (m : (ℓ : Loc Cert.KernelIdeal.nD Cert.KernelIdeal.τ Cert.KernelIdeal.sig) → Buf (Elt Ideal) ℓ) : Prop :=
  ∀ c : Dev Cert.KernelIdeal.nD,
    (Cert.Pre_rows_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_no_bias [hPre_rows_no_bias : Cert.Pre_rows_no_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_rows : Cert.Pre_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_rows : Cert.Pre_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_rows_no_bias [hKernelIdeal : Cert.KernelIdeal.Facts] [hPre_rows_no_bias : Cert.Pre_rows_no_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_no_bias m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_rows_no_bias [hReferenceIdeal : Cert.ReferenceIdeal.Facts] [hPre_rows_no_bias : Cert.Pre_rows_no_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_no_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_rows_no_bias [hKernelIdeal : Cert.KernelIdeal.Facts] [hReferenceIdeal : Cert.ReferenceIdeal.Facts] [hPre_rows_no_bias : Cert.Pre_rows_no_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_no_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_rows : Cert.Pre_rows.Facts) (hPre_rows_no_bias : Cert.Pre_rows_no_bias.Facts),
    quiescent_Kernel (hKernel := hKernel) (hPre_rows := hPre_rows)
    ∧ quiescent_KernelIdeal (hKernelIdeal := hKernelIdeal) (hPre_rows := hPre_rows)
    ∧ quiescent_KernelIdeal_pre_rows_no_bias (hKernelIdeal := hKernelIdeal) (hPre_rows_no_bias := hPre_rows_no_bias)
    ∧ quiescent_ReferenceIdeal (hReferenceIdeal := hReferenceIdeal)
    ∧ quiescent_ReferenceIdeal_pre_rows_no_bias (hReferenceIdeal := hReferenceIdeal) (hPre_rows_no_bias := hPre_rows_no_bias)
    ∧ preserves_Kernel_KernelIdeal
    ∧ algebraic_KernelIdeal_ReferenceIdeal_pre_rows_no_bias (hKernelIdeal := hKernelIdeal) (hReferenceIdeal := hReferenceIdeal) (hPre_rows_no_bias := hPre_rows_no_bias)
-- ==== Pre_rows.lean ====
abbrev S1024x50 : Shape := ⟨2, ![1024, 50]⟩
abbrev S1024x256 : Shape := ⟨2, ![1024, 256]⟩
abbrev S100000x128 : Shape := ⟨2, ![100000, 128]⟩
abbrev S128x1024 : Shape := ⟨2, ![128, 1024]⟩
abbrev S256x1024 : Shape := ⟨2, ![256, 1024]⟩
abbrev S1024 : Shape := ⟨1, ![1024]⟩
abbrev S_ : Shape := ⟨0, ![]⟩

class Facts : Prop where
  bcast_S_S1024x50 : S_.BroadcastsInDim S1024x50 (![] : Fin 0 → Fin S1024x50.rank)

variable [Facts]

def fn {F : FTy → Type} [FloatOps F] (main_arg0 : IVec S1024x50 32) (main_arg1 : FVec F S1024x256 .f32) (main_arg2 : FVec F S100000x128 .f32) (main_arg3 : FVec F S128x1024 .f32) (main_arg4 : FVec F S256x1024 .f32) (main_arg5 : FVec F S1024 .f32) (main_arg6 : FVec F S128x1024 .f32) (main_arg7 : FVec F S256x1024 .f32) (main_arg8 : FVec F S1024 .f32) : IVec S1024x50 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 100000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  main_v4
-- ==== Pre_rows_no_bias.lean ====
abbrev S1024x50 : Shape := ⟨2, ![1024, 50]⟩
abbrev S1024x256 : Shape := ⟨2, ![1024, 256]⟩
abbrev S100000x128 : Shape := ⟨2, ![100000, 128]⟩
abbrev S128x1024 : Shape := ⟨2, ![128, 1024]⟩
abbrev S256x1024 : Shape := ⟨2, ![256, 1024]⟩
abbrev S1024 : Shape := ⟨1, ![1024]⟩
abbrev S_ : Shape := ⟨0, ![]⟩
abbrev S1024x1 : Shape := ⟨2, ![1024, 1]⟩

class Facts : Prop where
  bcast_S_S1024x50 : S_.BroadcastsInDim S1024x50 (![] : Fin 0 → Fin S1024x50.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x50_0_1 : S1024x1.BroadcastsInDim S1024x50 (![0, 1] : Fin 2 → Fin S1024x50.rank)

variable [Facts]

def fn {F : FTy → Type} [FloatOps F] (main_arg0 : IVec S1024x50 32) (main_arg1 : FVec F S1024x256 .f32) (main_arg2 : FVec F S100000x128 .f32) (main_arg3 : FVec F S128x1024 .f32) (main_arg4 : FVec F S256x1024 .f32) (main_arg5 : FVec F S1024 .f32) (main_arg6 : FVec F S128x1024 .f32) (main_arg7 : FVec F S256x1024 .f32) (main_arg8 : FVec F S1024 .f32) : IVec S1024x50 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 100000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_cst : FVec F S_ .f32 := constant S_ .f32 0x00000000#32
  let main_v5 : FVec F S1024 .f32 := broadcastInDim S1024 ![] bcast_S_S1024 main_cst
  let main_v6 : IVec S1024 1 := cmpf .oeq main_arg5 main_v5
  let main_v7 : IVec S1024x1 1 := broadcastInDim S1024x1 ![0] bcast_S1024_S1024x1_0 main_v6
  let main_v8 : IVec S1024x50 1 := broadcastInDim S1024x50 ![0, 1] bcast_S1024x1_S1024x50_0_1 main_v7
  let main_v9 : IVec S1024x50 1 := andi main_v4 main_v8
  let main_cst_1 : FVec F S_ .f32 := constant S_ .f32 0x00000000#32
  let main_v10 : FVec F S1024 .f32 := broadcastInDim S1024 ![] bcast_S_S1024 main_cst_1
  let main_v11 : IVec S1024 1 := cmpf .oeq main_arg8 main_v10
  let main_v12 : IVec S1024x1 1 := broadcastInDim S1024x1 ![0] bcast_S1024_S1024x1_0 main_v11
  let main_v13 : IVec S1024x50 1 := broadcastInDim S1024x50 ![0, 1] bcast_S1024x1_S1024x50_0_1 main_v12
  let main_v14 : IVec S1024x50 1 := andi main_v9 main_v13
  main_v14
-- ==== Kernel.lean ====
abbrev S1024x50 : Shape := ⟨2, ![1024, 50]⟩
abbrev S1024x256 : Shape := ⟨2, ![1024, 256]⟩
abbrev S100000x128 : Shape := ⟨2, ![100000, 128]⟩
abbrev S128x1024 : Shape := ⟨2, ![128, 1024]⟩
abbrev S256x1024 : Shape := ⟨2, ![256, 1024]⟩
abbrev S1024 : Shape := ⟨1, ![1024]⟩
abbrev S50x1024 : Shape := ⟨2, ![50, 1024]⟩
abbrev S51200 : Shape := ⟨1, ![51200]⟩
abbrev S1x51200 : Shape := ⟨2, ![1, 51200]⟩
abbrev S51200x128 : Shape := ⟨2, ![51200, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S256 : Shape := ⟨1, ![256]⟩
abbrev S50x1024x128 : Shape := ⟨3, ![50, 1024, 128]⟩
abbrev S384x1024 : Shape := ⟨2, ![384, 1024]⟩
abbrev S1x384x1024 : Shape := ⟨3, ![1, 384, 1024]⟩
abbrev S2x384x1024 : Shape := ⟨3, ![2, 384, 1024]⟩
abbrev S50x1024x512 : Shape := ⟨3, ![50, 1024, 512]⟩
abbrev S1024x512 : Shape := ⟨2, ![1024, 512]⟩
abbrev S10x1024x128 : Shape := ⟨3, ![10, 1024, 128]⟩
abbrev S10x1024x256 : Shape := ⟨3, ![10, 1024, 256]⟩
abbrev S1x1024x128 : Shape := ⟨3, ![1, 1024, 128]⟩
abbrev S1024x128 : Shape := ⟨2, ![1024, 128]⟩
abbrev S128x256 : Shape := ⟨2, ![128, 256]⟩
abbrev S256x256 : Shape := ⟨2, ![256, 256]⟩
abbrev S1x1024x256 : Shape := ⟨3, ![1, 1024, 256]⟩
abbrev S1024x50x512 : Shape := ⟨3, ![1024, 50, 512]⟩

abbrev nBuf : Table → Nat
  | .hbm => 23
  | .local .tc .vmem => 11
  | .local .scVector .vmem => 2
  | _ => 0

abbrev bufTy : (tb : Table) → Fin (nBuf tb) → BufTy
  | .hbm, ⟨0, _⟩ => ⟨S1024x50, .i32⟩
  | .hbm, ⟨1, _⟩ => ⟨S1024x256, .f32⟩
  | .hbm, ⟨2, _⟩ => ⟨S100000x128, .f32⟩
  | .hbm, ⟨3, _⟩ => ⟨S128x1024, .f32⟩
  | .hbm, ⟨4, _⟩ => ⟨S256x1024, .f32⟩
  | .hbm, ⟨5, _⟩ => ⟨S1024, .f32⟩
  | .hbm, ⟨6, _⟩ => ⟨S128x1024, .f32⟩
  | .hbm, ⟨7, _⟩ => ⟨S256x1024, .f32⟩
  | .hbm, ⟨8, _⟩ => ⟨S1024, .f32⟩
  | .hbm, ⟨9, _⟩ => ⟨S50x1024, .i32⟩
  | .hbm, ⟨10, _⟩ => ⟨S51200, .i32⟩
  | .hbm, ⟨11, _⟩ => ⟨S1x51200, .i32⟩
  | .hbm, ⟨12, _⟩ => ⟨S51200x128, .f32⟩
  | .hbm, ⟨13, _⟩ => ⟨S50x1024x128, .f32⟩
  | .hbm, ⟨14, _⟩ => ⟨S384x1024, .f32⟩
  | .hbm, ⟨15, _⟩ => ⟨S384x1024, .f32⟩
  | .hbm, ⟨16, _⟩ => ⟨S1x384x1024, .f32⟩
  | .hbm, ⟨17, _⟩ => ⟨S1x384x1024, .f32⟩
  | .hbm, ⟨18, _⟩ => ⟨S2x384x1024, .f32⟩
  | .hbm, ⟨19, _⟩ => ⟨S2x384x1024, .bf16⟩
  | .hbm, ⟨20, _⟩ => ⟨S50x1024x512, .f32⟩
  | .hbm, ⟨21, _⟩ => ⟨S1024x512, .f32⟩
  | .hbm, ⟨22, _⟩ => ⟨S1024x50x512, .f32⟩
  | .local .tc .vmem, ⟨0, _⟩ => ⟨S10x1024x128, .f32⟩
  | .local .tc .vmem, ⟨1, _⟩ => ⟨S10x1024x128, .f32⟩
  | .local .tc .vmem, ⟨2, _⟩ => ⟨S1024x256, .f32⟩
  | .local .tc .vmem, ⟨3, _⟩ => ⟨S1x384x1024, .bf16⟩
  | .local .tc .vmem, ⟨4, _⟩ => ⟨S1x384x1024, .bf16⟩
  | .local .tc .vmem, ⟨5, _⟩ => ⟨S10x1024x256, .f32⟩
  | .local .tc .vmem, ⟨6, _⟩ => ⟨S10x1024x256, .f32⟩
  | .local .tc .vmem, ⟨7, _⟩ => ⟨S1024x256, .f32⟩
  | .local .tc .vmem, ⟨8, _⟩ => ⟨S1024x256, .f32⟩
  | .local .tc .vmem, ⟨9, _⟩ => ⟨S1024x256, .bf16⟩
  | .local .tc .vmem, ⟨10, _⟩ => ⟨S1024x256, .f32⟩
  | .local .scVector .vmem, ⟨0, _⟩ => ⟨S2x1x256, .i32⟩
  | .local .scVector .vmem, ⟨1, _⟩ => ⟨S2x256x128, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_arg2_scv : Ref sig .scVector := ⟨.hbm, 2, rfl⟩
abbrev main_v2_scv : Ref sig .scVector := ⟨.hbm, 11, rfl⟩
abbrev main_v3_scv : Ref sig .scVector := ⟨.hbm, 12, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg4_1 : Ref sig .tc := ⟨.vmem, 8, rfl⟩
abbrev cc1_scratch0 : Ref sig .tc := ⟨.vmem, 9, rfl⟩
abbrev cc1_scratch1 : Ref sig .tc := ⟨.vmem, 10, rfl⟩
abbrev cc0_scoped0 : Ref sig .scVector := ⟨.vmem, 0, rfl⟩
abbrev cc0_scoped2 : Ref sig .scVector := ⟨.vmem, 1, rfl⟩
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k0_cond2 (i : grid0.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k0_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k0_off2 (i : grid0.Coords) : Fin 2 → Nat :=
  let c0_i32_59_r0 : BitVec 32 := 0#32
  let c256_i32_r0 : BitVec 32 := 256#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v20_r0 : BitVec 32 := Scalar.addi c0_i32_10_r0 v10
  let v81_r0 : BitVec 32 := Scalar.muli c256_i32_r0 v20_r0
  ![0, v81_r0.toNat]
def k0_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k0_t1_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k0_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off5 (i : grid0.Coords) (arg10_r0 : BitVec 32) : Fin 2 → Nat :=
  let c0_i32_104_r0 : BitVec 32 := 0#32
  let c256_i32_r0 : BitVec 32 := 256#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v93_r0 : BitVec 1 := Scalar.cmpi .eq v92_r0 v5
  let c0_i32_66_r0 : BitVec 32 := 0#32
  let v94_r0 : BitVec 32 := Scalar.select v93_r0 c0_i32_66_r0 v92_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v95_r0 : BitVec 32 := Scalar.addi v94_r0 v10
  let v168_r0 : BitVec 32 := Scalar.muli c256_i32_r0 v95_r0
  ![0, v168_r0.toNat]
def k0_off6 (arg6_r0 : BitVec 32) : Fin 1 → Nat :=
  let c2_i32_101_r0 : BitVec 32 := 2#32
  let v167_r0 : BitVec 32 := Scalar.remui arg6_r0 c2_i32_101_r0
  ![v167_r0.toNat]
def k0_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off8 (i : grid0.Coords) (arg10_r0 : BitVec 32) : Fin 2 → Nat :=
  let c0_i32_104_r0 : BitVec 32 := 0#32
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v167_r0 : BitVec 32 := Scalar.muli c256_i32_r0 v84_r0
  ![0, v167_r0.toNat]
def k0_off9 (arg7_r0 : BitVec 32) : Fin 1 → Nat :=
  let c2_i32_101_r0 : BitVec 32 := 2#32
  let v168_r0 : BitVec 32 := Scalar.remui arg7_r0 c2_i32_101_r0
  ![v168_r0.toNat]
def k0_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k0_chk2 (i : grid0.Coords) (arg8_r0 : BitVec 32) : Prop :=
  (∀ (k0_h1 : k0_cond1 i = 1#1), ∀ a, (k0_off10 arg8_r0) a + S1x256x128.size a ≤ S2x256x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x256x128.size a ≤ S2x256x128.size a := fun i arg8_r0 k0_hw2 k0_h1 => k0_hw2 k0_h1

def k0_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k0_chk3 (i : grid0.Coords) (arg7_r0 : BitVec 32) : Prop :=
  (∀ (k0_h1 : k0_cond1 i = 1#1), ∀ a, (k0_off11 arg7_r0) a + S1x1x256.size a ≤ S2x1x256.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x256.size a ≤ S2x1x256.size a := fun i arg7_r0 k0_hw3 k0_h1 => k0_hw3 k0_h1

def k0_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off13 (i : grid0.Coords) (arg10_r0 : BitVec 32) : Fin 2 → Nat :=
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v168_r0 : BitVec 32 := Scalar.muli c256_i32_r0 v84_r0
  let c0_i32_104_r0 : BitVec 32 := 0#32
  ![v168_r0.toNat, 0]
def k0_off14 (arg8_r0 : BitVec 32) : Fin 1 → Nat :=
  let c2_i32_101_r0 : BitVec 32 := 2#32
  let v167_r0 : BitVec 32 := Scalar.remui arg8_r0 c2_i32_101_r0
  ![v167_r0.toNat]
def k0_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off16 (i : grid0.Coords) (arg10_r0 : BitVec 32) : Fin 2 → Nat :=
  let c256_i32_r0 : BitVec 32 := 256#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let c1_i32_63_r0 : BitVec 32 := 1#32
  let v88_r0 : BitVec 32 := Scalar.subi v5 c1_i32_63_r0
  let v89_r0 : BitVec 32 := Scalar.select v87_r0 v88_r0 v86_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v90_r0 : BitVec 32 := Scalar.addi v89_r0 v10
  let v168_r0 : BitVec 32 := Scalar.muli c256_i32_r0 v90_r0
  let c0_i32_104_r0 : BitVec 32 := 0#32
  ![v168_r0.toNat, 0]
def k0_off17 (arg9_r0 : BitVec 32) : Fin 1 → Nat :=
  let c2_i32_101_r0 : BitVec 32 := 2#32
  let v167_r0 : BitVec 32 := Scalar.remui arg9_r0 c2_i32_101_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x256.size a ≤ S2x1x256.size a) ∧
  (∀ (k0_h1 : k0_cond1 i = 1#1), ∀ (k0_h3 : k0_cond3 i k0_t1 arg10_r0 = 1#1), ∀ a, (k0_off5 i arg10_r0) a + S1x256.size a ≤ S1x51200.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x256.size a ≤ S2x1x256.size a) ∧
  (∀ (k0_h1 : k0_cond1 i = 1#1), ∀ (k0_h4 : k0_cond4 i k0_t1 arg10_r0 = 1#1), ∀ a, (k0_off8 i arg10_r0) a + S1x256.size a ≤ S1x51200.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x256x128.size a ≤ S2x256x128.size a) ∧
  (∀ (k0_h1 : k0_cond1 i = 1#1), ∀ (k0_h7 : k0_cond7 i k0_t1 arg10_r0 = 1#1), ∀ a, (k0_off13 i arg10_r0) a + S256x128.size a ≤ S51200x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x256x128.size a ≤ S2x256x128.size a) ∧
  (∀ (k0_h1 : k0_cond1 i = 1#1), ∀ (k0_h9 : k0_cond9 i k0_t1 arg10_r0 = 1#1), ∀ a, (k0_off16 i arg10_r0) a + S256x128.size a ≤ S51200x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x256.size a ≤ S2x1x256.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x256.size a ≤ S1x51200.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x256.size a ≤ S2x1x256.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x256.size a ≤ S1x51200.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x256x128.size a ≤ S2x256x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S256x128.size a ≤ S51200x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x256x128.size a ≤ S2x256x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S256x128.size a ≤ S51200x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k0_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off19 (i : grid0.Coords) (arg10_r0 : BitVec 32) : Fin 2 → Nat :=
  let c0_i32_104_r0 : BitVec 32 := 0#32
  let c256_i32_r0 : BitVec 32 := 256#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v93_r0 : BitVec 1 := Scalar.cmpi .eq v92_r0 v5
  let c0_i32_66_r0 : BitVec 32 := 0#32
  let v94_r0 : BitVec 32 := Scalar.select v93_r0 c0_i32_66_r0 v92_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v95_r0 : BitVec 32 := Scalar.addi v94_r0 v10
  let v168_r0 : BitVec 32 := Scalar.muli c256_i32_r0 v95_r0
  ![0, v168_r0.toNat]
def k0_off20 (arg6_r0 : BitVec 32) : Fin 1 → Nat :=
  let c2_i32_101_r0 : BitVec 32 := 2#32
  let v167_r0 : BitVec 32 := Scalar.remui arg6_r0 c2_i32_101_r0
  ![v167_r0.toNat]
def k0_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off22 (i : grid0.Coords) (arg10_r0 : BitVec 32) : Fin 2 → Nat :=
  let c0_i32_104_r0 : BitVec 32 := 0#32
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v167_r0 : BitVec 32 := Scalar.muli c256_i32_r0 v84_r0
  ![0, v167_r0.toNat]
def k0_off23 (arg7_r0 : BitVec 32) : Fin 1 → Nat :=
  let c2_i32_101_r0 : BitVec 32 := 2#32
  let v168_r0 : BitVec 32 := Scalar.remui arg7_r0 c2_i32_101_r0
  ![v168_r0.toNat]
def k0_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x256x128.size a ≤ S2x256x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x256x128.size a ≤ S2x256x128.size a := fun i k0_t2 arg8_r0 k0_hw5 k0_h1 => k0_hw5 k0_h1

def k0_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x256.size a ≤ S2x1x256.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x256.size a ≤ S2x1x256.size a := fun i k0_t2 arg7_r0 k0_hw6 k0_h1 => k0_hw6 k0_h1

def k0_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off27 (i : grid0.Coords) (arg10_r0 : BitVec 32) : Fin 2 → Nat :=
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v168_r0 : BitVec 32 := Scalar.muli c256_i32_r0 v84_r0
  let c0_i32_104_r0 : BitVec 32 := 0#32
  ![v168_r0.toNat, 0]
def k0_off28 (arg8_r0 : BitVec 32) : Fin 1 → Nat :=
  let c2_i32_101_r0 : BitVec 32 := 2#32
  let v167_r0 : BitVec 32 := Scalar.remui arg8_r0 c2_i32_101_r0
  ![v167_r0.toNat]
def k0_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off30 (i : grid0.Coords) (arg10_r0 : BitVec 32) : Fin 2 → Nat :=
  let c256_i32_r0 : BitVec 32 := 256#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let c1_i32_63_r0 : BitVec 32 := 1#32
  let v88_r0 : BitVec 32 := Scalar.subi v5 c1_i32_63_r0
  let v89_r0 : BitVec 32 := Scalar.select v87_r0 v88_r0 v86_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v90_r0 : BitVec 32 := Scalar.addi v89_r0 v10
  let v168_r0 : BitVec 32 := Scalar.muli c256_i32_r0 v90_r0
  let c0_i32_104_r0 : BitVec 32 := 0#32
  ![v168_r0.toNat, 0]
def k0_off31 (arg9_r0 : BitVec 32) : Fin 1 → Nat :=
  let c2_i32_101_r0 : BitVec 32 := 2#32
  let v167_r0 : BitVec 32 := Scalar.remui arg9_r0 c2_i32_101_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x256.size a ≤ S2x1x256.size a) ∧
  (∀ (k0_h1 : k0_cond1 i = 1#1), ∀ (k0_h10 : k0_cond10 i k0_t2 arg10_r0 = 1#1), ∀ a, (k0_off19 i arg10_r0) a + S1x256.size a ≤ S1x51200.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x256.size a ≤ S2x1x256.size a) ∧
  (∀ (k0_h1 : k0_cond1 i = 1#1), ∀ (k0_h11 : k0_cond11 i k0_t2 arg10_r0 = 1#1), ∀ a, (k0_off22 i arg10_r0) a + S1x256.size a ≤ S1x51200.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x256x128.size a ≤ S2x256x128.size a) ∧
  (∀ (k0_h1 : k0_cond1 i = 1#1), ∀ (k0_h14 : k0_cond14 i k0_t2 arg10_r0 = 1#1), ∀ a, (k0_off27 i arg10_r0) a + S256x128.size a ≤ S51200x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x256x128.size a ≤ S2x256x128.size a) ∧
  (∀ (k0_h1 : k0_cond1 i = 1#1), ∀ (k0_h16 : k0_cond16 i k0_t2 arg10_r0 = 1#1), ∀ a, (k0_off30 i arg10_r0) a + S256x128.size a ≤ S51200x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x256.size a ≤ S2x1x256.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x256.size a ≤ S1x51200.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x256.size a ≤ S2x1x256.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x256.size a ≤ S1x51200.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x256x128.size a ≤ S2x256x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S256x128.size a ≤ S51200x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x256x128.size a ≤ S2x256x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S256x128.size a ≤ S51200x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k0_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k0_off33 (i : grid0.Coords) (v48_4_r0 : BitVec 32) : Fin 2 → Nat :=
  let c256_i32_r0 : BitVec 32 := 256#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let c1_i32_40_r0 : BitVec 32 := 1#32
  let v52_r0 : BitVec 32 := Scalar.subi v5 c1_i32_40_r0
  let v53_r0 : BitVec 32 := Scalar.select v51_r0 v52_r0 v50_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v59_r0 : BitVec 32 := Scalar.addi v53_r0 v10
  let v81_r0 : BitVec 32 := Scalar.muli c256_i32_r0 v59_r0
  let c0_i32_59_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S256x128.size a ≤ S51200x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S256x128.size a ≤ S51200x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x256x128.size a ≤ S2x256x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x256x128.size a ≤ S2x256x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x256x128.size a ≤ S2x256x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x256x128.size a ≤ S2x256x128.size a := fun i v48_3_r0 k0_hw7 k0_h1 k0_h18 => k0_hw7.2.2 k0_h1 k0_h18

abbrev grid1 : Pipeline.Grid := ⟨2, ![2, 5], ![false, false]⟩

def k1_off1 (i : grid1.Coords) (c0_i32_8 : BitVec 32) (c9_i32 : BitVec 32) : Fin 3 → Nat :=
  let arg0 : BitVec 32 := BitVec.ofNat 32 (i 0).val
  let c0_i32_7 : BitVec 32 := 0#32
  let v7 : BitVec 1 := Scalar.cmpi .eq arg0 c0_i32_7
  let v8 : BitVec 32 := Scalar.select v7 c0_i32_8 c9_i32
  let v9 : Index := Scalar.indexCast v8
  let c0_9 : Index := 0#32
  let c0_10 : Index := 0#32
  ![v9.toNat, 0, 0]
def k1_off1_at (r : Fin 10) : BitVec 32 × BitVec 32 :=
  if r.val < 5 then
    if r.val < 2 then
      if r.val < 1 then
        (0#32, 9#32)
      else
        (1#32, 8#32)
    else
      if r.val < 3 then
        (2#32, 7#32)
      else
        if r.val < 4 then
          (3#32, 6#32)
        else
          (4#32, 5#32)
  else
    if r.val < 7 then
      if r.val < 6 then
        (5#32, 4#32)
      else
        (6#32, 3#32)
    else
      if r.val < 8 then
        (7#32, 2#32)
      else
        if r.val < 9 then
          (8#32, 1#32)
        else
          (9#32, 0#32)
def k1_off2 (i : grid1.Coords) (c0_i32_8 : BitVec 32) (c9_i32 : BitVec 32) : Fin 3 → Nat :=
  let arg0 : BitVec 32 := BitVec.ofNat 32 (i 0).val
  let c0_i32_7 : BitVec 32 := 0#32
  let v7 : BitVec 1 := Scalar.cmpi .eq arg0 c0_i32_7
  let v8 : BitVec 32 := Scalar.select v7 c0_i32_8 c9_i32
  let v68 : Index := Scalar.indexCast v8
  let c0_27 : Index := 0#32
  let c0_28 : Index := 0#32
  ![v68.toNat, 0, 0]
def k1_off2_at (r : Fin 10) : BitVec 32 × BitVec 32 :=
  if r.val < 5 then
    if r.val < 2 then
      if r.val < 1 then
        (0#32, 9#32)
      else
        (1#32, 8#32)
    else
      if r.val < 3 then
        (2#32, 7#32)
      else
        if r.val < 4 then
          (3#32, 6#32)
        else
          (4#32, 5#32)
  else
    if r.val < 7 then
      if r.val < 6 then
        (5#32, 4#32)
      else
        (6#32, 3#32)
    else
      if r.val < 8 then
        (7#32, 2#32)
      else
        if r.val < 9 then
          (8#32, 1#32)
        else
          (9#32, 0#32)
def k1_cond2 (i : grid1.Coords) : BitVec 1 :=
  let arg1 : BitVec 32 := BitVec.ofNat 32 (i 1).val
  let c4_i32_241 : BitVec 32 := 4#32
  let v663 : BitVec 1 := Scalar.cmpi .eq arg1 c4_i32_241
  let v664 : BitVec 32 := Scalar.extui v663
  let c0_i32_242 : BitVec 32 := 0#32
  let v665 : BitVec 1 := Scalar.cmpi .ne v664 c0_i32_242
  v665

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 32 := Scalar.subi c4_i32 arg1
  let v2 : BitVec 32 := Scalar.select v0 arg1 v1
  let c0_i32_0 : BitVec 32 := 0#32
  let c0_i32_1 : BitVec 32 := 0#32
  let c0_i32_2 : BitVec 32 := 0#32
  ![v2.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 32 := Scalar.subi c4_i32 arg1
  let v2 : BitVec 32 := Scalar.select v0 arg1 v1
  let c0_i32_0 : BitVec 32 := 0#32
  let c0_i32_1 : BitVec 32 := 0#32
  ![v2.toNat, c0_i32_0.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S10x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x384x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S10x1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x50 : Shape := ⟨2, ![1024, 50]⟩
abbrev S1024x256 : Shape := ⟨2, ![1024, 256]⟩
abbrev S100000x128 : Shape := ⟨2, ![100000, 128]⟩
abbrev S128x1024 : Shape := ⟨2, ![128, 1024]⟩
abbrev S256x1024 : Shape := ⟨2, ![256, 1024]⟩
abbrev S1024 : Shape := ⟨1, ![1024]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x128 : Shape := ⟨3, ![1024, 50, 128]⟩
abbrev S50x1024x128 : Shape := ⟨3, ![50, 1024, 128]⟩
abbrev S50x1024x256 : Shape := ⟨3, ![50, 1024, 256]⟩
abbrev S1x1024x128 : Shape := ⟨3, ![1, 1024, 128]⟩
abbrev S1024x128 : Shape := ⟨2, ![1024, 128]⟩
abbrev S1024x1024 : Shape := ⟨2, ![1024, 1024]⟩
abbrev S1x1024 : Shape := ⟨2, ![1, 1024]⟩
abbrev S1x1024x256 : Shape := ⟨3, ![1, 1024, 256]⟩
abbrev S50x1024x512 : Shape := ⟨3, ![50, 1024, 512]⟩
abbrev S1024x50x512 : Shape := ⟨3, ![1024, 50, 512]⟩
abbrev S1024x512 : Shape := ⟨2, ![1024, 512]⟩

abbrev nBuf : Space → Nat
  | .hbm => 166
  | .vmem => 0
  | .smem => 0
  | _ => 0

abbrev hbmTy0_0 (i : Nat) : BufTy := match i % 128 with
  | 0 => ⟨S1024x50, .i32⟩
  | 1 => ⟨S1024x256, .f32⟩
  | 2 => ⟨S100000x128, .f32⟩
  | 3 => ⟨S128x1024, .f32⟩
  | 4 => ⟨S256x1024, .f32⟩
  | 5 => ⟨S1024, .f32⟩
  | 6 => ⟨S128x1024, .f32⟩
  | 7 => ⟨S256x1024, .f32⟩
  | 8 => ⟨S1024, .f32⟩
  | 9 => ⟨S_, .i32⟩
  | 10 => ⟨S1024x50, .i32⟩
  | 11 => ⟨S1024x50, .i1⟩
  | 12 => ⟨S_, .i32⟩
  | 13 => ⟨S1024x50, .i32⟩
  | 14 => ⟨S1024x50, .i32⟩
  | 15 => ⟨S1024x50, .i32⟩
  | 16 => ⟨S1024x50x1, .i32⟩
  | 17 => ⟨S1, .i32⟩
  | 18 => ⟨S_, .i32⟩
  | 19 => ⟨S1024x50x1, .i32⟩
  | 20 => ⟨S1024x50x1, .i1⟩
  | 21 => ⟨S1x1x1, .i32⟩
  | 22 => ⟨S1024x50x1, .i32⟩
  | 23 => ⟨S1024x50x1, .i1⟩
  | 24 => ⟨S1024x50x1, .i1⟩
  | 25 => ⟨S_, .i1⟩
  | 26 => ⟨S1024x50, .i1⟩
  | 27 => ⟨S1024x50x128, .f32⟩
  | 28 => ⟨S1024x50x128, .i1⟩
  | 29 => ⟨S_, .f32⟩
  | 30 => ⟨S1024x50x128, .f32⟩
  | 31 => ⟨S1024x50x128, .f32⟩
  | 32 => ⟨S50x1024x128, .f32⟩
  | 33 => ⟨S_, .f32⟩
  | 34 => ⟨S1024x256, .f32⟩
  | 35 => ⟨S_, .f32⟩
  | 36 => ⟨S50x1024x256, .f32⟩
  | 37 => ⟨S_, .i32⟩
  | 38 => ⟨S50x1024x128, .f32⟩
  | 39 => ⟨S128x1024, .f32⟩
  | 40 => ⟨S256x1024, .f32⟩
  | 41 => ⟨S1024, .f32⟩
  | 42 => ⟨S_, .i32⟩
  | 43 => ⟨S1024x256, .f32⟩
  | 44 => ⟨S1024x256, .f32⟩
  | 45 => ⟨S50x1024x256, .f32⟩
  | 46 => ⟨S_, .i32⟩
  | 47 => ⟨S_, .i1⟩
  | 48 => ⟨S_, .i32⟩
  | 49 => ⟨S_, .i32⟩
  | 50 => ⟨S1x1024x128, .f32⟩
  | 51 => ⟨S1024x128, .f32⟩
  | 52 => ⟨S1024x1024, .f32⟩
  | 53 => ⟨S1024x1024, .f32⟩
  | 54 => ⟨S1024x1024, .f32⟩
  | 55 => ⟨S1x1024, .f32⟩
  | 56 => ⟨S1024x1024, .f32⟩
  | 57 => ⟨S1024x1024, .f32⟩
  | 58 => ⟨S1024x256, .f32⟩
  | 59 => ⟨S1024x256, .f32⟩
  | 60 => ⟨S1024x256, .f32⟩
  | 61 => ⟨S1024x256, .f32⟩
  | 62 => ⟨S1024x256, .f32⟩
  | 63 => ⟨S1024x256, .f32⟩
  | 64 => ⟨S_, .f32⟩
  | 65 => ⟨S1024x256, .f32⟩
  | 66 => ⟨S1024x256, .f32⟩
  | 67 => ⟨S_, .f32⟩
  | 68 => ⟨S1024x256, .f32⟩
  | 69 => ⟨S1024x256, .f32⟩
  | 70 => ⟨S1024x256, .f32⟩
  | 71 => ⟨S1024x256, .f32⟩
  | 72 => ⟨S_, .f32⟩
  | 73 => ⟨S1024x256, .f32⟩
  | 74 => ⟨S1024x256, .f32⟩
  | 75 => ⟨S_, .f32⟩
  | 76 => ⟨S1024x256, .f32⟩
  | 77 => ⟨S1024x256, .f32⟩
  | 78 => ⟨S1024x256, .f32⟩
  | 79 => ⟨S1024x256, .f32⟩
  | 80 => ⟨S1024x256, .f32⟩
  | 81 => ⟨S_, .f32⟩
  | 82 => ⟨S1024x256, .f32⟩
  | 83 => ⟨S1024x256, .f32⟩
  | 84 => ⟨S_, .f32⟩
  | 85 => ⟨S1024x256, .f32⟩
  | 86 => ⟨S1024x256, .f32⟩
  | 87 => ⟨S1024x256, .f32⟩
  | 88 => ⟨S1024x256, .f32⟩
  | 89 => ⟨S1024x256, .f32⟩
  | 90 => ⟨S1024x256, .f32⟩
  | 91 => ⟨S1024x256, .f32⟩
  | 92 => ⟨S1x1024x256, .f32⟩
  | 93 => ⟨S_, .i32⟩
  | 94 => ⟨S_, .i32⟩
  | 95 => ⟨S50x1024x256, .f32⟩
  | 96 => ⟨S_, .i32⟩
  | 97 => ⟨S_, .i32⟩
  | 98 => ⟨S50x1024x128, .f32⟩
  | 99 => ⟨S_, .f32⟩
  | 100 => ⟨S50x1024x256, .f32⟩
  | 101 => ⟨S_, .i32⟩
  | 102 => ⟨S50x1024x128, .f32⟩
  | 103 => ⟨S128x1024, .f32⟩
  | 104 => ⟨S256x1024, .f32⟩
  | 105 => ⟨S1024, .f32⟩
  | 106 => ⟨S_, .i32⟩
  | 107 => ⟨S1024x256, .f32⟩
  | 108 => ⟨S1024x256, .f32⟩
  | 109 => ⟨S50x1024x256, .f32⟩
  | 110 => ⟨S_, .i32⟩
  | 111 => ⟨S_, .i1⟩
  | 112 => ⟨S_, .i32⟩
  | 113 => ⟨S_, .i32⟩
  | 114 => ⟨S1x1024x128, .f32⟩
  | 115 => ⟨S1024x128, .f32⟩
  | 116 => ⟨S1024x1024, .f32⟩
  | 117 => ⟨S1024x1024, .f32⟩
  | 118 => ⟨S1024x1024, .f32⟩
  | 119 => ⟨S1x1024, .f32⟩
  | 120 => ⟨S1024x1024, .f32⟩
  | 121 => ⟨S1024x1024, .f32⟩
  | 122 => ⟨S1024x256, .f32⟩
  | 123 => ⟨S1024x256, .f32⟩
  | 124 => ⟨S1024x256, .f32⟩
  | 125 => ⟨S1024x256, .f32⟩
  | 126 => ⟨S1024x256, .f32⟩
  | 127 => ⟨S1024x256, .f32⟩
  | _ => ⟨S1024x50, .i32⟩

abbrev hbmTy0_1 (i : Nat) : BufTy := match i % 128 with
  | 0 => ⟨S_, .f32⟩
  | 1 => ⟨S1024x256, .f32⟩
  | 2 => ⟨S1024x256, .f32⟩
  | 3 => ⟨S_, .f32⟩
  | 4 => ⟨S1024x256, .f32⟩
  | 5 => ⟨S1024x256, .f32⟩
  | 6 => ⟨S1024x256, .f32⟩
  | 7 => ⟨S1024x256, .f32⟩
  | 8 => ⟨S_, .f32⟩
  | 9 => ⟨S1024x256, .f32⟩
  | 10 => ⟨S1024x256, .f32⟩
  | 11 => ⟨S_, .f32⟩
  | 12 => ⟨S1024x256, .f32⟩
  | 13 => ⟨S1024x256, .f32⟩
  | 14 => ⟨S1024x256, .f32⟩
  | 15 => ⟨S1024x256, .f32⟩
  | 16 => ⟨S1024x256, .f32⟩
  | 17 => ⟨S_, .f32⟩
  | 18 => ⟨S1024x256, .f32⟩
  | 19 => ⟨S1024x256, .f32⟩
  | 20 => ⟨S_, .f32⟩
  | 21 => ⟨S1024x256, .f32⟩
  | 22 => ⟨S1024x256, .f32⟩
  | 23 => ⟨S1024x256, .f32⟩
  | 24 => ⟨S1024x256, .f32⟩
  | 25 => ⟨S1024x256, .f32⟩
  | 26 => ⟨S1024x256, .f32⟩
  | 27 => ⟨S1024x256, .f32⟩
  | 28 => ⟨S1x1024x256, .f32⟩
  | 29 => ⟨S_, .i32⟩
  | 30 => ⟨S_, .i32⟩
  | 31 => ⟨S50x1024x256, .f32⟩
  | 32 => ⟨S_, .i32⟩
  | 33 => ⟨S_, .i32⟩
  | 34 => ⟨S50x1024x256, .f32⟩
  | 35 => ⟨S50x1024x512, .f32⟩
  | 36 => ⟨S1024x50x512, .f32⟩
  | 37 => ⟨S1024x512, .f32⟩
  | _ => ⟨S1024x50, .i32⟩

abbrev hbmTy (i : Nat) : BufTy := match i / 128 with
  | 0 => hbmTy0_0 i
  | 1 => hbmTy0_1 i
  | _ => ⟨S1024x50, .i32⟩

abbrev bufTy : (tb : Table) → Fin (tcTables nBuf tb) → BufTy
  | .hbm, ⟨i, _⟩ => hbmTy i
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_cst : Ref sig .tc := ⟨.hbm, 33, rfl⟩
abbrev main_v2 : Ref sig .tc := ⟨.hbm, 34, rfl⟩
abbrev main_cst_0 : Ref sig .tc := ⟨.hbm, 35, rfl⟩
abbrev main_v3 : Ref sig .tc := ⟨.hbm, 36, rfl⟩
abbrev main_c : Ref sig .tc := ⟨.hbm, 37, rfl⟩
abbrev main_v4_0 : Ref sig .tc := ⟨.hbm, 38, rfl⟩
abbrev main_v4_1 : Ref sig .tc := ⟨.hbm, 39, rfl⟩
abbrev main_v4_2 : Ref sig .tc := ⟨.hbm, 40, rfl⟩
abbrev main_v4_3 : Ref sig .tc := ⟨.hbm, 41, rfl⟩
abbrev main_v4_4 : Ref sig .tc := ⟨.hbm, 42, rfl⟩
abbrev main_v4_5 : Ref sig .tc := ⟨.hbm, 43, rfl⟩
abbrev main_v4_6 : Ref sig .tc := ⟨.hbm, 44, rfl⟩
abbrev main_v4_7 : Ref sig .tc := ⟨.hbm, 45, rfl⟩
abbrev main_while0c_c_10 : Ref sig .tc := ⟨.hbm, 46, rfl⟩
abbrev main_while0c_v12 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_v0 : Ref sig .tc := ⟨.hbm, 50, rfl⟩
abbrev main_while0b_v12 : Ref sig .tc := ⟨.hbm, 51, rfl⟩
abbrev main_while0b_v13 : Ref sig .tc := ⟨.hbm, 52, rfl⟩
abbrev main_while0b_v14 : Ref sig .tc := ⟨.hbm, 53, rfl⟩
abbrev main_while0b_v15 : Ref sig .tc := ⟨.hbm, 54, rfl⟩
abbrev main_while0b_v16 : Ref sig .tc := ⟨.hbm, 55, rfl⟩
abbrev main_while0b_v17 : Ref sig .tc := ⟨.hbm, 56, rfl⟩
abbrev main_while0b_v18 : Ref sig .tc := ⟨.hbm, 57, rfl⟩
abbrev main_while0b_v19 : Ref sig .tc := ⟨.hbm, 58, rfl⟩
abbrev main_while0b_v20 : Ref sig .tc := ⟨.hbm, 59, rfl⟩
abbrev main_while0b_v21 : Ref sig .tc := ⟨.hbm, 60, rfl⟩
abbrev main_while0b_v22 : Ref sig .tc := ⟨.hbm, 61, rfl⟩
abbrev main_while0b_v23 : Ref sig .tc := ⟨.hbm, 62, rfl⟩
abbrev main_while0b_v24 : Ref sig .tc := ⟨.hbm, 63, rfl⟩
abbrev main_while0b_cst_10 : Ref sig .tc := ⟨.hbm, 64, rfl⟩
abbrev main_while0b_v25 : Ref sig .tc := ⟨.hbm, 65, rfl⟩
abbrev main_while0b_v26 : Ref sig .tc := ⟨.hbm, 66, rfl⟩
abbrev main_while0b_cst_11 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_cst_12 : Ref sig .tc := ⟨.hbm, 72, rfl⟩
abbrev main_while0b_v31 : Ref sig .tc := ⟨.hbm, 73, rfl⟩
abbrev main_while0b_v32 : Ref sig .tc := ⟨.hbm, 74, rfl⟩
abbrev main_while0b_cst_13 : Ref sig .tc := ⟨.hbm, 75, rfl⟩
abbrev main_while0b_v33 : Ref sig .tc := ⟨.hbm, 76, rfl⟩
abbrev main_while0b_v34 : Ref sig .tc := ⟨.hbm, 77, rfl⟩
abbrev main_while0b_v35 : Ref sig .tc := ⟨.hbm, 78, rfl⟩
abbrev main_while0b_v36 : Ref sig .tc := ⟨.hbm, 79, rfl⟩
abbrev main_while0b_v37 : Ref sig .tc := ⟨.hbm, 80, rfl⟩
abbrev main_while0b_cst_14 : Ref sig .tc := ⟨.hbm, 81, rfl⟩
abbrev main_while0b_v38 : Ref sig .tc := ⟨.hbm, 82, rfl⟩
abbrev main_while0b_v39 : Ref sig .tc := ⟨.hbm, 83, rfl⟩
abbrev main_while0b_cst_15 : Ref sig .tc := ⟨.hbm, 84, rfl⟩
abbrev main_while0b_v40 : Ref sig .tc := ⟨.hbm, 85, rfl⟩
abbrev main_while0b_v41 : Ref sig .tc := ⟨.hbm, 86, rfl⟩
abbrev main_while0b_v42 : Ref sig .tc := ⟨.hbm, 87, rfl⟩
abbrev main_while0b_v43 : Ref sig .tc := ⟨.hbm, 88, rfl⟩
abbrev main_while0b_v44 : Ref sig .tc := ⟨.hbm, 89, rfl⟩
abbrev main_while0b_v45 : Ref sig .tc := ⟨.hbm, 90, rfl⟩
abbrev main_while0b_v46 : Ref sig .tc := ⟨.hbm, 91, rfl⟩
abbrev main_while0b_call2_v0 : Ref sig .tc := ⟨.hbm, 92, rfl⟩
abbrev main_while0b_call2_c : Ref sig .tc := ⟨.hbm, 93, rfl⟩
abbrev main_while0b_call2_c_0 : Ref sig .tc := ⟨.hbm, 94, rfl⟩
abbrev main_while0b_v47 : Ref sig .tc := ⟨.hbm, 95, rfl⟩
abbrev main_while0b_c_16 : Ref sig .tc := ⟨.hbm, 96, rfl⟩
abbrev main_while0b_v48 : Ref sig .tc := ⟨.hbm, 97, rfl⟩
abbrev main_v5 : Ref sig .tc := ⟨.hbm, 98, rfl⟩
abbrev main_cst_1 : Ref sig .tc := ⟨.hbm, 99, rfl⟩
abbrev main_v6 : Ref sig .tc := ⟨.hbm, 100, rfl⟩
abbrev main_c_2 : Ref sig .tc := ⟨.hbm, 101, rfl⟩
abbrev main_v7_0 : Ref sig .tc := ⟨.hbm, 102, rfl⟩
abbrev main_v7_1 : Ref sig .tc := ⟨.hbm, 103, rfl⟩
abbrev main_v7_2 : Ref sig .tc := ⟨.hbm, 104, rfl⟩
abbrev main_v7_3 : Ref sig .tc := ⟨.hbm, 105, rfl⟩
abbrev main_v7_4 : Ref sig .tc := ⟨.hbm, 106, rfl⟩
abbrev main_v7_5 : Ref sig .tc := ⟨.hbm, 107, rfl⟩
abbrev main_v7_6 : Ref sig .tc := ⟨.hbm, 108, rfl⟩
abbrev main_v7_7 : Ref sig .tc := ⟨.hbm, 109, rfl⟩
abbrev main_while1c_c_10 : Ref sig .tc := ⟨.hbm, 110, rfl⟩
abbrev main_while1c_v12 : Ref sig .tc := ⟨.hbm, 111, rfl⟩
abbrev main_while1b_call3_c : Ref sig .tc := ⟨.hbm, 112, rfl⟩
abbrev main_while1b_call3_c_0 : Ref sig .tc := ⟨.hbm, 113, rfl⟩
abbrev main_while1b_call3_v0 : Ref sig .tc := ⟨.hbm, 114, rfl⟩
abbrev main_while1b_v12 : Ref sig .tc := ⟨.hbm, 115, rfl⟩
abbrev main_while1b_v13 : Ref sig .tc := ⟨.hbm, 116, rfl⟩
abbrev main_while1b_v14 : Ref sig .tc := ⟨.hbm, 117, rfl⟩
abbrev main_while1b_v15 : Ref sig .tc := ⟨.hbm, 118, rfl⟩
abbrev main_while1b_v16 : Ref sig .tc := ⟨.hbm, 119, rfl⟩
abbrev main_while1b_v17 : Ref sig .tc := ⟨.hbm, 120, rfl⟩
abbrev main_while1b_v18 : Ref sig .tc := ⟨.hbm, 121, rfl⟩
abbrev main_while1b_v19 : Ref sig .tc := ⟨.hbm, 122, rfl⟩
abbrev main_while1b_v20 : Ref sig .tc := ⟨.hbm, 123, rfl⟩
abbrev main_while1b_v21 : Ref sig .tc := ⟨.hbm, 124, rfl⟩
abbrev main_while1b_v22 : Ref sig .tc := ⟨.hbm, 125, rfl⟩
abbrev main_while1b_v23 : Ref sig .tc := ⟨.hbm, 126, rfl⟩
abbrev main_while1b_v24 : Ref sig .tc := ⟨.hbm, 127, rfl⟩
abbrev main_while1b_cst_10 : Ref sig .tc := ⟨.hbm, 128, rfl⟩
abbrev main_while1b_v25 : Ref sig .tc := ⟨.hbm, 129, rfl⟩
abbrev main_while1b_v26 : Ref sig .tc := ⟨.hbm, 130, rfl⟩
abbrev main_while1b_cst_11 : Ref sig .tc := ⟨.hbm, 131, rfl⟩
abbrev main_while1b_v27 : Ref sig .tc := ⟨.hbm, 132, rfl⟩
abbrev main_while1b_v28 : Ref sig .tc := ⟨.hbm, 133, rfl⟩
abbrev main_while1b_v29 : Ref sig .tc := ⟨.hbm, 134, rfl⟩
abbrev main_while1b_v30 : Ref sig .tc := ⟨.hbm, 135, rfl⟩
abbrev main_while1b_cst_12 : Ref sig .tc := ⟨.hbm, 136, rfl⟩
abbrev main_while1b_v31 : Ref sig .tc := ⟨.hbm, 137, rfl⟩
abbrev main_while1b_v32 : Ref sig .tc := ⟨.hbm, 138, rfl⟩
abbrev main_while1b_cst_13 : Ref sig .tc := ⟨.hbm, 139, rfl⟩
abbrev main_while1b_v33 : Ref sig .tc := ⟨.hbm, 140, rfl⟩
abbrev main_while1b_v34 : Ref sig .tc := ⟨.hbm, 141, rfl⟩
abbrev main_while1b_v35 : Ref sig .tc := ⟨.hbm, 142, rfl⟩
abbrev main_while1b_v36 : Ref sig .tc := ⟨.hbm, 143, rfl⟩
abbrev main_while1b_v37 : Ref sig .tc := ⟨.hbm, 144, rfl⟩
abbrev main_while1b_cst_14 : Ref sig .tc := ⟨.hbm, 145, rfl⟩
abbrev main_while1b_v38 : Ref sig .tc := ⟨.hbm, 146, rfl⟩
abbrev main_while1b_v39 : Ref sig .tc := ⟨.hbm, 147, rfl⟩
abbrev main_while1b_cst_15 : Ref sig .tc := ⟨.hbm, 148, rfl⟩
abbrev main_while1b_v40 : Ref sig .tc := ⟨.hbm, 149, rfl⟩
abbrev main_while1b_v41 : Ref sig .tc := ⟨.hbm, 150, rfl⟩
abbrev main_while1b_v42 : Ref sig .tc := ⟨.hbm, 151, rfl⟩
abbrev main_while1b_v43 : Ref sig .tc := ⟨.hbm, 152, rfl⟩
abbrev main_while1b_v44 : Ref sig .tc := ⟨.hbm, 153, rfl⟩
abbrev main_while1b_v45 : Ref sig .tc := ⟨.hbm, 154, rfl⟩
abbrev main_while1b_v46 : Ref sig .tc := ⟨.hbm, 155, rfl⟩
abbrev main_while1b_call4_v0 : Ref sig .tc := ⟨.hbm, 156, rfl⟩
abbrev main_while1b_call4_c : Ref sig .tc := ⟨.hbm, 157, rfl⟩
abbrev main_while1b_call4_c_0 : Ref sig .tc := ⟨.hbm, 158, rfl⟩
abbrev main_while1b_v47 : Ref sig .tc := ⟨.hbm, 159, rfl⟩
abbrev main_while1b_c_16 : Ref sig .tc := ⟨.hbm, 160, rfl⟩
abbrev main_while1b_v48 : Ref sig .tc := ⟨.hbm, 161, rfl⟩
abbrev main_v8 : Ref sig .tc := ⟨.hbm, 162, rfl⟩
abbrev main_v9 : Ref sig .tc := ⟨.hbm, 163, rfl⟩
abbrev main_v10 : Ref sig .tc := ⟨.hbm, 164, rfl⟩
abbrev main_v11 : Ref sig .tc := ⟨.hbm, 165, rfl⟩

abbrev nD : Nat := 1
abbrev τ : Topo := Topo.v7x

variable {F : FTy → Type} [FloatOps F]

abbrev main_while0_count : Scf.Loop 32 := ⟨0#32, 50#32, 1#32⟩

abbrev main_while1_count : Scf.Loop 32 := ⟨0#32, 50#32, 1#32⟩
-- ==== Proof.Words.lean ====
/-
  The counters of the gather pipeline. Every vector subcore runs the same pipeline on its own run of blocks of 256
  rows: 7 blocks on the first eight subcores and 6 on the others, 200 blocks in all. This module says, once and for
  all, what the words of the program are at step `k` of subcore `i`: how many steps there are, which of the two
  slots a counter names, which block an offset names, and which of the conditions hold. All of it is finite
  arithmetic on 32 subcores and at most 7 steps, and the kernel of the proof checker evaluates it.
-/
module

public import proofs.«01_k».proof.Defs
public import proofs.«01_k».proof.Proof.Gen.KernelIdeal

@[expose] public section

noncomputable section

namespace Cert.Gather

open Cert.KernelIdeal Cert.KernelIdeal.Gen
open Idealize.ShloMosaic

/-- The number of subcore `i` among the 32, -/
def wid (i : grid0.Coords) : ℕ := 16 * (i 0).val + (i 1).val
/-- how many blocks it does, -/
def nb (i : grid0.Coords) : ℕ := if wid i < 8 then 7 else 6
/-- and the first of them. -/
def b0 (i : grid0.Coords) : ℕ := if wid i < 8 then 7 * wid i else 6 * wid i + 8

/-- The words the loop carries before step `k`: the copies in started and waited for, the copies out started and
    waited for, the block's number. -/
def st (i : grid0.Coords) (k : ℕ) : BitVec 32 × BitVec 32 × BitVec 32 × BitVec 32 × BitVec 32 :=
  (BitVec.ofNat 32 (min (k + 1) (nb i)), BitVec.ofNat 32 k, BitVec.ofNat 32 k, BitVec.ofNat 32 (k - 1),
    BitVec.ofNat 32 (if k = nb i then 0 else k))

theorem trips1 : ∀ i : grid0.Coords, (k0_t1_loop i).trips = nb i := by decide +kernel
theorem trips2 : ∀ i : grid0.Coords, (k0_t2_loop i).trips = 0 := by decide +kernel
theorem nb_pos : ∀ i : grid0.Coords, 0 < nb i := by decide +kernel
theorem blocks_le : ∀ i : grid0.Coords, b0 i + nb i ≤ 200 := by decide +kernel
theorem cond1 : ∀ i : grid0.Coords, k0_cond1 i = 1#1 := by decide +kernel
theorem cond2 : ∀ i : grid0.Coords, k0_cond2 i = 1#1 := by decide +kernel
theorem cond18 : ∀ i : grid0.Coords, k0_cond18 i = 1#1 := by decide +kernel

theorem cond3 : ∀ (i : grid0.Coords) (k : Fin (k0_t1_loop i).trips),
    k0_cond3 i k (BitVec.ofNat 32 k.val) = 1#1 ↔ k.val + 1 < nb i := by decide +kernel
theorem cond4 : ∀ (i : grid0.Coords) (k : Fin (k0_t1_loop i).trips), k0_cond4 i k (BitVec.ofNat 32 k.val) = 1#1 := by decide +kernel
theorem cond7 : ∀ (i : grid0.Coords) (k : Fin (k0_t1_loop i).trips), k0_cond7 i k (BitVec.ofNat 32 k.val) = 1#1 := by decide +kernel
theorem cond9 : ∀ (i : grid0.Coords) (k : Fin (k0_t1_loop i).trips),
    k0_cond9 i k (BitVec.ofNat 32 k.val) = 1#1 ↔ 0 < k.val := by decide +kernel

/-! ## The slots and the blocks the offsets name -/

theorem off1 : k0_off1 = ![0, 0, 0] := by decide +kernel
theorem off2 : ∀ i : grid0.Coords, k0_off2 i = ![0, 256 * b0 i] := by decide +kernel
theorem off3 : k0_off3 = ![0] := by decide +kernel

theorem off4 : ∀ k : Fin 8, k0_off4 (BitVec.ofNat 32 k.val) = ![k.val % 2, 0, 0] := by decide +kernel
theorem off6 : ∀ k : Fin 8, k0_off6 (BitVec.ofNat 32 k.val) = ![k.val % 2] := by decide +kernel
theorem off7 : ∀ k : Fin 8, k0_off7 (BitVec.ofNat 32 k.val) = ![k.val % 2, 0, 0] := by decide +kernel
theorem off9 : ∀ k : Fin 8, k0_off9 (BitVec.ofNat 32 k.val) = ![k.val % 2] := by decide +kernel
theorem off10 : ∀ k : Fin 8, k0_off10 (BitVec.ofNat 32 k.val) = ![k.val % 2, 0, 0] := by decide +kernel
theorem off11 : ∀ k : Fin 8, k0_off11 (BitVec.ofNat 32 k.val) = ![k.val % 2, 0, 0] := by decide +kernel
theorem off12 : ∀ k : Fin 8, k0_off12 (BitVec.ofNat 32 k.val) = ![k.val % 2, 0, 0] := by decide +kernel
theorem off14 : ∀ k : Fin 8, k0_off14 (BitVec.ofNat 32 k.val) = ![k.val % 2] := by decide +kernel
theorem off15 : ∀ k : Fin 8, k0_off15 (BitVec.ofNat 32 k.val) = ![k.val % 2, 0, 0] := by decide +kernel
theorem off17 : ∀ k : Fin 8, k0_off17 (BitVec.ofNat 32 k.val) = ![k.val % 2] := by decide +kernel
theorem off32 : ∀ k : Fin 8, k0_off32 (BitVec.ofNat 32 k.val) = ![k.val % 2, 0, 0] := by decide +kernel
theorem off34 : ∀ k : Fin 8, k0_off34 (BitVec.ofNat 32 k.val) = ![k.val % 2] := by decide +kernel
theorem off35 : ∀ k : Fin 8, k0_off35 (BitVec.ofNat 32 k.val) = ![k.val % 2, 0, 0] := by decide +kernel

theorem off5 : ∀ (i : grid0.Coords) (k : Fin (k0_t1_loop i).trips), k.val + 1 < nb i →
    k0_off5 i (BitVec.ofNat 32 k.val) = ![0, 256 * (b0 i + (k.val + 1))] := by decide +kernel
theorem off8 : ∀ (i : grid0.Coords) (k : Fin (k0_t1_loop i).trips),
    k0_off8 i (BitVec.ofNat 32 k.val) = ![0, 256 * (b0 i + k.val)] := by decide +kernel
theorem off13 : ∀ (i : grid0.Coords) (k : Fin (k0_t1_loop i).trips),
    k0_off13 i (BitVec.ofNat 32 k.val) = ![256 * (b0 i + k.val), 0] := by decide +kernel
theorem off16 : ∀ (i : grid0.Coords) (k : Fin (k0_t1_loop i).trips), 0 < k.val →
    k0_off16 i (BitVec.ofNat 32 k.val) = ![256 * (b0 i + (k.val - 1)), 0] := by decide +kernel
theorem off33 : ∀ i : grid0.Coords, k0_off33 i 0#32 = ![256 * (b0 i + (nb i - 1)), 0] := by decide +kernel

/-! ## The checks the program makes of its own words -/

theorem chk1 : ∀ (i : grid0.Coords) (k : Fin (k0_t1_loop i).trips),
    k0_chk1 i k (BitVec.ofNat 32 (min (k.val + 1) (nb i))) (BitVec.ofNat 32 k.val) (BitVec.ofNat 32 k.val)
      (BitVec.ofNat 32 (k.val - 1)) (BitVec.ofNat 32 k.val) := by decide +kernel
theorem chk2 : ∀ (i : grid0.Coords) (k : Fin (k0_t1_loop i).trips), k0_chk2 i (BitVec.ofNat 32 k.val) := by decide +kernel
theorem chk3 : ∀ (i : grid0.Coords) (k : Fin (k0_t1_loop i).trips), k0_chk3 i (BitVec.ofNat 32 k.val) := by decide +kernel
theorem chk7 : ∀ i : grid0.Coords, k0_chk7 i (BitVec.ofNat 32 (nb i - 1)) := by decide +kernel
theorem chk8 : ∀ i : grid0.Coords, k0_chk8 i 0#32 := by decide +kernel

/-! ## The words the loop carries on -/

/-- How many blocks the subcore does and where they begin, as the program's words. -/
def w5 (i : grid0.Coords) : BitVec 32 :=
  Scalar.select (Scalar.cmpi .slt (Scalar.addi (Scalar.addi 0#32 (Scalar.muli (BitVec.ofNat 32 (i 1).val) 1#32)) (Scalar.muli (BitVec.ofNat 32 (i 0).val) 16#32)) 8#32) 7#32 6#32
def w10 (i : grid0.Coords) : BitVec 32 :=
  Scalar.select (Scalar.cmpi .slt (Scalar.addi (Scalar.addi 0#32 (Scalar.muli (BitVec.ofNat 32 (i 1).val) 1#32)) (Scalar.muli (BitVec.ofNat 32 (i 0).val) 16#32)) 8#32)
    (Scalar.muli (Scalar.addi (Scalar.addi 0#32 (Scalar.muli (BitVec.ofNat 32 (i 1).val) 1#32)) (Scalar.muli (BitVec.ofNat 32 (i 0).val) 16#32)) (w5 i))
    (Scalar.addi (Scalar.muli (Scalar.addi (Scalar.addi 0#32 (Scalar.muli (BitVec.ofNat 32 (i 1).val) 1#32)) (Scalar.muli (BitVec.ofNat 32 (i 0).val) 16#32)) 6#32) 8#32)

/-- The number of the block step `k` starts on next, and of the one before. -/
def nextW (i : grid0.Coords) (k : BitVec 32) : BitVec 32 :=
  Scalar.addi (Scalar.select (Scalar.cmpi .eq (Scalar.select 1#1 (Scalar.addi k 1#32) k) (w5 i)) 0#32 (Scalar.select 1#1 (Scalar.addi k 1#32) k)) (w10 i)
def prevW (i : grid0.Coords) (k : BitVec 32) : BitVec 32 :=
  Scalar.addi (Scalar.select (Scalar.cmpi .eq (Scalar.select 1#1 (Scalar.subi k 1#32) k) 4294967295#32) (Scalar.subi (w5 i) 1#32) (Scalar.select 1#1 (Scalar.subi k 1#32) k)) (w10 i)

/-- What one trip yields from the words it was given. -/
def yieldW (i : grid0.Coords) (t : BitVec 32) (a : BitVec 32 × BitVec 32 × BitVec 32 × BitVec 32 × BitVec 32) :
    BitVec 32 × BitVec 32 × BitVec 32 × BitVec 32 × BitVec 32 :=
  let here := Scalar.addi a.2.2.2.2 (w10 i)
  let last := Scalar.cmpi .eq t (Scalar.subi (Scalar.muli 1#32 (w5 i)) 1#32)
  let moves := Scalar.cmpi .ne here (nextW i a.2.2.2.2)
  (Scalar.select (Scalar.andi (Scalar.andi moves (Scalar.xori (Scalar.cmpi .sge t (Scalar.addi (Scalar.subi (Scalar.muli 1#32 (w5 i)) 2#32) 1#32)) 1#1)) 1#1) (Scalar.addi a.1 1#32) a.1,
    Scalar.select (Scalar.ori moves last) (Scalar.addi a.2.1 1#32) a.2.1,
    Scalar.select (Scalar.andi (Scalar.ori moves last) 1#1) (Scalar.addi a.2.2.1 1#32) a.2.2.1,
    Scalar.select (Scalar.andi (Scalar.andi (Scalar.cmpi .ne here (prevW i a.2.2.2.2)) (Scalar.xori (Scalar.cmpi .eq t 0#32) 1#1)) 1#1) (Scalar.addi a.2.2.2.1 1#32) a.2.2.2.1,
    Scalar.select (Scalar.cmpi .eq (Scalar.select 1#1 (Scalar.addi a.2.2.2.2 1#32) a.2.2.2.2) (w5 i)) 0#32 (Scalar.select 1#1 (Scalar.addi a.2.2.2.2 1#32) a.2.2.2.2))

theorem yield_st : ∀ (i : grid0.Coords) (k : Fin (k0_t1_loop i).trips),
    yieldW i (Scf.iv 0#32 1#32 k) (st i k.val) = st i (k.val + 1) := by decide +kernel

theorem st_first : ∀ i : grid0.Coords,
    (Scalar.select (Scalar.andi 1#1 (Scalar.cmpi .sgt (Scalar.muli 1#32 (w5 i)) 0#32)) (Scalar.addi 0#32 1#32) 0#32, 0#32, 0#32, 0#32, 0#32) = st i 0 := by decide +kernel

end Cert.Gather

end
-- ==== Proof.Blocks.lean ====
/-
  Where the copies of the gather pipeline read and write, as sets of indices and as values. A subcore holds two slots
  of 256 row numbers and two slots of 256 rows. The memrefs below are the program's own, at an offset of any spelling;
  the lemmas say, for an offset that names slot `s` or block `b`, which indices the memref covers and where in its
  buffer each of its elements lies. The values: block `b` of the list of row numbers, the rows of the table the block
  names, and the whole gathered array.
-/
module

public import proofs.«01_k».proof.Defs
public import proofs.«01_k».proof.Proof.Words
public import proofs.«01_k».proof.Proof.Gen.KernelIdeal
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pointwise.Index

@[expose] public section

noncomputable section

namespace Cert.Gather

open Cert.KernelIdeal Cert.KernelIdeal.Gen
open Idealize.ShloMosaic

variable {F : FTy → Type}

/-! ## The memrefs of the program -/

abbrev tabV : Memref sig .scVector .hbm S100000x128 .f32 := Memref.whole main_arg2_scv
abbrev idxV : Memref sig .scVector .hbm S1x51200 .i32 := Memref.whole main_v2_scv
abbrev outV : Memref sig .scVector .hbm S51200x128 .f32 := Memref.whole main_v3_scv
abbrev lstV : Memref sig .scVector .vmem S2x1x256 .i32 := Memref.whole cc0_scoped0
abbrev rowV : Memref sig .scVector .vmem S2x256x128 .f32 := Memref.whole cc0_scoped2

/-- A slot of row numbers, -/
abbrev inSlot (off : Fin 3 → ℕ) (h : ∀ a, off a + S1x1x256.size a ≤ S2x1x256.size a) : Memref sig .scVector .vmem S1x256 .i32 :=
  (lstV.slice (Rect.unit (s := S2x1x256) off S1x1x256.size h) (fun _ => rfl)).squeeze S1x256 squeezes_S1x1x256_S1x256
/-- the same slot as the list the gather reads, -/
abbrev lstSlot (off : Fin 3 → ℕ) (h : ∀ a, off a + S1x1x256.size a ≤ S2x1x256.size a) : Memref sig .scVector .vmem S256 .i32 :=
  ((inSlot off h).slice (Rect.unit (s := S1x256) ![0, 0] S1x256.size inb_S1x256_S1x256_0_0) (fun _ => rfl)).squeeze S256 squeezes_S1x256_S256
/-- a slot of rows, -/
abbrev rowSlot (off : Fin 3 → ℕ) (h : ∀ a, off a + S1x256x128.size a ≤ S2x256x128.size a) : Memref sig .scVector .vmem S256x128 .f32 :=
  (rowV.slice (Rect.unit (s := S2x256x128) off S1x256x128.size h) (fun _ => rfl)).squeeze S256x128 squeezes_S1x256x128_S256x128
/-- a block of the list, -/
abbrev idxBlk (off : Fin 2 → ℕ) (h : ∀ a, off a + S1x256.size a ≤ S1x51200.size a) : Memref sig .scVector .hbm S1x256 .i32 :=
  idxV.slice (Rect.unit (s := S1x51200) off S1x256.size h) (fun _ => rfl)
/-- a block of the gathered array, -/
abbrev outBlk (off : Fin 2 → ℕ) (h : ∀ a, off a + S256x128.size a ≤ S51200x128.size a) : Memref sig .scVector .hbm S256x128 .f32 :=
  outV.slice (Rect.unit (s := S51200x128) off S256x128.size h) (fun _ => rfl)
/-- and the whole table, as the gather addresses it. -/
abbrev tabAll : Memref sig .scVector .hbm S100000x128 .f32 :=
  tabV.slice (Rect.unit (s := S100000x128) ![0, 0] S100000x128.size inb_S100000x128_S100000x128_0_0) (fun _ => rfl)

/-- The semaphore of a slot, in and out. -/
abbrev inSem (off : Fin 1 → ℕ) (h : ∀ a, off a + S1.size a ≤ S2.size a) : DmaSem sig :=
  ((cc0_scoped1.slice (Rect.unit (s := S2) off S1.size h)).squeeze S_ squeezes_S1_S_).sem
abbrev outSem (off : Fin 1 → ℕ) (h : ∀ a, off a + S1.size a ≤ S2.size a) : DmaSem sig :=
  ((cc0_scoped3.slice (Rect.unit (s := S2) off S1.size h)).squeeze S_ squeezes_S1_S_).sem
/-- The same two semaphores by number, and the gather's. -/
abbrev inS (s : Fin 2) : DmaSem sig := ⟨s.val, by have := s.isLt; show s.val < 15; omega⟩
abbrev outS (s : Fin 2) : DmaSem sig := ⟨2 + s.val, by have := s.isLt; show 2 + s.val < 15; omega⟩

theorem inSem_eq (s : Fin 2) {off : Fin 1 → ℕ} (h : ∀ a, off a + S1.size a ≤ S2.size a) (e : off = ![s.val]) : inSem off h = inS s := by
  subst e; revert h; revert s; decide
theorem outSem_eq (s : Fin 2) {off : Fin 1 → ℕ} (h : ∀ a, off a + S1.size a ≤ S2.size a) (e : off = ![s.val]) : outSem off h = outS s := by
  subst e; revert h; revert s; decide

/-! ## The sets they cover -/

def lstSet (s : Fin 2) : Finset S2x1x256.Idx := Finset.univ.filter fun j => (j 0).val = s.val
def rowSet (s : Fin 2) : Finset S2x256x128.Idx := Finset.univ.filter fun j => (j 0).val = s.val
def idxSet (b : ℕ) : Finset S1x51200.Idx := Finset.univ.filter fun j => 256 * b ≤ (j 1).val ∧ (j 1).val < 256 * b + 256
def outSet (b : ℕ) : Finset S51200x128.Idx := Finset.univ.filter fun j => 256 * b ≤ (j 0).val ∧ (j 0).val < 256 * b + 256

theorem set_inSlot (s : Fin 2) {off : Fin 3 → ℕ} (h : ∀ a, off a + S1x1x256.size a ≤ S2x1x256.size a) (e : off = ![s.val, 0, 0]) :
    (inSlot off h).view.set = lstSet s := by
  subst e
  show (((View.whole cc0_scoped0).slice (Rect.unit (s := S2x1x256) _ S1x1x256.size h)).reshape S1x256 squeezes_S1x1x256_S1x256.numel_eq).set = _
  rw [View.set_reshape, View.set_slice_whole]
  ext j
  rw [Rect.mem_set_unit, lstSet, Finset.mem_filter]
  have h1 : (j 1).val < 1 := (j 1).isLt
  have h2 : (j 2).val < 256 := (j 2).isLt
  constructor
  · intro hj
    have := hj 0
    refine ⟨Finset.mem_univ _, ?_⟩
    have e0 : (![s.val, 0, 0] : Fin 3 → ℕ) 0 = s.val := rfl
    have e1 : S1x1x256.size 0 = 1 := rfl
    omega
  · rintro ⟨-, hj⟩ a
    match a with
    | 0 => show s.val ≤ (j 0).val ∧ (j 0).val < s.val + 1; omega
    | 1 => show 0 ≤ (j 1).val ∧ (j 1).val < 0 + 1; omega
    | 2 => show 0 ≤ (j 2).val ∧ (j 2).val < 0 + 256; omega

theorem set_lstSlot (s : Fin 2) {off : Fin 3 → ℕ} (h : ∀ a, off a + S1x1x256.size a ≤ S2x1x256.size a) (e : off = ![s.val, 0, 0]) :
    (lstSlot off h).view.set = lstSet s := by
  rw [← set_inSlot s h e]
  show (((inSlot off h).view.slice (Rect.unit (s := S1x256) ![0, 0] S1x256.size inb_S1x256_S1x256_0_0)).reshape S256 squeezes_S1x256_S256.numel_eq).set = _
  rw [View.set_reshape, View.set_slice, View.set]
  congr 1

theorem set_rowSlot (s : Fin 2) {off : Fin 3 → ℕ} (h : ∀ a, off a + S1x256x128.size a ≤ S2x256x128.size a) (e : off = ![s.val, 0, 0]) :
    (rowSlot off h).view.set = rowSet s := by
  subst e
  show (((View.whole cc0_scoped2).slice (Rect.unit (s := S2x256x128) _ S1x256x128.size h)).reshape S256x128 squeezes_S1x256x128_S256x128.numel_eq).set = _
  rw [View.set_reshape, View.set_slice_whole]
  ext j
  rw [Rect.mem_set_unit, rowSet, Finset.mem_filter]
  have h1 : (j 1).val < 256 := (j 1).isLt
  have h2 : (j 2).val < 128 := (j 2).isLt
  constructor
  · intro hj
    have := hj 0
    refine ⟨Finset.mem_univ _, ?_⟩
    have e0 : (![s.val, 0, 0] : Fin 3 → ℕ) 0 = s.val := rfl
    have e1 : S1x256x128.size 0 = 1 := rfl
    omega
  · rintro ⟨-, hj⟩ a
    match a with
    | 0 => show s.val ≤ (j 0).val ∧ (j 0).val < s.val + 1; omega
    | 1 => show 0 ≤ (j 1).val ∧ (j 1).val < 0 + 256; omega
    | 2 => show 0 ≤ (j 2).val ∧ (j 2).val < 0 + 128; omega

theorem set_idxBlk (b : ℕ) {off : Fin 2 → ℕ} (h : ∀ a, off a + S1x256.size a ≤ S1x51200.size a) (e : off = ![0, 256 * b]) :
    (idxBlk off h).view.set = idxSet b := by
  subst e
  show ((View.whole main_v2_scv).slice (Rect.unit (s := S1x51200) _ S1x256.size h)).set = _
  rw [View.set_slice_whole]
  ext j
  rw [Rect.mem_set_unit, idxSet, Finset.mem_filter]
  have h0 : (j 0).val < 1 := (j 0).isLt
  constructor
  · intro hj; exact ⟨Finset.mem_univ _, hj 1⟩
  · rintro ⟨-, hj⟩ a
    match a with
    | 0 => show 0 ≤ (j 0).val ∧ (j 0).val < 0 + 1; omega
    | 1 => exact hj

theorem set_outBlk (b : ℕ) {off : Fin 2 → ℕ} (h : ∀ a, off a + S256x128.size a ≤ S51200x128.size a) (e : off = ![256 * b, 0]) :
    (outBlk off h).view.set = outSet b := by
  subst e
  show ((View.whole main_v3_scv).slice (Rect.unit (s := S51200x128) _ S256x128.size h)).set = _
  rw [View.set_slice_whole]
  ext j
  rw [Rect.mem_set_unit, outSet, Finset.mem_filter]
  have h1 : (j 1).val < 128 := (j 1).isLt
  constructor
  · intro hj; exact ⟨Finset.mem_univ _, hj 0⟩
  · rintro ⟨-, hj⟩ a
    match a with
    | 0 => exact hj
    | 1 => show 0 ≤ (j 1).val ∧ (j 1).val < 0 + 128; omega

theorem set_tabAll : tabAll.view.set = Finset.univ := by
  show ((View.whole main_arg2_scv).slice (Rect.unit (s := S100000x128) ![0, 0] S100000x128.size inb_S100000x128_S100000x128_0_0)).set = _
  rw [View.set_slice_whole]
  ext j
  rw [Rect.mem_set_unit]
  simp only [Finset.mem_univ, iff_true]
  intro a
  match a with
  | 0 => exact ⟨Nat.zero_le _, by show (j 0).val < 0 + 100000; have : (j 0).val < 100000 := (j 0).isLt; omega⟩
  | 1 => exact ⟨Nat.zero_le _, by show (j 1).val < 0 + 128; have : (j 1).val < 128 := (j 1).isLt; omega⟩

/-! ## Where an element lies -/

theorem emb_inSlot (s : Fin 2) {off : Fin 3 → ℕ} (h : ∀ a, off a + S1x1x256.size a ≤ S2x1x256.size a) (e : off = ![s.val, 0, 0]) (x : S1x256.Idx) :
    (inSlot off h).view.emb x = ix3 s 0 (x 1) := by
  subst e
  have hr : Shape.reshapeEquiv squeezes_S1x1x256_S1x256.numel_eq x = (ix3 0 0 (x 1) : S1x1x256.Idx) := by
    refine Shape.reshapeEquiv_eq_of_rowMajor _ ?_
    rw [Shape.rowMajor_val_three, Shape.rowMajor_val_two]
    have : (x 0).val < 1 := (x 0).isLt
    show ((0 * 1 + 0) * 256 + (x 1).val) = (x 0).val * 256 + (x 1).val
    omega
  show (Rect.unit (s := S2x1x256) _ S1x1x256.size h).emb (Shape.reshapeEquiv squeezes_S1x1x256_S1x256.numel_eq x) = _
  rw [hr]
  funext a
  apply Fin.ext
  match a with
  | 0 => show s.val + 1 * 0 = s.val; omega
  | 1 => show 0 + 1 * 0 = 0; omega
  | 2 => show 0 + 1 * (x 1).val = (x 1).val; omega

theorem emb_lstSlot (s : Fin 2) {off : Fin 3 → ℕ} (h : ∀ a, off a + S1x1x256.size a ≤ S2x1x256.size a) (e : off = ![s.val, 0, 0]) (x : S256.Idx) :
    (lstSlot off h).view.emb x = ix3 s 0 (x 0) := by
  have hr : Shape.reshapeEquiv squeezes_S1x256_S256.numel_eq x = (ix2 0 (x 0) : S1x256.Idx) := by
    refine Shape.reshapeEquiv_eq_of_rowMajor _ ?_
    rw [Shape.rowMajor_val_two, Shape.rowMajor_val_one]
    show 0 * 256 + (x 0).val = (x 0).val
    omega
  show (inSlot off h).view.emb ((Rect.unit (s := S1x256) ![0, 0] S1x256.size inb_S1x256_S1x256_0_0).emb (Shape.reshapeEquiv squeezes_S1x256_S256.numel_eq x)) = _
  rw [hr, emb_inSlot s h e]
  funext a
  apply Fin.ext
  match a with
  | 0 => rfl
  | 1 => rfl
  | 2 => show 0 + 1 * (x 0).val = (x 0).val; omega

theorem emb_rowSlot (s : Fin 2) {off : Fin 3 → ℕ} (h : ∀ a, off a + S1x256x128.size a ≤ S2x256x128.size a) (e : off = ![s.val, 0, 0]) (x : S256x128.Idx) :
    (rowSlot off h).view.emb x = ix3 s (x 0) (x 1) := by
  subst e
  have hr : Shape.reshapeEquiv squeezes_S1x256x128_S256x128.numel_eq x = (ix3 0 (x 0) (x 1) : S1x256x128.Idx) := by
    refine Shape.reshapeEquiv_eq_of_rowMajor _ ?_
    rw [Shape.rowMajor_val_three, Shape.rowMajor_val_two]
    show ((0 * 256 + (x 0).val) * 128 + (x 1).val) = (x 0).val * 128 + (x 1).val
    omega
  show (Rect.unit (s := S2x256x128) _ S1x256x128.size h).emb (Shape.reshapeEquiv squeezes_S1x256x128_S256x128.numel_eq x) = _
  rw [hr]
  funext a
  apply Fin.ext
  match a with
  | 0 => show s.val + 1 * 0 = s.val; omega
  | 1 => show 0 + 1 * (x 0).val = (x 0).val; omega
  | 2 => show 0 + 1 * (x 1).val = (x 1).val; omega

theorem emb_idxBlk (b : ℕ) {off : Fin 2 → ℕ} (h : ∀ a, off a + S1x256.size a ≤ S1x51200.size a) (e : off = ![0, 256 * b]) (x : S1x256.Idx) :
    ((idxBlk off h).view.emb x 1).val = 256 * b + (x 1).val := by
  subst e
  show 256 * b + 1 * (x 1).val = _
  omega

theorem emb_outBlk (b : ℕ) {off : Fin 2 → ℕ} (h : ∀ a, off a + S256x128.size a ≤ S51200x128.size a) (e : off = ![256 * b, 0]) (x : S256x128.Idx) :
    ((outBlk off h).view.emb x 0).val = 256 * b + (x 0).val ∧ ((outBlk off h).view.emb x 1) = x 1 := by
  subst e
  refine ⟨?_, Fin.ext ?_⟩
  · show 256 * b + 1 * (x 0).val = _; omega
  · show 0 + 1 * (x 1).val = _; omega

theorem emb_tabAll (x : S100000x128.Idx) : tabAll.view.emb x = x := by
  funext a
  apply Fin.ext
  match a with
  | 0 => show 0 + 1 * (x 0).val = _; omega
  | 1 => show 0 + 1 * (x 1).val = _; omega

/-! ## The values -/

/-- The row of the table a word names. -/
def rowOf (w : BitVec 32) : Fin 100000 := ⟨w.toNat % 100000, Nat.mod_lt _ (by norm_num)⟩
/-- Place `n` of the list. -/
def place (n : ℕ) : S1x51200.Idx := ix2 0 ⟨n % 51200, Nat.mod_lt _ (by norm_num)⟩

/-- Block `b` of the list, as it lies in a slot; -/
def lstOf (X : S1x51200.Idx → BitVec 32) (b : ℕ) : S2x1x256.Idx → BitVec 32 := fun j => X (place (256 * b + (j 2).val))
/-- the rows it names, as they lie in a slot; -/
def rowsOf (T : S100000x128.Idx → F .f32) (X : S1x51200.Idx → BitVec 32) (b : ℕ) : S2x256x128.Idx → F .f32 :=
  fun j => T (ix2 (rowOf (X (place (256 * b + (j 1).val)))) (j 2))
/-- and the gathered array: row `n` is the row of the table that place `n` of the list names. -/
def gathered (T : S100000x128.Idx → F .f32) (X : S1x51200.Idx → BitVec 32) : S51200x128.Idx → F .f32 :=
  fun j => T (ix2 (rowOf (X (place (j 0).val))) (j 1))

/-- The copy in writes block `b` into its slot. -/
theorem write_inSlot (X : S1x51200.Idx → BitVec 32) (s : Fin 2) (b : ℕ) {off : Fin 3 → ℕ} {off' : Fin 2 → ℕ}
    (h : ∀ a, off a + S1x1x256.size a ≤ S2x1x256.size a) (h' : ∀ a, off' a + S1x256.size a ≤ S1x51200.size a)
    (e : off = ![s.val, 0, 0]) (e' : off' = ![0, 256 * b]) (f : S2x1x256.Idx → BitVec 32) :
    ∀ j ∈ lstSet s, (inSlot off h).view.write (Elt F) f ((idxBlk off' h').view.read (Elt F) X) Finset.univ j = lstOf X b j := by
  intro j hj
  rw [← set_inSlot s h e, View.set, Finset.mem_map] at hj
  obtain ⟨x, -, rfl⟩ := hj
  refine (View.write_emb_of_mem _ _ (Finset.mem_univ x)).trans ?_
  refine (cast_eq _ _).trans ((View.read_apply (Val := Elt F) _ _).trans ((cast_eq _ _).trans ?_))
  unfold lstOf
  rw [emb_inSlot s h e]
  refine congrArg X (funext fun a => Fin.ext ?_)
  have hb : 256 * b + 256 ≤ 51200 := by have := h' 1; rw [e'] at this; exact this
  have hx : (x 1).val < 256 := (x 1).isLt
  match a with
  | 0 => have : (((idxBlk off' h').view.emb x) 0).val < 1 := (((idxBlk off' h').view.emb x) 0).isLt
         show _ = 0; exact Nat.lt_one_iff.mp this
  | 1 => refine (emb_idxBlk b h' e' x).trans ?_
         show _ = (256 * b + (x 1).val) % 51200
         rw [Nat.mod_eq_of_lt (by omega)]

/-- The list the gather reads in a slot holding block `b`. -/
theorem read_lstSlot (X : S1x51200.Idx → BitVec 32) (s : Fin 2) (b : ℕ) {off : Fin 3 → ℕ}
    (h : ∀ a, off a + S1x1x256.size a ≤ S2x1x256.size a) (e : off = ![s.val, 0, 0]) (x : S256.Idx) :
    (lstSlot off h).view.read (Elt F) (lstOf X b) x = X (place (256 * b + (x 0).val)) := by
  refine (View.read_apply (Val := Elt F) _ _).trans ((cast_eq _ _).trans ?_)
  unfold lstOf
  rw [emb_lstSlot s h e]
  rfl

/-- The copy out writes block `b` of the gathered array. -/
theorem write_outBlk (T : S100000x128.Idx → F .f32) (X : S1x51200.Idx → BitVec 32) (s : Fin 2) (b : ℕ) {off : Fin 3 → ℕ} {off' : Fin 2 → ℕ}
    (h : ∀ a, off a + S1x256x128.size a ≤ S2x256x128.size a) (h' : ∀ a, off' a + S256x128.size a ≤ S51200x128.size a)
    (e : off = ![s.val, 0, 0]) (e' : off' = ![256 * b, 0]) (f : S51200x128.Idx → F .f32) :
    ∀ j ∈ outSet b, (outBlk off' h').view.write (Elt F) f ((rowSlot off h).view.read (Elt F) (rowsOf T X b)) Finset.univ j = gathered T X j := by
  intro j hj
  rw [← set_outBlk b h' e', View.set, Finset.mem_map] at hj
  obtain ⟨x, -, rfl⟩ := hj
  refine (View.write_emb_of_mem _ _ (Finset.mem_univ x)).trans ?_
  refine (cast_eq _ _).trans ((View.read_apply (Val := Elt F) _ _).trans ((cast_eq _ _).trans ?_))
  unfold rowsOf gathered
  rw [emb_rowSlot s h e, (emb_outBlk b h' e' x).1, (emb_outBlk b h' e' x).2]
  rfl

/-- The gather writes into its slot the rows block `b` names. -/
theorem write_rowSlot (T : S100000x128.Idx → F .f32) (X : S1x51200.Idx → BitVec 32) (s : Fin 2) (b : ℕ) {off off' : Fin 3 → ℕ}
    (h : ∀ a, off a + S1x256x128.size a ≤ S2x256x128.size a) (h' : ∀ a, off' a + S1x1x256.size a ≤ S2x1x256.size a)
    (e : off = ![s.val, 0, 0]) (e' : off' = ![s.val, 0, 0]) (f : S2x256x128.Idx → F .f32)
    (hn : S256.numel = S256x128.size gathers_S100000x128_S256x128.axis')
    (hin : ∀ x, ((lstSlot off' h').view.read (Elt F) (lstOf X b) x).toNat < S100000x128.size gathers_S100000x128_S256x128.axis) :
    ∀ j ∈ rowSet s, (rowSlot off h).view.write (Elt F) f
        (SparseCore.gatherPayload gathers_S100000x128_S256x128 (tabAll.view.read (Elt F) T)
          (SparseCore.rows ((lstSlot off' h').view.read (Elt F) (lstOf X b)) hn hin)) Finset.univ j = rowsOf T X b j := by
  intro j hj
  rw [← set_rowSlot s h e, View.set, Finset.mem_map] at hj
  obtain ⟨x, -, rfl⟩ := hj
  refine (View.write_emb_of_mem _ _ (Finset.mem_univ x)).trans ?_
  refine (cast_eq _ _).trans ?_
  unfold SparseCore.gatherPayload
  refine (View.read_apply (Val := Elt F) _ _).trans ((cast_eq _ _).trans ?_)
  unfold rowsOf
  rw [emb_rowSlot s h e, emb_tabAll]
  refine congrArg T (funext fun a => ?_)
  match a with
  | 0 =>
    refine (Shape.Gathers.idx_axis gathers_S100000x128_S256x128 _ x).trans (Fin.ext ?_)
    show ((lstSlot off' h').view.read (Elt F) (lstOf X b) (S256.rowMajor.symm _)).toNat = (X (place (256 * b + (x 0).val))).toNat % 100000
    have hx : ((S256.rowMajor.symm ((x 0).cast hn.symm)) 0).val = (x 0).val := by
      have := Shape.rowMajor_val_one (S256.rowMajor.symm ((x 0).cast hn.symm))
      rw [← this, Equiv.apply_symm_apply]; rfl
    have hr := read_lstSlot (F := F) X s b h' e' (S256.rowMajor.symm ((x 0).cast hn.symm))
    rw [hx] at hr
    have hl := hin (S256.rowMajor.symm ((x 0).cast hn.symm))
    rw [hr] at hl
    exact (congrArg BitVec.toNat hr).trans (Nat.mod_eq_of_lt hl).symm
  | 1 => exact Fin.ext (by rfl)

end Cert.Gather

end
-- ==== Proof.Setup.lean ====
/-
  The program as the launch theorem sees it, the resource algebra of the whole proof (the launch handshakes' rounds, the
  TensorCore pipeline's rounds, the copies' counters), and the gather's buffers and semaphores on one vector subcore.
-/
module

public import proofs.«01_k».proof.Defs
public import proofs.«01_k».proof.Proof.Blocks
public import proofs.«01_k».proof.Proof.Gen.KernelIdeal.Skeleton

@[expose] public section

noncomputable section

namespace Cert.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, -/
abbrev UH : Type := URounds (GSem nD τ sig) ℕ
/-- the pipeline's, -/
abbrev UP : Type := URounds (GSem nD τ sig) Unit
/-- and the counters beside them. -/
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ 𝕄) := by
  unfold EP embR; infer_instance

/-! ## Buffers and semaphores -/

abbrev tabLoc (d : Dev nD) : Loc nD τ sig := (SparseCore.T d).loc main_arg2
abbrev idxLoc (d : Dev nD) : Loc nD τ sig := (SparseCore.T d).loc main_v2
abbrev outLoc (d : Dev nD) : Loc nD τ sig := (SparseCore.T d).loc main_v3

/-- The core and the subcore of a grid point, and its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev lstLoc (d : Dev nD) (L : grid0.Coords) : Loc nD τ sig := (thr d L).loc cc0_scoped0
abbrev rowLoc (d : Dev nD) (L : grid0.Coords) : Loc nD τ sig := (thr d L).loc cc0_scoped2
abbrev inCell (d : Dev nD) (L : grid0.Coords) (s : Fin 2) : GSem nD τ sig := (thr d L, .dma (inS s))
abbrev outCell (d : Dev nD) (L : grid0.Coords) (s : Fin 2) : GSem nD τ sig := (thr d L, .dma (outS s))
abbrev gatSem : DmaSem sig := cc0_scoped4.sem
abbrev gatCell (d : Dev nD) (L : grid0.Coords) : GSem nD τ sig := (thr d L, .dma gatSem)

/-- What one copy in and one copy out credit. -/
def inN : ℕ := (inSlot ![0, 0, 0] (by decide)).view.dmaCredit
def outN : ℕ := (outBlk ![0, 0] (by decide)).view.dmaCredit

/-- Slot `s` of row numbers at `f`, slot `s` of rows at `f`, block `b` of the list at `X`, the rest of the list, block
    `b` of the gathered array at `f`. -/
abbrev lstPts (d : Dev nD) (L : grid0.Coords) (s : Fin 2) (f : S2x1x256.Idx → BitVec 32) : sProp 𝕄 := lstLoc d L ↦[lstSet s]{fullShare} f
abbrev rowPts (d : Dev nD) (L : grid0.Coords) (s : Fin 2) (f : S2x256x128.Idx → F .f32) : sProp 𝕄 := rowLoc d L ↦[rowSet s]{fullShare} f
abbrev idxPts (d : Dev nD) (I : Finset S1x51200.Idx) (q : PosShare TreeShare) (X : S1x51200.Idx → BitVec 32) : sProp 𝕄 := idxLoc d ↦[I]{q} X
abbrev outPts (d : Dev nD) (b : ℕ) (f : S51200x128.Idx → F .f32) : sProp 𝕄 := outLoc d ↦[outSet b]{fullShare} f
abbrev tabPts (d : Dev nD) (q : PosShare TreeShare) (T : S100000x128.Idx → F .f32) : sProp 𝕄 := tabLoc d ↦{q} T

/-- Block `b` on its way into slot `s`, and block `b` of rows on its way out of slot `s`. -/
abbrev InFlight (d : Dev nD) (L : grid0.Coords) (s : Fin 2) (q : PosShare TreeShare) (X : S1x51200.Idx → BitVec 32) (b : ℕ) : sProp 𝕄 :=
  Transfers.Flight countersEmb (thr d L) (.dma (inS s)) (default : HIx 1) inN iprop(lstPts d L s (lstOf X b) ∗ idxPts d (idxSet b) q X)
abbrev OutFlight (d : Dev nD) (L : grid0.Coords) (s : Fin 2) (T : S100000x128.Idx → F .f32) (X : S1x51200.Idx → BitVec 32) (b : ℕ) : sProp 𝕄 :=
  Transfers.Flight countersEmb (thr d L) (.dma (outS s)) (default : HIx 1) outN iprop(outPts d b (gathered T X) ∗ rowPts d L s (rowsOf T X b))

/-- What the gather credits, and the rows block `b` names on their way into slot `s`. -/
def gatN : ℕ := (rowSlot ![0, 0, 0] (by decide)).view.dmaCredit
abbrev GatFlight (d : Dev nD) (L : grid0.Coords) (s : Fin 2) (q : PosShare TreeShare) (T : S100000x128.Idx → F .f32) (X : S1x51200.Idx → BitVec 32) (b : ℕ) : sProp 𝕄 :=
  Transfers.Flight countersEmb (thr d L) (.dma gatSem) (default : HIx 1) gatN
    iprop(rowPts d L s (rowsOf T X b) ∗ tabPts d q T ∗ lstPts d L s (lstOf X b))

/-- The thread owes what it owed at the start, and has waited for nothing of anyone else's since. -/
def Owing (d : Dev nD) (L : grid0.Coords) (O : CellTallies nD τ sig (HIx 1)) (W : Waits sig (HIx 1)) : sProp 𝕄 :=
  iprop(∃ W', ⌜∀ p ∈ W', p ∈ W ∨ p.2 = none⌝ ∗ owes (thr d L) O W')

end Cert.Gather

end
-- ==== Proof.Slots.lean ====
/-
  Loads and stores at a buffer held at a value: `owns c m q X` says that thread `c` holds the buffer `m` and reads `X`
  through it. A load of a box reads the box of `X`; a store of a box leaves `X` with the box replaced.
-/
module

public import proofs.«01_k».proof.Proof.Setup
public import Idealize.ShloMosaic.Lib.Memref
public import Idealize.ShloMosaic.Lib.VecWindow

@[expose] public section

noncomputable section

namespace Cert.Gather

open Idealize.ShloMosaic
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Ix : Type} [DecidableEq Ix]
variable {Val : EltTy → Type} {Name : Type} [DecidableEq Name] {U : Type} [URA U] {Lvl : Type} {Λ : Labels}
local notation "𝕄" => MT nD τ sig Ix Val Name U Lvl
variable [Preorder Lvl] {defs : Defs nD τ sig Val Λ} {𝒱 : Variants} {c : Thread nD τ} {bd : Option 𝒱.V} {E : Set Name} {α : Type}
variable {s : Shape} {e : EltTy} {cs : CoreSpace}

/-- A load of a box of sizes `size` at offsets `off` reads that box of what the buffer holds. -/
theorem load_box {Q : α → sProp 𝕄} {m : Memref sig c.2.kind cs s e} {off size : Fin s.rank → ℕ} {inb : ∀ a, off a + size a ≤ s.size a}
    {hl : m.view.LoadsAt (Rect.unit off size inb).toLoadRect} {k : _ → Prog (TpuEff nD τ sig Val Λ c.2) α} {q : PosShare TreeShare}
    {X : s.Idx → Val e} :
    (owns c m q X : sProp 𝕄)
      ⊢ iprop((owns c m q X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ Hk
  subst hf
  iapply (wp_load 𝒱 c bd E (m := m) (View.setOn_subset_set _ _)) $$ [H]
  · iexact H
  iintro H
  iapply Hk
  iexists f
  isplitr; · ipureintro; rfl
  iexact H

/-- A load of all of the buffer reads what it holds. -/
theorem load_all {Q : α → sProp 𝕄} {m : Memref sig c.2.kind cs s e} {off : Fin s.rank → ℕ} {inb : ∀ a, off a + s.size a ≤ s.size a}
    {hl : m.view.LoadsAt (Rect.unit off s.size inb).toLoadRect} {k : (s.Idx → Val e) → Prog (TpuEff nD τ sig Val Λ c.2) α} {q : PosShare TreeShare}
    {X : s.Idx → Val e} :
    (owns c m q X : sProp 𝕄)
      ⊢ iprop((owns c m q X -∗ wp frame (wpE defs 𝒱 c bd) E (k X) Q)
        -∗ wp frame (wpE defs 𝒱 c bd) E (.op (.load m (Rect.unit off s.size inb).toLoadRect hl) k) Q) := by
  have h := load_box (Q := Q) (defs := defs) (𝒱 := 𝒱) (bd := bd) (E := E) (m := m) (inb := inb) (hl := hl) (k := k) (q := q) (X := X)
  rwa [show VecWindow.window X off s.size inb = X from funext fun y => congrArg X (Rect.emb_unit_full inb y)] at h

/-- A store of a box of sizes `size` at offsets `off` leaves the buffer's contents with the box replaced. -/
theorem store_box {Q : α → sProp 𝕄} {m : Memref sig c.2.kind cs s e} {off size : Fin s.rank → ℕ} {inb : ∀ a, off a + size a ≤ s.size a}
    {w : (Rect.unit off size inb).shape.Idx → Val e} {hx : (m.access (Rect.unit off size inb)).Stores Finset.univ} {hm}
    {k : PUnit → Prog (TpuEff nD τ sig Val Λ c.2) α} {X : s.Idx → Val e} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  subst hf
  iapply (wp_store 𝒱 c bd E (m := m) (r := Rect.unit off size inb) (S := m.view.set) (f := f)
    (by exact (View.setOn_subset_set _ _).trans (View.set_slice_subset _ _))) $$ [H]
  · iexact H
  iintro H
  iapply Hk
  iexists _
  isplitr; swap
  · iexact H
  ipureintro
  exact View.read_writes_cons_put m.view f inb w [] rfl

/-- A store of all of the buffer leaves it at what was stored. -/
theorem store_all {Q : α → sProp 𝕄} {m : Memref sig c.2.kind cs s e} {off : Fin s.rank → ℕ} {inb : ∀ a, off a + s.size a ≤ s.size a}
    {w : s.Idx → Val e} {hx : (m.access (Rect.unit off s.size inb)).Stores Finset.univ} {hm}
    {k : PUnit → Prog (TpuEff nD τ sig Val Λ c.2) α} {X : s.Idx → Val e} :
    (owns c m fullShare X : sProp 𝕄)
      ⊢ iprop((owns c m fullShare w -∗ wp frame (wpE defs 𝒱 c bd) E (k ⟨⟩) Q)
        -∗ wp frame (wpE defs 𝒱 c bd) E (.op (.store m (Rect.unit off s.size inb) w Finset.univ hx hm) k) Q) := by
  have h := store_box (Q := Q) (defs := defs) (𝒱 := 𝒱) (bd := bd) (E := E) (m := m) (inb := inb) (w := w) (hx := hx) (hm := hm) (k := k) (X := X)
  rwa [show VecWindow.put X off s.size w = w from funext fun y => by
    have hy : ∀ a, off a ≤ (y a).val ∧ (y a).val < off a + s.size a := fun a => by have := inb a; have := (y a).isLt; omega
    refine (dif_pos hy).trans (congrArg w (funext fun a => Fin.ext ?_))
    show (y a).val - off a = (y a).val
    have := inb a; omega] at h

end

end Cert.Gather

end
-- ==== Proof.Cell.lean ====
/-
  One step of the recurrence as pure functions of the weights `W` (384 rows: the first 128 meet the embedding, the other
  256 the state), the embedding `e`, the state `h` and the memory `c`, over any float values; and the ten steps of one
  block as a recursion.
-/
module

public import proofs.«01_k».proof.Proof.Gen.KernelIdeal.Skeleton
public import Idealize.ShloMosaic.Lib.VecWindow

@[expose] public section

noncomputable section

namespace Cert.Gather

open Cert.KernelIdeal Cert.KernelIdeal.Gen
open Idealize.ShloMosaic Idealize.SL.Sem

variable {F : FTy → Type} [FloatOps F]

/-- One half, everywhere. -/
def half : FVec F S1024x256 .bf16 := broadcast S1024x256 (Scalar.ofBits .bf16 0x3F00#16)
/-- Half the hyperbolic tangent of half of `z`, -/
def sgm0 (z : FVec F S1024x256 .bf16) : FVec F S1024x256 .bf16 := mulf half (tanh (mulf half z))
/-- and the logistic function of `z` by it. -/
def sgm (z : FVec F S1024x256 .bf16) : FVec F S1024x256 .bf16 := addf (sgm0 z) half
/-- The embedding's part of one gate. -/
def zx (Wx : FVec F S128x256 .bf16) (e : FVec F S1024x128 .bf16) : FVec F S1024x256 .f32 :=
  matmul dot_S1024x128_S128x256_S1024x256_1_0_0_1_n_n none e Wx (constant S1024x256 .f32 0x00000000#32)
/-- The state's part of one gate. -/
def zh (Wh : FVec F S256x256 .bf16) (h : FVec F S1024x256 .bf16) : FVec F S1024x256 .f32 :=
  matmul dot_S1024x256_S256x256_S1024x256_1_0_0_1_n_n none h Wh (constant S1024x256 .f32 0x00000000#32)
/-- One gate before its activation. -/
def zz (a : FVec F S1024x256 .f32) (b : FVec F S1024x256 .f32) : FVec F S1024x256 .bf16 := truncf .bf16 (addf a b) bitsLt_bf16_f32

/-- The embedding's part of the second gate. -/
def zxF (W : FVec F S384x1024 .bf16) (e : FVec F S1024x128 .bf16) : FVec F S1024x256 .f32 :=
  zx (extractStridedSlice S128x256 ![0, 256] W slices_S384x1024_o0_256_S128x256) e

/-- The gates before their activations: columns 0, 256, 512 and 768 on. -/
def preI (W : FVec F S384x1024 .bf16) (e : FVec F S1024x128 .bf16) (h : FVec F S1024x256 .bf16) : FVec F S1024x256 .bf16 :=
  zz (zx (extractStridedSlice S128x256 ![0, 0] W slices_S384x1024_o0_0_S128x256) e) (zh (extractStridedSlice S256x256 ![128, 0] W slices_S384x1024_o128_0_S256x256) h)
def preF (W : FVec F S384x1024 .bf16) (e : FVec F S1024x128 .bf16) (h : FVec F S1024x256 .bf16) : FVec F S1024x256 .bf16 :=
  zz (zxF W e) (zh (extractStridedSlice S256x256 ![128, 256] W slices_S384x1024_o128_256_S256x256) h)
def preG (W : FVec F S384x1024 .bf16) (e : FVec F S1024x128 .bf16) (h : FVec F S1024x256 .bf16) : FVec F S1024x256 .bf16 :=
  zz (zx (extractStridedSlice S128x256 ![0, 512] W slices_S384x1024_o0_512_S128x256) e) (zh (extractStridedSlice S256x256 ![128, 512] W slices_S384x1024_o128_512_S256x256) h)
def preO (W : FVec F S384x1024 .bf16) (e : FVec F S1024x128 .bf16) (h : FVec F S1024x256 .bf16) : FVec F S1024x256 .bf16 :=
  zz (zx (extractStridedSlice S128x256 ![0, 768] W slices_S384x1024_o0_768_S128x256) e) (zh (extractStridedSlice S256x256 ![128, 768] W slices_S384x1024_o128_768_S256x256) h)

/-- The gates: input, candidate, forget, and the output gate before its last addition. -/
def gI (W : FVec F S384x1024 .bf16) (e : FVec F S1024x128 .bf16) (h : FVec F S1024x256 .bf16) : FVec F S1024x256 .bf16 := sgm (preI W e h)
def gG (W : FVec F S384x1024 .bf16) (e : FVec F S1024x128 .bf16) (h : FVec F S1024x256 .bf16) : FVec F S1024x256 .bf16 := tanh (preG W e h)
def gF (W : FVec F S384x1024 .bf16) (e : FVec F S1024x128 .bf16) (h : FVec F S1024x256 .bf16) : FVec F S1024x256 .bf16 := sgm (preF W e h)
def gO (W : FVec F S384x1024 .bf16) (e : FVec F S1024x128 .bf16) (h : FVec F S1024x256 .bf16) : FVec F S1024x256 .bf16 := sgm0 (preO W e h)

/-- The new memory, -/
def cellC (W : FVec F S384x1024 .bf16) (e : FVec F S1024x128 .bf16) (h : FVec F S1024x256 .bf16) (c : FVec F S1024x256 .f32) : FVec F S1024x256 .f32 :=
  addf (mulf (extf .f32 (gF W e h) bitsLt_bf16_f32) c) (extf .f32 (mulf (gI W e h) (gG W e h)) bitsLt_bf16_f32)
/-- the new state, -/
def cellH (W : FVec F S384x1024 .bf16) (e : FVec F S1024x128 .bf16) (h : FVec F S1024x256 .bf16) (c : FVec F S1024x256 .f32) : FVec F S1024x256 .f32 :=
  mulf (extf .f32 (addf (gO W e h) half) bitsLt_bf16_f32) (tanh (cellC W e h c))
/-- and the new state as the next step reads it. -/
def cellB (W : FVec F S384x1024 .bf16) (e : FVec F S1024x128 .bf16) (h : FVec F S1024x256 .bf16) (c : FVec F S1024x256 .f32) : FVec F S1024x256 .bf16 :=
  truncf .bf16 (cellH W e h c) bitsLt_bf16_f32

/-- One row of a block of embeddings, as the steps read it. -/
def rowE (v : Vec F S1x1024x128 .f32) : FVec F S1024x128 .bf16 := truncf .bf16 (shapeCast S1024x128 v shapeCasts_S1x1024x128_S1024x128) bitsLt_bf16_f32
/-- The weights of one direction, as a matrix. -/
def matW (v : Vec F S1x384x1024 .bf16) : FVec F S384x1024 .bf16 := shapeCast S384x1024 v shapeCasts_S1x384x1024_S384x1024
/-- A state as one row of a block of outputs. -/
def rowY (h : FVec F S1024x256 .f32) : FVec F S1x1024x256 .f32 := shapeCast S1x1024x256 h shapeCasts_S1024x256_S1x1024x256
/-- The state a direction starts from, -/
def hStart (v : Vec F S1024x256 .f32) : FVec F S1024x256 .bf16 := k1_pay6 v
/-- and the memory it starts from: zero. -/
def cStart : FVec F S1024x256 .f32 := k1_pay7 (F := F)

/-! ## The rows of the ten steps

Direction 0 takes the rows of a block forwards, direction 1 backwards. -/

/-- The row of step `k` at a point of the grid. -/
def rowNo (i : grid1.Coords) (k : ℕ) : Fin 10 := if (i 0).val = 0 then Fin.ofNat 10 k else Fin.ofNat 10 (9 - k)

/-- Row `n` of a block of embeddings. -/
def rowBox {α : Type} (E : S10x1024x128.Idx → α) (n : Fin 10) : S1x1024x128.Idx → α := fun y => E (fun | ⟨0, _⟩ => n | ⟨1, _⟩ => y 1 | ⟨2, _⟩ => y 2)

/-- A block of outputs with row `n` replaced. -/
def putRow {α : Type} (Y : S10x1024x256.Idx → α) (n : Fin 10) (w : S1x1024x256.Idx → α) : S10x1024x256.Idx → α :=
  fun y => if (y 0).val = n.val then w (fun | ⟨0, _⟩ => (0 : Fin 1) | ⟨1, _⟩ => y 1 | ⟨2, _⟩ => y 2) else Y y

theorem off1_eq (i : grid1.Coords) (k : ℕ) (hk : k < 10) :
    k1_off1 i (BitVec.ofNat 32 k) (BitVec.ofNat 32 (9 - k)) = ![(rowNo i k).val, 0, 0] := by
  have h : (i 0).val < 2 := (i 0).isLt
  have h' : (i 0).val = 0 ∨ (i 0).val = 1 := by omega
  rcases h' with e | e
  · simp only [k1_off1, rowNo, e]
    rcases (by omega : k = 0 ∨ k = 1 ∨ k = 2 ∨ k = 3 ∨ k = 4 ∨ k = 5 ∨ k = 6 ∨ k = 7 ∨ k = 8 ∨ k = 9) with rfl | rfl | rfl | rfl | rfl | rfl | rfl | rfl | rfl | rfl <;> rfl
  · simp only [k1_off1, rowNo, e]
    rcases (by omega : k = 0 ∨ k = 1 ∨ k = 2 ∨ k = 3 ∨ k = 4 ∨ k = 5 ∨ k = 6 ∨ k = 7 ∨ k = 8 ∨ k = 9) with rfl | rfl | rfl | rfl | rfl | rfl | rfl | rfl | rfl | rfl <;> rfl

theorem off2_eq (i : grid1.Coords) (k : ℕ) (hk : k < 10) :
    k1_off2 i (BitVec.ofNat 32 k) (BitVec.ofNat 32 (9 - k)) = ![(rowNo i k).val, 0, 0] := by
  have h : (i 0).val < 2 := (i 0).isLt
  have h' : (i 0).val = 0 ∨ (i 0).val = 1 := by omega
  rcases h' with e | e
  · simp only [k1_off2, rowNo, e]
    rcases (by omega : k = 0 ∨ k = 1 ∨ k = 2 ∨ k = 3 ∨ k = 4 ∨ k = 5 ∨ k = 6 ∨ k = 7 ∨ k = 8 ∨ k = 9) with rfl | rfl | rfl | rfl | rfl | rfl | rfl | rfl | rfl | rfl <;> rfl
  · simp only [k1_off2, rowNo, e]
    rcases (by omega : k = 0 ∨ k = 1 ∨ k = 2 ∨ k = 3 ∨ k = 4 ∨ k = 5 ∨ k = 6 ∨ k = 7 ∨ k = 8 ∨ k = 9) with rfl | rfl | rfl | rfl | rfl | rfl | rfl | rfl | rfl | rfl <;> rfl

/-- The box a step loads is its row. -/
theorem window_row {α : Type} (E : S10x1024x128.Idx → α) (i : grid1.Coords) (k : ℕ) (hk : k < 10) {a b : BitVec 32} (ha : a = BitVec.ofNat 32 k)
    (hb : b = BitVec.ofNat 32 (9 - k)) (inb : ∀ x, k1_off1 i a b x + S1x1024x128.size x ≤ S10x1024x128.size x) :
    VecWindow.window E (k1_off1 i a b) S1x1024x128.size inb = rowBox E (rowNo i k) := by
  subst ha hb
  have e := off1_eq i k hk
  funext y
  refine congrArg E (funext fun x => Fin.ext ?_)
  refine (congrArg (· + 1 * (y x).val) (congrFun e x)).trans ?_
  have hy : (y 0).val < 1 := (y 0).isLt
  match x with
  | ⟨0, _⟩ => show (rowNo i k).val + 1 * (y 0).val = (rowNo i k).val; omega
  | ⟨1, _⟩ => show 0 + 1 * (y 1).val = (y 1).val; omega
  | ⟨2, _⟩ => show 0 + 1 * (y 2).val = (y 2).val; omega

/-- The box a step stores replaces its row. -/
theorem put_row {α : Type} (Y : S10x1024x256.Idx → α) (i : grid1.Coords) (k : ℕ) (hk : k < 10) {a b : BitVec 32} (ha : a = BitVec.ofNat 32 k)
    (hb : b = BitVec.ofNat 32 (9 - k)) (w : S1x1024x256.Idx → α) :
    VecWindow.put Y (k1_off2 i a b) S1x1024x256.size w = putRow Y (rowNo i k) w := by
  subst ha hb
  have e := off2_eq i k hk
  funext y
  unfold VecWindow.put putRow
  rw [e]
  have h1 : (y 1).val < 1024 := (y 1).isLt
  have h2 : (y 2).val < 256 := (y 2).isLt
  by_cases hv : (y 0).val = (rowNo i k).val
  · rw [if_pos hv]
    have hall : ∀ a : Fin S10x1024x256.rank, (![(rowNo i k).val, 0, 0] : Fin 3 → ℕ) a ≤ (y a).val ∧ (y a).val < (![(rowNo i k).val, 0, 0] : Fin 3 → ℕ) a + S1x1024x256.size a := fun
      | ⟨0, _⟩ => ⟨show (rowNo i k).val ≤ (y 0).val by omega, show (y 0).val < (rowNo i k).val + 1 by omega⟩
      | ⟨1, _⟩ => ⟨Nat.zero_le _, show (y 1).val < 0 + 1024 by omega⟩
      | ⟨2, _⟩ => ⟨Nat.zero_le _, show (y 2).val < 0 + 256 by omega⟩
    rw [dif_pos hall]
    refine congrArg w (funext fun x => Fin.ext ?_)
    match x with
    | ⟨0, _⟩ => show (y 0).val - (rowNo i k).val = 0; omega
    | ⟨1, _⟩ => show (y 1).val - 0 = (y 1).val; omega
    | ⟨2, _⟩ => show (y 2).val - 0 = (y 2).val; omega
  · rw [if_neg hv, dif_neg]
    intro hall
    have h0 : (rowNo i k).val ≤ (y 0).val ∧ (y 0).val < (rowNo i k).val + 1 := hall 0
    exact hv (by omega)

/-! ## The ten steps of one block -/

variable (i : grid1.Coords) (E : Vec F S10x1024x128 .f32) (W : FVec F S384x1024 .bf16) (s₀ : FVec F S1024x256 .bf16 × FVec F S1024x256 .f32)

/-- The embedding of step `k`. -/
def eAt (k : ℕ) : FVec F S1024x128 .bf16 := rowE (rowBox E (rowNo i k))

/-- The state and the memory before step `k`. -/
def stepsFrom : ℕ → FVec F S1024x256 .bf16 × FVec F S1024x256 .f32
  | 0 => s₀
  | k + 1 => (cellB W (eAt i E k) (stepsFrom k).1 (stepsFrom k).2, cellC W (eAt i E k) (stepsFrom k).1 (stepsFrom k).2)

/-- The state step `k` leaves, as it is written out. -/
def outAt (k : ℕ) : FVec F S1024x256 .f32 := cellH W (eAt i E k) (stepsFrom i E W s₀ k).1 (stepsFrom i E W s₀ k).2

/-- The block of outputs once `k` steps are written into `Y`. -/
def outsInto (Y : S10x1024x256.Idx → F .f32) : ℕ → S10x1024x256.Idx → F .f32
  | 0 => Y
  | k + 1 => putRow (outsInto Y k) (rowNo i k) (rowY (outAt i E W s₀ k))

/-- The step that writes row `n`. -/
def stepOf (n : Fin 10) : ℕ := if (i 0).val = 0 then n.val else 9 - n.val

/-- The whole block of outputs: row `n` holds what its step left. -/
def outs : S10x1024x256.Idx → F .f32 := fun y => rowY (outAt i E W s₀ (stepOf i (y 0))) (fun | ⟨0, _⟩ => (0 : Fin 1) | ⟨1, _⟩ => y 1 | ⟨2, _⟩ => y 2)

theorem rowNo_eq_iff (n : Fin 10) (k : ℕ) (hk : k < 10) : n = rowNo i k ↔ stepOf i n = k := by
  have hn := n.isLt
  unfold rowNo stepOf
  by_cases h : (i 0).val = 0
  · rw [if_pos h, if_pos h]
    refine ⟨fun e => ?_, fun e => Fin.ext ?_⟩
    · subst e; exact Nat.mod_eq_of_lt hk
    · show n.val = k % 10; rw [Nat.mod_eq_of_lt hk, e]
  · rw [if_neg h, if_neg h]
    refine ⟨fun e => ?_, fun e => Fin.ext ?_⟩
    · have : n.val = (9 - k) % 10 := congrArg Fin.val e
      rw [Nat.mod_eq_of_lt (by omega)] at this; omega
    · show n.val = (9 - k) % 10; rw [Nat.mod_eq_of_lt (by omega)]; omega

theorem stepOf_lt (n : Fin 10) : stepOf i n < 10 := by
  have := n.isLt
  unfold stepOf; split <;> omega

/-- What is written after `k` steps: the rows of the steps before `k`. -/
theorem outsInto_eq (Y : S10x1024x256.Idx → F .f32) (k : ℕ) (hk : k ≤ 10) (y : S10x1024x256.Idx) :
    outsInto i E W s₀ Y k y = if stepOf i (y 0) < k then outs i E W s₀ y else Y y := by
  induction k with
  | zero => rw [if_neg (Nat.not_lt_zero _)]; rfl
  | succ k ih =>
    show putRow (outsInto i E W s₀ Y k) (rowNo i k) (rowY (outAt i E W s₀ k)) y = _
    unfold putRow
    by_cases h : (y 0).val = (rowNo i k).val
    · have h' := (rowNo_eq_iff i (y 0) k (by omega)).mp (Fin.ext h)
      rw [if_pos h, if_pos (by omega)]
      unfold outs; rw [h']
    · have h' : ¬ stepOf i (y 0) = k := fun e => h (congrArg Fin.val ((rowNo_eq_iff i (y 0) k (by omega)).mpr e))
      rw [if_neg h, ih (by omega)]
      by_cases hl : stepOf i (y 0) < k
      · rw [if_pos hl, if_pos (by omega)]
      · rw [if_neg hl, if_neg (by omega)]

/-- After the ten steps the whole block is written. -/
theorem outsInto_ten (Y : S10x1024x256.Idx → F .f32) : outsInto i E W s₀ Y 10 = outs i E W s₀ :=
  funext fun y => (outsInto_eq i E W s₀ Y 10 le_rfl y).trans (if_pos (stepOf_lt i (y 0)))

end Cert.Gather

end
-- ==== Proof.Steps.lean ====
/-
  The parts of the recurrence's body, each from the buffers it reads and writes held at a value: a part that ends one step
  writes that step's row of outputs and reads the next step's row of embeddings, returning the new state and memory.
-/
module

public import proofs.«01_k».proof.Proof.Slots
public import proofs.«01_k».proof.Proof.Cell

@[expose] public section

noncomputable section

namespace Cert.Gather

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The TensorCore of a device, as a thread. -/
abbrev tcThr (d : Dev nD) : Thread nD τ := SparseCore.T d

section
variable {d : Dev nD} {α : Type} {s : Shape} {e : EltTy} {m : Memref sig .tc .vmem s e}

/-- The rules of `Slots`, on a TensorCore. -/
theorem load_part {Q : α → sProp 𝕄} {off size : Fin s.rank → ℕ} {inb : ∀ a, off a + size a ≤ s.size a}
    {hl : m.view.LoadsAt (Rect.unit off size inb).toLoadRect} {f : _ → Prog (TpuEff nD τ sig (Elt F) Λ₀ .tc) α} {X : s.Idx → Elt F e} :
    (owns (tcThr d) m fullShare X : sProp 𝕄)
      ⊢ iprop((owns (tcThr d) m fullShare X -∗ wp frame (wpE (defs₀ (F := F)) 𝒱₀ (tcThr d) none) Set.univ (f (VecWindow.window X off size inb)) Q)
        -∗ wp frame (wpE (defs₀ (F := F)) 𝒱₀ (tcThr d) none) Set.univ (.op (.load m (Rect.unit off size inb).toLoadRect hl) f) Q) :=
  load_box (c := tcThr d)

theorem load_whole {Q : α → sProp 𝕄} {off : Fin s.rank → ℕ} {inb : ∀ a, off a + s.size a ≤ s.size a}
    {hl : m.view.LoadsAt (Rect.unit off s.size inb).toLoadRect} {f : (s.Idx → Elt F e) → Prog (TpuEff nD τ sig (Elt F) Λ₀ .tc) α} {X : s.Idx → Elt F e} :
    (owns (tcThr d) m fullShare X : sProp 𝕄)
      ⊢ iprop((owns (tcThr d) m fullShare X -∗ wp frame (wpE (defs₀ (F := F)) 𝒱₀ (tcThr d) none) Set.univ (f X) Q)
        -∗ wp frame (wpE (defs₀ (F := F)) 𝒱₀ (tcThr d) none) Set.univ (.op (.load m (Rect.unit off s.size inb).toLoadRect hl) f) Q) :=
  load_all (c := tcThr d)

theorem store_whole {Q : α → sProp 𝕄} {off : Fin s.rank → ℕ} {inb : ∀ a, off a + s.size a ≤ s.size a} {w w' : s.Idx → Elt F e} (hw : w = w')
    {hx : (m.access (Rect.unit off s.size inb)).Stores Finset.univ} {hm} {f : PUnit → Prog (TpuEff nD τ sig (Elt F) Λ₀ .tc) α} {X : s.Idx → Elt F e} :
    (owns (tcThr d) m fullShare X : sProp 𝕄)
      ⊢ iprop((owns (tcThr d) m fullShare w' -∗ wp frame (wpE (defs₀ (F := F)) 𝒱₀ (tcThr d) none) Set.univ (f ⟨⟩) Q)
        -∗ wp frame (wpE (defs₀ (F := F)) 𝒱₀ (tcThr d) none) Set.univ (.op (.store m (Rect.unit off s.size inb) w Finset.univ hx hm) f) Q) := by
  subst hw
  exact store_all (c := tcThr d)
end

/-- A load of a step's row of embeddings reads that row. -/
theorem load_row {d : Dev nD} {α : Type} {Q : α → sProp 𝕄} {m : Memref sig .tc .vmem S10x1024x128 .f32} {i : grid1.Coords} {a b : BitVec 32} (k : ℕ) (hk : k < 10)
    (ha : a = BitVec.ofNat 32 k) (hb : b = BitVec.ofNat 32 (9 - k)) {inb : ∀ x, k1_off1 i a b x + S1x1024x128.size x ≤ S10x1024x128.size x}
    {hl : m.view.LoadsAt (Rect.unit (s := S10x1024x128) (k1_off1 i a b) S1x1024x128.size inb).toLoadRect}
    {f : (S1x1024x128.Idx → F .f32) → Prog (TpuEff nD τ sig (Elt F) Λ₀ .tc) α} {E : S10x1024x128.Idx → F .f32} :
    (owns (tcThr d) m fullShare E : sProp 𝕄)
      ⊢ iprop((owns (tcThr d) m fullShare E -∗ wp frame (wpE (defs₀ (F := F)) 𝒱₀ (tcThr d) none) Set.univ (f (rowBox E (rowNo i k))) Q)
        -∗ wp frame (wpE (defs₀ (F := F)) 𝒱₀ (tcThr d) none) Set.univ (.op (.load m (Rect.unit (s := S10x1024x128) (k1_off1 i a b) S1x1024x128.size inb).toLoadRect hl) f) Q) := by
  have h := load_box (Q := Q) (defs := defs₀ (F := F)) (𝒱 := 𝒱₀) (c := tcThr d) (bd := none) (E := Set.univ) (m := m) (inb := inb) (hl := hl) (k := f) (q := fullShare) (X := E)
  rwa [window_row E i k hk ha hb inb] at h

/-- A store of a step's row of outputs replaces that row. -/
theorem store_row {d : Dev nD} {α : Type} {Q : α → sProp 𝕄} {m : Memref sig .tc .vmem S10x1024x256 .f32} {i : grid1.Coords} {a b : BitVec 32} (k : ℕ) (hk : k < 10)
    (ha : a = BitVec.ofNat 32 k) (hb : b = BitVec.ofNat 32 (9 - k)) {inb : ∀ x, k1_off2 i a b x + S1x1024x256.size x ≤ S10x1024x256.size x}
    {w : S1x1024x256.Idx → F .f32} (w' : S1x1024x256.Idx → F .f32) (hw : w = w')
    {hx : (m.access (Rect.unit (s := S10x1024x256) (k1_off2 i a b) S1x1024x256.size inb)).Stores Finset.univ} {hm}
    {f : PUnit → Prog (TpuEff nD τ sig (Elt F) Λ₀ .tc) α} {Y : S10x1024x256.Idx → F .f32} :
    (owns (tcThr d) m fullShare Y : sProp 𝕄)
      ⊢ iprop((owns (tcThr d) m fullShare (putRow Y (rowNo i k) w') -∗ wp frame (wpE (defs₀ (F := F)) 𝒱₀ (tcThr d) none) Set.univ (f ⟨⟩) Q)
        -∗ wp frame (wpE (defs₀ (F := F)) 𝒱₀ (tcThr d) none) Set.univ
          (.op (.store m (Rect.unit (s := S10x1024x256) (k1_off2 i a b) S1x1024x256.size inb) w Finset.univ hx hm) f) Q) := by
  subst hw
  have h := store_box (Q := Q) (defs := defs₀ (F := F)) (𝒱 := 𝒱₀) (c := tcThr d) (bd := none) (E := Set.univ) (m := m) (inb := inb) (w := w) (hx := hx) (hm := hm) (k := f) (X := Y)
  rwa [put_row Y i k hk ha hb w] at h

variable (d : Dev nD) (i : grid1.Coords) (A2 : Memref sig .tc .vmem S10x1024x128 .f32) (h2 : A2.IsWhole) (A3 : Memref sig .tc .vmem S1024x256 .f32) (h3 : A3.IsWhole)
  (A4 : Memref sig .tc .vmem S1x384x1024 .bf16) (h4 : A4.IsWhole) (A5 : Memref sig .tc .vmem S10x1024x256 .f32) (h5 : A5.IsWhole) (A6 : Memref sig .tc .vmem S1024x256 .f32) (h6 : A6.IsWhole)
  (A7 : Memref sig .tc .vmem S1024x256 .bf16) (h7 : A7.IsWhole) (A8 : Memref sig .tc .vmem S1024x256 .f32) (h8 : A8.IsWhole)
  (E : S10x1024x128.Idx → F .f32) (Y : S10x1024x256.Idx → F .f32)
  (W : FVec F S384x1024 .bf16) (e : FVec F S1024x128 .bf16) (h : FVec F S1024x256 .bf16) (c : FVec F S1024x256 .f32)

/-- Step 0 ends and step 1 begins. -/
theorem part2_run (a v : BitVec 32) {Q : (Σ' (_ : FVec F S1024x256 .f32) (_ : FVec F S1024x256 .bf16) (_ : BitVec 32), FVec F S1024x128 .bf16) → sProp 𝕄} :
    iprop(owns (tcThr d) A2 fullShare E ∗ owns (tcThr d) A5 fullShare Y
      ∗ (∀ v', iprop(owns (tcThr d) A2 fullShare E ∗ owns (tcThr d) A5 fullShare (putRow Y (rowNo i 0) (rowY (cellH W e h c)))) -∗ Q ⟨cellC W e h c, cellB W e h c, v', eAt i E 1⟩))
    ⊢ wp frame (wpE (defs₀ (F := F)) 𝒱₀ (tcThr d) none) Set.univ (k1_part2 (F := F) i A2 h2 A3 h3 A4 h4 A5 h5 A6 h6 A7 h7 A8 h8 a W h c v e (gI W e h) (gG W e h) (zxF W e)) Q := by
  rw [k1_part2_eq_skeleton]
  unfold k1_part2_skel
  simp only [Prog.bind_lift]
  iintro ⟨HE, HY, Hk⟩
  iapply load_part $$ [HY]
  · iexact HY
  iintro HY
  iapply (store_row 0 (by decide) rfl rfl (rowY (cellH W e h c)) (show k1_pay16 W h c e (gI W e h) (gG W e h) (zxF W e) = _ from rfl)) $$ [HY]
  · iexact HY
  iintro HY
  iapply (load_row 1 (by decide) rfl rfl) $$ [HE]
  · iexact HE
  iintro HE
  rw [show k1_pay13 W h c (gI W e h) (gG W e h) (zxF W e) = cellC W e h c from rfl,
    show k1_pay15 W h c e (gI W e h) (gG W e h) (zxF W e) = cellB W e h c from rfl,
    show k1_pay17 (rowBox E (rowNo i 1)) = eAt i E 1 from rfl, wp_pure]
  imodintro
  iapply Hk
  isplitl [HE]; · iexact HE
  iexact HY

/-- The gates of one step. -/
theorem part3_run {Q : (Σ' (_ : FVec F S1024x256 .bf16) (_ : FVec F S1024x256 .bf16) (_ : FVec F S1024x256 .bf16), FVec F S1024x256 .bf16) → sProp 𝕄} :
    Q ⟨gI W e h, gG W e h, gF W e h, gO W e h⟩
    ⊢ wp frame (wpE (defs₀ (F := F)) 𝒱₀ (tcThr d) none) Set.univ (k1_part3 (F := F) i A2 h2 A3 h3 A4 h4 A5 h5 A6 h6 A7 h7 A8 h8 W h e) Q := by
  rw [k1_part3_eq_skeleton]
  unfold k1_part3_skel
  rw [show k1_pay18 W h e = gI W e h from rfl, show k1_pay19 W h e = gG W e h from rfl,
    show k1_pay20 W h e = gF W e h from rfl, show k1_pay21 W h e = gO W e h from rfl, wp_pure]
  iintro H
  imodintro
  iexact H

/-- Step 1 ends and step 2 begins. -/
theorem part4_run (a v : BitVec 32)
    {Q : (Σ' (_ : FVec F S1024x256 .f32) (_ : FVec F S1024x256 .bf16) (_ : BitVec 32) (_ : FVec F S1024x128 .bf16) (_ : FVec F S1024x256 .bf16) (_ : FVec F S1024x256 .bf16), FVec F S1024x256 .f32) → sProp 𝕄} :
    iprop(owns (tcThr d) A2 fullShare E ∗ owns (tcThr d) A5 fullShare Y
      ∗ (∀ v', iprop(owns (tcThr d) A2 fullShare E ∗ owns (tcThr d) A5 fullShare (putRow Y (rowNo i 1) (rowY (cellH W e h c))))
        -∗ Q ⟨cellC W e h c, cellB W e h c, v', eAt i E 2, gI W (eAt i E 2) (cellB W e h c), gG W (eAt i E 2) (cellB W e h c), zxF W (eAt i E 2)⟩))
    ⊢ wp frame (wpE (defs₀ (F := F)) 𝒱₀ (tcThr d) none) Set.univ (k1_part4 (F := F) i A2 h2 A3 h3 A4 h4 A5 h5 A6 h6 A7 h7 A8 h8 a W c v (gI W e h) (gG W e h) (gF W e h) (gO W e h)) Q := by
  rw [k1_part4_eq_skeleton]
  unfold k1_part4_skel
  simp only [Prog.bind_lift]
  iintro ⟨HE, HY, Hk⟩
  iapply load_part $$ [HY]
  · iexact HY
  iintro HY
  iapply (store_row 1 (by decide) rfl rfl (rowY (cellH W e h c)) (show k1_pay25 c (gI W e h) (gG W e h) (gF W e h) (gO W e h) = _ from rfl)) $$ [HY]
  · iexact HY
  iintro HY
  iapply (load_row 2 (by decide) rfl rfl) $$ [HE]
  · iexact HE
  iintro HE
  rw [show k1_pay22 c (gI W e h) (gG W e h) (gF W e h) = cellC W e h c from rfl,
    show k1_pay24 c (gI W e h) (gG W e h) (gF W e h) (gO W e h) = cellB W e h c from rfl,
    show k1_pay26 (rowBox E (rowNo i 2)) = eAt i E 2 from rfl,
    show k1_pay27 W c (gI W e h) (gG W e h) (gF W e h) (gO W e h) (rowBox E (rowNo i 2)) = gI W (eAt i E 2) (cellB W e h c) from rfl,
    show k1_pay28 W c (gI W e h) (gG W e h) (gF W e h) (gO W e h) (rowBox E (rowNo i 2)) = gG W (eAt i E 2) (cellB W e h c) from rfl,
    show k1_pay29 W (rowBox E (rowNo i 2)) = zxF W (eAt i E 2) from rfl, wp_pure]
  imodintro
  iapply Hk
  isplitl [HE]; · iexact HE
  iexact HY

/-- Step 2 ends and step 3 begins. -/
theorem part5_run (a v : BitVec 32) {Q : (Σ' (_ : FVec F S1024x256 .f32) (_ : FVec F S1024x256 .bf16) (_ : BitVec 32), FVec F S1024x128 .bf16) → sProp 𝕄} :
    iprop(owns (tcThr d) A2 fullShare E ∗ owns (tcThr d) A5 fullShare Y
      ∗ (∀ v', iprop(owns (tcThr d) A2 fullShare E ∗ owns (tcThr d) A5 fullShare (putRow Y (rowNo i 2) (rowY (cellH W e h c)))) -∗ Q ⟨cellC W e h c, cellB W e h c, v', eAt i E 3⟩))
    ⊢ wp frame (wpE (defs₀ (F := F)) 𝒱₀ (tcThr d) none) Set.univ (k1_part5 (F := F) i A2 h2 A3 h3 A4 h4 A5 h5 A6 h6 A7 h7 A8 h8 a W c h v e (gI W e h) (gG W e h) (zxF W e)) Q := by
  rw [k1_part5_eq_skeleton]
  unfold k1_part5_skel
  simp only [Prog.bind_lift]
  iintro ⟨HE, HY, Hk⟩
  iapply load_part $$ [HY]
  · iexact HY
  iintro HY
  iapply (store_row 2 (by decide) rfl rfl (rowY (cellH W e h c)) (show k1_pay33 W c h e (gI W e h) (gG W e h) (zxF W e) = _ from rfl)) $$ [HY]
  · iexact HY
  iintro HY
  iapply (load_row 3 (by decide) rfl rfl) $$ [HE]
  · iexact HE
  iintro HE
  rw [show k1_pay30 W c h (gI W e h) (gG W e h) (zxF W e) = cellC W e h c from rfl,
    show k1_pay32 W c h e (gI W e h) (gG W e h) (zxF W e) = cellB W e h c from rfl,
    show k1_pay34 (rowBox E (rowNo i 3)) = eAt i E 3 from rfl, wp_pure]
  imodintro
  iapply Hk
  isplitl [HE]; · iexact HE
  iexact HY

/-- The gates of one step. -/
theorem part6_run {Q : (Σ' (_ : FVec F S1024x256 .bf16) (_ : FVec F S1024x256 .bf16) (_ : FVec F S1024x256 .bf16), FVec F S1024x256 .bf16) → sProp 𝕄} :
    Q ⟨gI W e h, gG W e h, gF W e h, gO W e h⟩
    ⊢ wp frame (wpE (defs₀ (F := F)) 𝒱₀ (tcThr d) none) Set.univ (k1_part6 (F := F) i A2 h2 A3 h3 A4 h4 A5 h5 A6 h6 A7 h7 A8 h8 W h e) Q := by
  rw [k1_part6_eq_skeleton]
  unfold k1_part6_skel
  rw [show k1_pay35 W h e = gI W e h from rfl, show k1_pay36 W h e = gG W e h from rfl,
    show k1_pay37 W h e = gF W e h from rfl, show k1_pay38 W h e = gO W e h from rfl, wp_pure]
  iintro H
  imodintro
  iexact H

/-- Step 3 ends and step 4 begins. -/
theorem part7_run (a v : BitVec 32)
    {Q : (Σ' (_ : FVec F S1024x256 .f32) (_ : FVec F S1024x256 .bf16) (_ : BitVec 32) (_ : FVec F S1024x128 .bf16) (_ : FVec F S1024x256 .bf16) (_ : FVec F S1024x256 .bf16), FVec F S1024x256 .f32) → sProp 𝕄} :
    iprop(owns (tcThr d) A2 fullShare E ∗ owns (tcThr d) A5 fullShare Y
      ∗ (∀ v', iprop(owns (tcThr d) A2 fullShare E ∗ owns (tcThr d) A5 fullShare (putRow Y (rowNo i 3) (rowY (cellH W e h c))))
        -∗ Q ⟨cellC W e h c, cellB W e h c, v', eAt i E 4, gI W (eAt i E 4) (cellB W e h c), gG W (eAt i E 4) (cellB W e h c), zxF W (eAt i E 4)⟩))
    ⊢ wp frame (wpE (defs₀ (F := F)) 𝒱₀ (tcThr d) none) Set.univ (k1_part7 (F := F) i A2 h2 A3 h3 A4 h4 A5 h5 A6 h6 A7 h7 A8 h8 a W c v (gI W e h) (gG W e h) (gF W e h) (gO W e h)) Q := by
  rw [k1_part7_eq_skeleton]
  unfold k1_part7_skel
  simp only [Prog.bind_lift]
  iintro ⟨HE, HY, Hk⟩
  iapply load_part $$ [HY]
  · iexact HY
  iintro HY
  iapply (store_row 3 (by decide) rfl rfl (rowY (cellH W e h c)) (show k1_pay42 c (gI W e h) (gG W e h) (gF W e h) (gO W e h) = _ from rfl)) $$ [HY]
  · iexact HY
  iintro HY
  iapply (load_row 4 (by decide) rfl rfl) $$ [HE]
  · iexact HE
  iintro HE
  rw [show k1_pay39 c (gI W e h) (gG W e h) (gF W e h) = cellC W e h c from rfl,
    show k1_pay41 c (gI W e h) (gG W e h) (gF W e h) (gO W e h) = cellB W e h c from rfl,
    show k1_pay43 (rowBox E (rowNo i 4)) = eAt i E 4 from rfl,
    show k1_pay44 W c (gI W e h) (gG W e h) (gF W e h) (gO W e h) (rowBox E (rowNo i 4)) = gI W (eAt i E 4) (cellB W e h c) from rfl,
    show k1_pay45 W c (gI W e h) (gG W e h) (gF W e h) (gO W e h) (rowBox E (rowNo i 4)) = gG W (eAt i E 4) (cellB W e h c) from rfl,
    show k1_pay46 W (rowBox E (rowNo i 4)) = zxF W (eAt i E 4) from rfl, wp_pure]
  imodintro
  iapply Hk
  isplitl [HE]; · iexact HE
  iexact HY

/-- Step 4 ends and step 5 begins. -/
theorem part8_run (a v : BitVec 32) {Q : (Σ' (_ : FVec F S1024x256 .f32) (_ : FVec F S1024x256 .bf16) (_ : BitVec 32), FVec F S1024x128 .bf16) → sProp 𝕄} :
    iprop(owns (tcThr d) A2 fullShare E ∗ owns (tcThr d) A5 fullShare Y
      ∗ (∀ v', iprop(owns (tcThr d) A2 fullShare E ∗ owns (tcThr d) A5 fullShare (putRow Y (rowNo i 4) (rowY (cellH W e h c)))) -∗ Q ⟨cellC W e h c, cellB W e h c, v', eAt i E 5⟩))
    ⊢ wp frame (wpE (defs₀ (F := F)) 𝒱₀ (tcThr d) none) Set.univ (k1_part8 (F := F) i A2 h2 A3 h3 A4 h4 A5 h5 A6 h6 A7 h7 A8 h8 a W c h v e (gI W e h) (gG W e h) (zxF W e)) Q := by
  rw [k1_part8_eq_skeleton]
  unfold k1_part8_skel
  simp only [Prog.bind_lift]
  iintro ⟨HE, HY, Hk⟩
  iapply load_part $$ [HY]
  · iexact HY
  iintro HY
  iapply (store_row 4 (by decide) rfl rfl (rowY (cellH W e h c)) (show k1_pay50 W c h e (gI W e h) (gG W e h) (zxF W e) = _ from rfl)) $$ [HY]
  · iexact HY
  iintro HY
  iapply (load_row 5 (by decide) rfl rfl) $$ [HE]
  · iexact HE
  iintro HE
  rw [show k1_pay47 W c h (gI W e h) (gG W e h) (zxF W e) = cellC W e h c from rfl,
    show k1_pay49 W c h e (gI W e h) (gG W e h) (zxF W e) = cellB W e h c from rfl,
    show k1_pay51 (rowBox E (rowNo i 5)) = eAt i E 5 from rfl, wp_pure]
  imodintro
  iapply Hk
  isplitl [HE]; · iexact HE
  iexact HY

/-- The gates of one step. -/
theorem part9_run {Q : (Σ' (_ : FVec F S1024x256 .bf16) (_ : FVec F S1024x256 .bf16) (_ : FVec F S1024x256 .bf16), FVec F S1024x256 .bf16) → sProp 𝕄} :
    Q ⟨gI W e h, gG W e h, gF W e h, gO W e h⟩
    ⊢ wp frame (wpE (defs₀ (F := F)) 𝒱₀ (tcThr d) none) Set.univ (k1_part9 (F := F) i A2 h2 A3 h3 A4 h4 A5 h5 A6 h6 A7 h7 A8 h8 W h e) Q := by
  rw [k1_part9_eq_skeleton]
  unfold k1_part9_skel
  rw [show k1_pay52 W h e = gI W e h from rfl, show k1_pay53 W h e = gG W e h from rfl,
    show k1_pay54 W h e = gF W e h from rfl, show k1_pay55 W h e = gO W e h from rfl, wp_pure]
  iintro H
  imodintro
  iexact H

/-- Step 5 ends and step 6 begins. -/
theorem part10_run (a v : BitVec 32)
    {Q : (Σ' (_ : FVec F S1024x256 .f32) (_ : FVec F S1024x256 .bf16) (_ : BitVec 32) (_ : FVec F S1024x128 .bf16) (_ : FVec F S1024x256 .bf16) (_ : FVec F S1024x256 .bf16), FVec F S1024x256 .f32) → sProp 𝕄} :
    iprop(owns (tcThr d) A2 fullShare E ∗ owns (tcThr d) A5 fullShare Y
      ∗ (∀ v', iprop(owns (tcThr d) A2 fullShare E ∗ owns (tcThr d) A5 fullShare (putRow Y (rowNo i 5) (rowY (cellH W e h c))))
        -∗ Q ⟨cellC W e h c, cellB W e h c, v', eAt i E 6, gI W (eAt i E 6) (cellB W e h c), gG W (eAt i E 6) (cellB W e h c), zxF W (eAt i E 6)⟩))
    ⊢ wp frame (wpE (defs₀ (F := F)) 𝒱₀ (tcThr d) none) Set.univ (k1_part10 (F := F) i A2 h2 A3 h3 A4 h4 A5 h5 A6 h6 A7 h7 A8 h8 a W c v (gI W e h) (gG W e h) (gF W e h) (gO W e h)) Q := by
  rw [k1_part10_eq_skeleton]
  unfold k1_part10_skel
  simp only [Prog.bind_lift]
  iintro ⟨HE, HY, Hk⟩
  iapply load_part $$ [HY]
  · iexact HY
  iintro HY
  iapply (store_row 5 (by decide) rfl rfl (rowY (cellH W e h c)) (show k1_pay59 c (gI W e h) (gG W e h) (gF W e h) (gO W e h) = _ from rfl)) $$ [HY]
  · iexact HY
  iintro HY
  iapply (load_row 6 (by decide) rfl rfl) $$ [HE]
  · iexact HE
  iintro HE
  rw [show k1_pay56 c (gI W e h) (gG W e h) (gF W e h) = cellC W e h c from rfl,
    show k1_pay58 c (gI W e h) (gG W e h) (gF W e h) (gO W e h) = cellB W e h c from rfl,
    show k1_pay60 (rowBox E (rowNo i 6)) = eAt i E 6 from rfl,
    show k1_pay61 W c (gI W e h) (gG W e h) (gF W e h) (gO W e h) (rowBox E (rowNo i 6)) = gI W (eAt i E 6) (cellB W e h c) from rfl,
    show k1_pay62 W c (gI W e h) (gG W e h) (gF W e h) (gO W e h) (rowBox E (rowNo i 6)) = gG W (eAt i E 6) (cellB W e h c) from rfl,
    show k1_pay63 W (rowBox E (rowNo i 6)) = zxF W (eAt i E 6) from rfl, wp_pure]
  imodintro
  iapply Hk
  isplitl [HE]; · iexact HE
  iexact HY

/-- Step 6 ends and step 7 begins. -/
theorem part11_run (a v : BitVec 32) {Q : (Σ' (_ : FVec F S1024x256 .f32) (_ : FVec F S1024x256 .bf16) (_ : BitVec 32), FVec F S1024x128 .bf16) → sProp 𝕄} :
    iprop(owns (tcThr d) A2 fullShare E ∗ owns (tcThr d) A5 fullShare Y
      ∗ (∀ v', iprop(owns (tcThr d) A2 fullShare E ∗ owns (tcThr d) A5 fullShare (putRow Y (rowNo i 6) (rowY (cellH W e h c)))) -∗ Q ⟨cellC W e h c, cellB W e h c, v', eAt i E 7⟩))
    ⊢ wp frame (wpE (defs₀ (F := F)) 𝒱₀ (tcThr d) none) Set.univ (k1_part11 (F := F) i A2 h2 A3 h3 A4 h4 A5 h5 A6 h6 A7 h7 A8 h8 a W c h v e (gI W e h) (gG W e h) (zxF W e)) Q := by
  rw [k1_part11_eq_skeleton]
  unfold k1_part11_skel
  simp only [Prog.bind_lift]
  iintro ⟨HE, HY, Hk⟩
  iapply load_part $$ [HY]
  · iexact HY
  iintro HY
  iapply (store_row 6 (by decide) rfl rfl (rowY (cellH W e h c)) (show k1_pay67 W c h e (gI W e h) (gG W e h) (zxF W e) = _ from rfl)) $$ [HY]
  · iexact HY
  iintro HY
  iapply (load_row 7 (by decide) rfl rfl) $$ [HE]
  · iexact HE
  iintro HE
  rw [show k1_pay64 W c h (gI W e h) (gG W e h) (zxF W e) = cellC W e h c from rfl,
    show k1_pay66 W c h e (gI W e h) (gG W e h) (zxF W e) = cellB W e h c from rfl,
    show k1_pay68 (rowBox E (rowNo i 7)) = eAt i E 7 from rfl, wp_pure]
  imodintro
  iapply Hk
  isplitl [HE]; · iexact HE
  iexact HY

/-- The gates of one step. -/
theorem part12_run {Q : (Σ' (_ : FVec F S1024x256 .bf16) (_ : FVec F S1024x256 .bf16) (_ : FVec F S1024x256 .bf16), FVec F S1024x256 .bf16) → sProp 𝕄} :
    Q ⟨gI W e h, gG W e h, gF W e h, gO W e h⟩
    ⊢ wp frame (wpE (defs₀ (F := F)) 𝒱₀ (tcThr d) none) Set.univ (k1_part12 (F := F) i A2 h2 A3 h3 A4 h4 A5 h5 A6 h6 A7 h7 A8 h8 W h e) Q := by
  rw [k1_part12_eq_skeleton]
  unfold k1_part12_skel
  rw [show k1_pay69 W h e = gI W e h from rfl, show k1_pay70 W h e = gG W e h from rfl,
    show k1_pay71 W h e = gF W e h from rfl, show k1_pay72 W h e = gO W e h from rfl, wp_pure]
  iintro H
  imodintro
  iexact H

/-- Step 7 ends and step 8 begins. -/
theorem part13_run (a v : BitVec 32)
    {Q : (Σ' (_ : FVec F S1024x256 .f32) (_ : FVec F S1024x256 .bf16) (_ : BitVec 32) (_ : FVec F S1024x128 .bf16) (_ : FVec F S1024x256 .bf16) (_ : FVec F S1024x256 .bf16), FVec F S1024x256 .f32) → sProp 𝕄} :
    iprop(owns (tcThr d) A2 fullShare E ∗ owns (tcThr d) A5 fullShare Y
      ∗ (∀ v', iprop(owns (tcThr d) A2 fullShare E ∗ owns (tcThr d) A5 fullShare (putRow Y (rowNo i 7) (rowY (cellH W e h c))))
        -∗ Q ⟨cellC W e h c, cellB W e h c, v', eAt i E 8, gI W (eAt i E 8) (cellB W e h c), gG W (eAt i E 8) (cellB W e h c), zxF W (eAt i E 8)⟩))
    ⊢ wp frame (wpE (defs₀ (F := F)) 𝒱₀ (tcThr d) none) Set.univ (k1_part13 (F := F) i A2 h2 A3 h3 A4 h4 A5 h5 A6 h6 A7 h7 A8 h8 a W c v (gI W e h) (gG W e h) (gF W e h) (gO W e h)) Q := by
  rw [k1_part13_eq_skeleton]
  unfold k1_part13_skel
  simp only [Prog.bind_lift]
  iintro ⟨HE, HY, Hk⟩
  iapply load_part $$ [HY]
  · iexact HY
  iintro HY
  iapply (store_row 7 (by decide) rfl rfl (rowY (cellH W e h c)) (show k1_pay76 c (gI W e h) (gG W e h) (gF W e h) (gO W e h) = _ from rfl)) $$ [HY]
  · iexact HY
  iintro HY
  iapply (load_row 8 (by decide) rfl rfl) $$ [HE]
  · iexact HE
  iintro HE
  rw [show k1_pay73 c (gI W e h) (gG W e h) (gF W e h) = cellC W e h c from rfl,
    show k1_pay75 c (gI W e h) (gG W e h) (gF W e h) (gO W e h) = cellB W e h c from rfl,
    show k1_pay77 (rowBox E (rowNo i 8)) = eAt i E 8 from rfl,
    show k1_pay78 W c (gI W e h) (gG W e h) (gF W e h) (gO W e h) (rowBox E (rowNo i 8)) = gI W (eAt i E 8) (cellB W e h c) from rfl,
    show k1_pay79 W c (gI W e h) (gG W e h) (gF W e h) (gO W e h) (rowBox E (rowNo i 8)) = gG W (eAt i E 8) (cellB W e h c) from rfl,
    show k1_pay80 W (rowBox E (rowNo i 8)) = zxF W (eAt i E 8) from rfl, wp_pure]
  imodintro
  iapply Hk
  isplitl [HE]; · iexact HE
  iexact HY

/-- Step 8 ends and step 9 begins. -/
theorem part14_run (a v : BitVec 32) {Q : (Σ' (_ : FVec F S1024x256 .f32) (_ : FVec F S1024x256 .bf16) (_ : BitVec 32), FVec F S1024x128 .bf16) → sProp 𝕄} :
    iprop(owns (tcThr d) A2 fullShare E ∗ owns (tcThr d) A5 fullShare Y
      ∗ (∀ v', iprop(owns (tcThr d) A2 fullShare E ∗ owns (tcThr d) A5 fullShare (putRow Y (rowNo i 8) (rowY (cellH W e h c)))) -∗ Q ⟨cellC W e h c, cellB W e h c, v', eAt i E 9⟩))
    ⊢ wp frame (wpE (defs₀ (F := F)) 𝒱₀ (tcThr d) none) Set.univ (k1_part14 (F := F) i A2 h2 A3 h3 A4 h4 A5 h5 A6 h6 A7 h7 A8 h8 a W c h v e (gI W e h) (gG W e h) (zxF W e)) Q := by
  rw [k1_part14_eq_skeleton]
  unfold k1_part14_skel
  simp only [Prog.bind_lift]
  iintro ⟨HE, HY, Hk⟩
  iapply load_part $$ [HY]
  · iexact HY
  iintro HY
  iapply (store_row 8 (by decide) rfl rfl (rowY (cellH W e h c)) (show k1_pay84 W c h e (gI W e h) (gG W e h) (zxF W e) = _ from rfl)) $$ [HY]
  · iexact HY
  iintro HY
  iapply (load_row 9 (by decide) rfl rfl) $$ [HE]
  · iexact HE
  iintro HE
  rw [show k1_pay81 W c h (gI W e h) (gG W e h) (zxF W e) = cellC W e h c from rfl,
    show k1_pay83 W c h e (gI W e h) (gG W e h) (zxF W e) = cellB W e h c from rfl,
    show k1_pay85 (rowBox E (rowNo i 9)) = eAt i E 9 from rfl, wp_pure]
  imodintro
  iapply Hk
  isplitl [HE]; · iexact HE
  iexact HY

/-- The gates of one step. -/
theorem part15_run {Q : (Σ' (_ : FVec F S1024x256 .bf16) (_ : FVec F S1024x256 .bf16) (_ : FVec F S1024x256 .bf16), FVec F S1024x256 .bf16) → sProp 𝕄} :
    Q ⟨gI W e h, gG W e h, gF W e h, gO W e h⟩
    ⊢ wp frame (wpE (defs₀ (F := F)) 𝒱₀ (tcThr d) none) Set.univ (k1_part15 (F := F) i A2 h2 A3 h3 A4 h4 A5 h5 A6 h6 A7 h7 A8 h8 W h e) Q := by
  rw [k1_part15_eq_skeleton]
  unfold k1_part15_skel
  rw [show k1_pay86 W h e = gI W e h from rfl, show k1_pay87 W h e = gG W e h from rfl,
    show k1_pay88 W h e = gF W e h from rfl, show k1_pay89 W h e = gO W e h from rfl, wp_pure]
  iintro H
  imodintro
  iexact H

end Cert.Gather

end
-- ==== Proof.StepsBody.lean ====
/-
  The body of the recurrence at one point of the grid: ten steps from the state and the memory kept between points, reset
  at the first point of a direction; the block of outputs is written whole, and the last state at a direction's last point.
-/
module

public import proofs.«01_k».proof.Proof.Steps
public import Idealize.ShloMosaic.Lib.Pipeline.Value

@[expose] public section

noncomputable section

namespace Cert.Gather

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The state and the memory a point starts from: the direction's own at its first point, else those kept. -/
def startOf (i : grid1.Coords) (H : FVec F S1024x256 .f32) (s : FVec F S1024x256 .bf16 × FVec F S1024x256 .f32) : FVec F S1024x256 .bf16 × FVec F S1024x256 .f32 :=
  if (i 1).val = 0 then (hStart H, cStart) else s

variable (d : Dev nD) (i : grid1.Coords) (A2 : Memref sig .tc .vmem S10x1024x128 .f32) (h2 : A2.IsWhole) (A3 : Memref sig .tc .vmem S1024x256 .f32) (h3 : A3.IsWhole)
  (A4 : Memref sig .tc .vmem S1x384x1024 .bf16) (h4 : A4.IsWhole) (A5 : Memref sig .tc .vmem S10x1024x256 .f32) (h5 : A5.IsWhole) (A6 : Memref sig .tc .vmem S1024x256 .f32) (h6 : A6.IsWhole)
  (A7 : Memref sig .tc .vmem S1024x256 .bf16) (h7 : A7.IsWhole) (A8 : Memref sig .tc .vmem S1024x256 .f32) (h8 : A8.IsWhole)
  (E : S10x1024x128.Idx → F .f32) (Y : S10x1024x256.Idx → F .f32) (H : FVec F S1024x256 .f32) (V : Vec F S1x384x1024 .bf16) (Z : FVec F S1024x256 .f32)
  (W : FVec F S384x1024 .bf16) (s : FVec F S1024x256 .bf16 × FVec F S1024x256 .f32)

theorem first_iff (i : grid1.Coords) : Scalar.cmpi .ne (Scalar.extui (Scalar.cmpi .eq (BitVec.ofNat 32 (i 1).val) 0#32) : BitVec 32) 0#32 = 1#1 ↔ (i 1).val = 0 := by
  have h : (i 1).val < 5 := (i 1).isLt
  rcases (by omega : (i 1).val = 0 ∨ (i 1).val = 1 ∨ (i 1).val = 2 ∨ (i 1).val = 3 ∨ (i 1).val = 4) with e | e | e | e | e <;> rw [e] <;> decide

theorem last_iff (i : grid1.Coords) : k1_cond2 i = 1#1 ↔ (i 1).val = 4 := by
  have h : (i 1).val < 5 := (i 1).isLt
  unfold k1_cond2
  rcases (by omega : (i 1).val = 0 ∨ (i 1).val = 1 ∨ (i 1).val = 2 ∨ (i 1).val = 3 ∨ (i 1).val = 4) with e | e | e | e | e <;> simp only [e] <;> decide

/-- The first part: the state and the memory are reset at a direction's first point, and the first step begins. -/
theorem part1_run {Q : (Σ' (_ : BitVec 32) (_ : BitVec 32) (_ : FVec F S384x1024 .bf16) (_ : Vec F S1024x256 .bf16) (_ : Vec F S1024x256 .f32) (_ : BitVec 32) (_ : FVec F S1024x128 .bf16) (_ : FVec F S1024x256 .bf16) (_ : FVec F S1024x256 .bf16), FVec F S1024x256 .f32) → sProp 𝕄} :
    iprop(owns (tcThr d) A2 fullShare E ∗ owns (tcThr d) A3 fullShare H ∗ owns (tcThr d) A4 fullShare V ∗ owns (tcThr d) A7 fullShare s.1 ∗ owns (tcThr d) A8 fullShare s.2
      ∗ (∀ a a' v, iprop(owns (tcThr d) A2 fullShare E ∗ owns (tcThr d) A3 fullShare H ∗ owns (tcThr d) A4 fullShare V
          ∗ owns (tcThr d) A7 fullShare (startOf i H s).1 ∗ owns (tcThr d) A8 fullShare (startOf i H s).2)
        -∗ Q ⟨a, a', matW V, (startOf i H s).1, (startOf i H s).2, v, eAt i E 0, gI (matW V) (eAt i E 0) (startOf i H s).1, gG (matW V) (eAt i E 0) (startOf i H s).1, zxF (matW V) (eAt i E 0)⟩))
    ⊢ wp frame (wpE (defs₀ (F := F)) 𝒱₀ (tcThr d) none) Set.univ (k1_part1 (F := F) i A2 h2 A3 h3 A4 h4 A5 h5 A6 h6 A7 h7 A8 h8) Q := by
  rw [k1_part1_eq_skeleton]
  unfold k1_part1_skel
  simp only [Prog.bind_lift]
  have key : ∀ (t : FVec F S1024x256 .bf16 × FVec F S1024x256 .f32), startOf i H s = t →
      iprop(owns (tcThr d) A2 fullShare E ∗ owns (tcThr d) A3 fullShare H ∗ owns (tcThr d) A4 fullShare V ∗ owns (tcThr d) A7 fullShare t.1 ∗ owns (tcThr d) A8 fullShare t.2
      ∗ (∀ a a' v, iprop(owns (tcThr d) A2 fullShare E ∗ owns (tcThr d) A3 fullShare H ∗ owns (tcThr d) A4 fullShare V
          ∗ owns (tcThr d) A7 fullShare (startOf i H s).1 ∗ owns (tcThr d) A8 fullShare (startOf i H s).2)
        -∗ Q ⟨a, a', matW V, (startOf i H s).1, (startOf i H s).2, v, eAt i E 0, gI (matW V) (eAt i E 0) (startOf i H s).1, gG (matW V) (eAt i E 0) (startOf i H s).1, zxF (matW V) (eAt i E 0)⟩))
      ⊢ wp frame (wpE (defs₀ (F := F)) 𝒱₀ (tcThr d) none) Set.univ (.op (.load A4 (Rect.unit (s := S1x384x1024) ![0, 0, 0] S1x384x1024.size inb_S1x384x1024_S1x384x1024_0_0_0).toLoadRect (View.loadsAt_vmem h_S1x384x1024)) fun v3 =>
          .op (.load A7 (Rect.unit (s := S1024x256) ![0, 0] S1024x256.size inb_S1024x256_S1024x256_0_0).toLoadRect (View.loadsAt_vmem h_S1024x256)) fun v5 =>
          .op (.load A8 (Rect.unit (s := S1024x256) ![0, 0] S1024x256.size inb_S1024x256_S1024x256_0_0).toLoadRect (View.loadsAt_vmem h_S1024x256)) fun v6 =>
          .op (.load A2 (Rect.unit (s := S10x1024x128) (k1_off1 i 0#32 9#32) S1x1024x128.size (k1_off1_inb i 0)).toLoadRect (View.loadsAt_vmem h_S1x1024x128)) fun v10 =>
          pure ⟨BitVec.ofNat 32 (i 0).val, BitVec.ofNat 32 (i 1).val, k1_pay8 v3, v5, v6, Scalar.select (Scalar.cmpi .eq (BitVec.ofNat 32 (i 0).val) 0#32) 0#32 9#32, k1_pay9 v10, k1_pay10 v3 v5 v10, k1_pay11 v3 v5 v10, k1_pay12 v3 v10⟩) Q := by
    intro t ht
    rw [ht]
    iintro ⟨HE, HH, HV, Hh, Hc, Hk⟩
    iapply load_whole $$ [HV]
    · iexact HV
    iintro HV
    iapply load_whole $$ [Hh]
    · iexact Hh
    iintro Hh
    iapply load_whole $$ [Hc]
    · iexact Hc
    iintro Hc
    iapply (load_row 0 (by decide) rfl rfl) $$ [HE]
    · iexact HE
    iintro HE
    rw [show k1_pay8 V = matW V from rfl, show k1_pay9 (rowBox E (rowNo i 0)) = eAt i E 0 from rfl,
      show k1_pay10 V t.1 (rowBox E (rowNo i 0)) = gI (matW V) (eAt i E 0) t.1 from rfl,
      show k1_pay11 V t.1 (rowBox E (rowNo i 0)) = gG (matW V) (eAt i E 0) t.1 from rfl,
      show k1_pay12 V (rowBox E (rowNo i 0)) = zxF (matW V) (eAt i E 0) from rfl, wp_pure]
    imodintro
    iapply Hk
    isplitl [HE]; · iexact HE
    isplitl [HH]; · iexact HH
    isplitl [HV]; · iexact HV
    isplitl [Hh]; · iexact Hh
    iexact Hc
  by_cases hi : (i 1).val = 0
  · rw [dif_pos ((first_iff i).mpr hi)]
    have hs : startOf i H s = (hStart H, cStart) := if_pos hi
    iintro ⟨HE, HH, HV, Hh, Hc, Hk⟩
    iapply load_whole $$ [HH]
    · iexact HH
    iintro HH
    iapply load_whole $$ [Hh]
    · iexact Hh
    iintro Hh
    iapply (store_whole (w' := hStart H) rfl) $$ [Hh]
    · iexact Hh
    iintro Hh
    iapply load_whole $$ [Hc]
    · iexact Hc
    iintro Hc
    iapply (store_whole (w' := cStart) rfl) $$ [Hc]
    · iexact Hc
    iintro Hc
    iapply (key _ hs)
    isplitl [HE]; · iexact HE
    isplitl [HH]; · iexact HH
    isplitl [HV]; · iexact HV
    isplitl [Hh]; · iexact Hh
    isplitl [Hc]; · iexact Hc
    iexact Hk
  · rw [dif_neg (fun h => hi ((first_iff i).mp h))]
    exact key s (if_neg hi)

/-- What is kept of the last step: its memory and its state. -/
theorem keep_memory (e : FVec F S1024x128 .bf16) (h : FVec F S1024x256 .bf16) (c : FVec F S1024x256 .f32) :
    k1_pay4 c (gI W e h) (gG W e h) (gF W e h) = cellC W e h c := by
  unfold k1_pay4
  dsimp only
  rw [shapeCast_self]; rfl

theorem keep_state (e : FVec F S1024x128 .bf16) (h : FVec F S1024x256 .bf16) (c : FVec F S1024x256 .f32) :
    k1_pay5 c (gI W e h) (gG W e h) (gF W e h) (gO W e h) = cellB W e h c := by
  unfold k1_pay5
  dsimp only
  rw [shapeCast_self]; rfl

/-- The last step, spelled out. -/
theorem steps_ten : stepsFrom i E W s 10 = (cellB W (eAt i E 9) (stepsFrom i E W s 9).1 (stepsFrom i E W s 9).2, cellC W (eAt i E 9) (stepsFrom i E W s 9).1 (stepsFrom i E W s 9).2) := rfl

/-- The whole body. -/
theorem body_run :
    iprop(owns (tcThr d) A2 fullShare E ∗ owns (tcThr d) A3 fullShare H ∗ owns (tcThr d) A4 fullShare V ∗ owns (tcThr d) A5 fullShare Y ∗ owns (tcThr d) A6 fullShare Z
      ∗ owns (tcThr d) A7 fullShare s.1 ∗ owns (tcThr d) A8 fullShare s.2)
    ⊢ wp frame (wpE (defs₀ (F := F)) 𝒱₀ (tcThr d) none) Set.univ (cc1__lstm_body (F := F) i A2 h2 A3 h3 A4 h4 A5 h5 A6 h6 A7 h7 A8 h8) fun _ =>
      (iprop(owns (tcThr d) A2 fullShare E ∗ owns (tcThr d) A3 fullShare H ∗ owns (tcThr d) A4 fullShare V
        ∗ owns (tcThr d) A5 fullShare (outs i E (matW V) (startOf i H s))
        ∗ owns (tcThr d) A6 fullShare (if (i 1).val = 4 then outAt i E (matW V) (startOf i H s) 9 else Z)
        ∗ owns (tcThr d) A7 fullShare (stepsFrom i E (matW V) (startOf i H s) 10).1 ∗ owns (tcThr d) A8 fullShare (stepsFrom i E (matW V) (startOf i H s) 10).2) : sProp 𝕄) := by
  rw [cc1__lstm_body_eq_skeleton]
  unfold cc1__lstm_body_skel
  iintro ⟨HE, HH, HV, HY, HZ, Hh, Hc⟩
  rw [wp_bind]
  iapply (part1_run d i A2 h2 A3 h3 A4 h4 A5 h5 A6 h6 A7 h7 A8 h8 E H V s)
  isplitl [HE]; · iexact HE
  isplitl [HH]; · iexact HH
  isplitl [HV]; · iexact HV
  isplitl [Hh]; · iexact Hh
  isplitl [Hc]; · iexact Hc
  iintro %a0 %a1 %v0 ⟨HE, HH, HV, Hh, Hc⟩
  dsimp only
  rw [wp_bind]
  iapply (part2_run d i A2 h2 A3 h3 A4 h4 A5 h5 A6 h6 A7 h7 A8 h8 E (outsInto i E (matW V) (startOf i H s) Y 0) (matW V) (eAt i E 0) (stepsFrom i E (matW V) (startOf i H s) 0).1 (stepsFrom i E (matW V) (startOf i H s) 0).2)
  isplitl [HE]; · iexact HE
  isplitl [HY]; · iexact HY
  iintro %v2 ⟨HE, HY⟩
  dsimp only
  rw [wp_bind]
  iapply (part3_run d i A2 h2 A3 h3 A4 h4 A5 h5 A6 h6 A7 h7 A8 h8 (matW V) (eAt i E 1) (stepsFrom i E (matW V) (startOf i H s) 1).1)
  dsimp only
  rw [wp_bind]
  iapply (part4_run d i A2 h2 A3 h3 A4 h4 A5 h5 A6 h6 A7 h7 A8 h8 E (outsInto i E (matW V) (startOf i H s) Y 1) (matW V) (eAt i E 1) (stepsFrom i E (matW V) (startOf i H s) 1).1 (stepsFrom i E (matW V) (startOf i H s) 1).2)
  isplitl [HE]; · iexact HE
  isplitl [HY]; · iexact HY
  iintro %v4 ⟨HE, HY⟩
  dsimp only
  rw [wp_bind]
  iapply (part5_run d i A2 h2 A3 h3 A4 h4 A5 h5 A6 h6 A7 h7 A8 h8 E (outsInto i E (matW V) (startOf i H s) Y 2) (matW V) (eAt i E 2) (stepsFrom i E (matW V) (startOf i H s) 2).1 (stepsFrom i E (matW V) (startOf i H s) 2).2)
  isplitl [HE]; · iexact HE
  isplitl [HY]; · iexact HY
  iintro %v5 ⟨HE, HY⟩
  dsimp only
  rw [wp_bind]
  iapply (part6_run d i A2 h2 A3 h3 A4 h4 A5 h5 A6 h6 A7 h7 A8 h8 (matW V) (eAt i E 3) (stepsFrom i E (matW V) (startOf i H s) 3).1)
  dsimp only
  rw [wp_bind]
  iapply (part7_run d i A2 h2 A3 h3 A4 h4 A5 h5 A6 h6 A7 h7 A8 h8 E (outsInto i E (matW V) (startOf i H s) Y 3) (matW V) (eAt i E 3) (stepsFrom i E (matW V) (startOf i H s) 3).1 (stepsFrom i E (matW V) (startOf i H s) 3).2)
  isplitl [HE]; · iexact HE
  isplitl [HY]; · iexact HY
  iintro %v7 ⟨HE, HY⟩
  dsimp only
  rw [wp_bind]
  iapply (part8_run d i A2 h2 A3 h3 A4 h4 A5 h5 A6 h6 A7 h7 A8 h8 E (outsInto i E (matW V) (startOf i H s) Y 4) (matW V) (eAt i E 4) (stepsFrom i E (matW V) (startOf i H s) 4).1 (stepsFrom i E (matW V) (startOf i H s) 4).2)
  isplitl [HE]; · iexact HE
  isplitl [HY]; · iexact HY
  iintro %v8 ⟨HE, HY⟩
  dsimp only
  rw [wp_bind]
  iapply (part9_run d i A2 h2 A3 h3 A4 h4 A5 h5 A6 h6 A7 h7 A8 h8 (matW V) (eAt i E 5) (stepsFrom i E (matW V) (startOf i H s) 5).1)
  dsimp only
  rw [wp_bind]
  iapply (part10_run d i A2 h2 A3 h3 A4 h4 A5 h5 A6 h6 A7 h7 A8 h8 E (outsInto i E (matW V) (startOf i H s) Y 5) (matW V) (eAt i E 5) (stepsFrom i E (matW V) (startOf i H s) 5).1 (stepsFrom i E (matW V) (startOf i H s) 5).2)
  isplitl [HE]; · iexact HE
  isplitl [HY]; · iexact HY
  iintro %v10 ⟨HE, HY⟩
  dsimp only
  rw [wp_bind]
  iapply (part11_run d i A2 h2 A3 h3 A4 h4 A5 h5 A6 h6 A7 h7 A8 h8 E (outsInto i E (matW V) (startOf i H s) Y 6) (matW V) (eAt i E 6) (stepsFrom i E (matW V) (startOf i H s) 6).1 (stepsFrom i E (matW V) (startOf i H s) 6).2)
  isplitl [HE]; · iexact HE
  isplitl [HY]; · iexact HY
  iintro %v11 ⟨HE, HY⟩
  dsimp only
  rw [wp_bind]
  iapply (part12_run d i A2 h2 A3 h3 A4 h4 A5 h5 A6 h6 A7 h7 A8 h8 (matW V) (eAt i E 7) (stepsFrom i E (matW V) (startOf i H s) 7).1)
  dsimp only
  rw [wp_bind]
  iapply (part13_run d i A2 h2 A3 h3 A4 h4 A5 h5 A6 h6 A7 h7 A8 h8 E (outsInto i E (matW V) (startOf i H s) Y 7) (matW V) (eAt i E 7) (stepsFrom i E (matW V) (startOf i H s) 7).1 (stepsFrom i E (matW V) (startOf i H s) 7).2)
  isplitl [HE]; · iexact HE
  isplitl [HY]; · iexact HY
  iintro %v13 ⟨HE, HY⟩
  dsimp only
  rw [wp_bind]
  iapply (part14_run d i A2 h2 A3 h3 A4 h4 A5 h5 A6 h6 A7 h7 A8 h8 E (outsInto i E (matW V) (startOf i H s) Y 8) (matW V) (eAt i E 8) (stepsFrom i E (matW V) (startOf i H s) 8).1 (stepsFrom i E (matW V) (startOf i H s) 8).2)
  isplitl [HE]; · iexact HE
  isplitl [HY]; · iexact HY
  iintro %v14 ⟨HE, HY⟩
  dsimp only
  rw [wp_bind]
  iapply (part15_run d i A2 h2 A3 h3 A4 h4 A5 h5 A6 h6 A7 h7 A8 h8 (matW V) (eAt i E 9) (stepsFrom i E (matW V) (startOf i H s) 9).1)
  dsimp only
  simp only [Prog.bind_lift]
  iapply load_part $$ [HY]
  · iexact HY
  iintro HY
  iapply (store_row 9 (by decide) rfl rfl (rowY (outAt i E (matW V) (startOf i H s) 9)) rfl) $$ [HY]
  · iexact HY
  iintro HY
  iapply load_whole $$ [Hc]
  · iexact Hc
  iintro Hc
  iapply (store_whole (keep_memory (matW V) (eAt i E 9) (stepsFrom i E (matW V) (startOf i H s) 9).1 (stepsFrom i E (matW V) (startOf i H s) 9).2)) $$ [Hc]
  · iexact Hc
  iintro Hc
  iapply load_whole $$ [Hh]
  · iexact Hh
  iintro Hh
  iapply (store_whole (keep_state (matW V) (eAt i E 9) (stepsFrom i E (matW V) (startOf i H s) 9).1 (stepsFrom i E (matW V) (startOf i H s) 9).2)) $$ [Hh]
  · iexact Hh
  iintro Hh
  rw [steps_ten]
  by_cases hi : (i 1).val = 4
  · rw [dif_pos ((last_iff i).mpr hi), if_pos hi]
    simp only [Prog.bind_op]
    iapply load_whole $$ [HZ]
    · iexact HZ
    iintro HZ
    iapply (store_whole (w' := outAt i E (matW V) (startOf i H s) 9) rfl) $$ [HZ]
    · iexact HZ
    iintro HZ
    rw [wp_pure]
    imodintro
    isplitl [HE]; · iexact HE
    isplitl [HH]; · iexact HH
    isplitl [HV]; · iexact HV
    isplitl [HY]; · rw [← outsInto_ten i E (matW V) (startOf i H s) Y]; iexact HY
    isplitl [HZ]; · iexact HZ
    isplitl [Hh]; · iexact Hh
    iexact Hc
  · rw [dif_neg (fun h => hi ((last_iff i).mp h)), if_neg hi]
    rw [wp_pure]
    imodintro
    isplitl [HE]; · iexact HE
    isplitl [HH]; · iexact HH
    isplitl [HV]; · iexact HV
    isplitl [HY]; · rw [← outsInto_ten i E (matW V) (startOf i H s) Y]; iexact HY
    isplitl [HZ]; · iexact HZ
    isplitl [Hh]; · iexact Hh
    iexact Hc

end Cert.Gather

end
-- ==== Proof.Region.lean ====
/-
  The recurrence's pipeline: what each staging buffer holds at each of its ten points, what is kept between the points,
  and the body's obligation at each point.
-/
module

public import proofs.«01_k».proof.Proof.StepsBody
public import proofs.«01_k».proof.Proof.Gen.KernelIdeal.Launch
public import proofs.«01_k».proof.Proof.Gen.KernelIdeal.Points
public import Idealize.ShloMosaic.Lib.Pipeline.Regions
public import Idealize.ShloMosaic.Lib.Pipeline.FrameTail

@[expose] public section

noncomputable section

namespace Cert.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

/-- The contents of a device's buffers as the pipeline is entered. -/
abbrev Vals (F : FTy → Type) : Type := (d : Dev nD) → (b : Ref sig .tc) → Buf (Elt F) ((d : Thread nD τ).loc b)

variable (V : Vals F) (d : Dev nD)

/-- The blocks of embeddings, starting states and weights that point `t` reads. -/
def blkE (t : Fin cfg1.N) : S10x1024x128.Idx → F .f32 := ((cfg1.win 0).blk t).view.read (Elt F) (V d main_v4)
def blkH (t : Fin cfg1.N) : S1024x256.Idx → F .f32 := ((cfg1.win 1).blk t).view.read (Elt F) (V d main_arg1)
def blkW (t : Fin cfg1.N) : S1x384x1024.Idx → F .bf16 := ((cfg1.win 2).blk t).view.read (Elt F) (V d main_v10)

/-- Point `t`, for any number (by its remainder). -/
def pt (t : ℕ) : Fin cfg1.N := ⟨t % 10, lt_of_lt_of_eq (Nat.mod_lt _ (by decide)) N_1.symm⟩

theorem pt_val (t : Fin cfg1.N) : pt t.val = t := Fin.ext (Nat.mod_eq_of_lt (lt_of_lt_of_eq t.isLt N_1))

/-- The point's coordinates: the direction, and the block of steps. -/
theorem coord0 : ∀ t : Fin cfg1.N, ((grid1.coords t) 0).val = t.val / 5 := by decide +kernel
theorem coord1 : ∀ t : Fin cfg1.N, ((grid1.coords t) 1).val = t.val % 5 := by decide +kernel

/-- The state and the memory kept before point `t`. -/
def kept : ℕ → FVec F S1024x256 .bf16 × FVec F S1024x256 .f32
  | 0 => (hStart (blkH V d (pt 0)), cStart)
  | t + 1 => stepsFrom (grid1.coords (pt t)) (blkE V d (pt t)) (matW (blkW V d (pt t))) (startOf (grid1.coords (pt t)) (blkH V d (pt t)) (kept t)) 10

/-- What point `t`'s ten steps start from. -/
def startAt (t : Fin cfg1.N) : FVec F S1024x256 .bf16 × FVec F S1024x256 .f32 := startOf (grid1.coords t) (blkH V d t) (kept V d t.val)

/-- The block of outputs point `t` writes, and the last state of its ten steps. -/
def blkY (t : Fin cfg1.N) : S10x1024x256.Idx → F .f32 := outs (grid1.coords t) (blkE V d t) (matW (blkW V d t)) (startAt V d t)
def blkZ (t : Fin cfg1.N) : S1024x256.Idx → F .f32 := outAt (grid1.coords t) (blkE V d t) (matW (blkW V d t)) (startAt V d t) 9

theorem kept_succ (t : Fin cfg1.N) : kept V d (t.val + 1) = stepsFrom (grid1.coords t) (blkE V d t) (matW (blkW V d t)) (startAt V d t) 10 := by
  show stepsFrom (grid1.coords (pt t.val)) (blkE V d (pt t.val)) (matW (blkW V d (pt t.val))) (startOf (grid1.coords (pt t.val)) (blkH V d (pt t.val)) (kept V d t.val)) 10 = _
  rw [pt_val]; rfl

/-- Between the points: the two scratch buffers at the state and the memory, which a direction's first point does not read. -/
def Kept (n : ℕ) : sProp 𝕄 :=
  iprop(∃ s : FVec F S1024x256 .bf16 × FVec F S1024x256 .f32, ⌜n % 5 ≠ 0 → s = kept V d n⌝
    ∗ owns (tcThr d) (Memref.whole cc1_scratch0) fullShare s.1 ∗ owns (tcThr d) (Memref.whole cc1_scratch1) fullShare s.2)

/-- The proof data: the arrays at their contents on entry; the staging buffers after each body. -/
def dats (_ : Fin 1) (d : Dev nD) : Dat τ (Elt F) (HIx 1) ℕ UU ℕ cfg1 d where
  A w := V d (Pipeline.arrRef spec1 w)
  after w t := match w with
    | ⟨0, _⟩ => blkE V d t
    | ⟨1, _⟩ => blkH V d t
    | ⟨2, _⟩ => blkW V d t
    | ⟨3, _⟩ => blkY V d t
    | ⟨4, _⟩ => blkZ V d t
  Φ t := Kept V d t.val
  q _ := fullShare
  owed _ := 0

theorem A_eq (w : Fin cfg1.W) : (dats V 0 d).A w = V d (Pipeline.arrRef spec1 w) := by dsimp only [dats]

/-- The input windows hold their blocks whenever the body runs. -/
theorem before0 (t : Fin cfg1.N) (x) : (dats V 0 d).before 0 t x = blkE V d t :=
  (Dat.before_in_eq_fetched _ 0 rfl (fun _ => rfl) (fun _ _ _ => rfl) (fun _ => by dsimp only [dats]; rfl) t x).trans rfl
theorem before1 (t : Fin cfg1.N) (x) : (dats V 0 d).before 1 t x = blkH V d t :=
  (Dat.before_in_eq_fetched _ 1 rfl (fun _ => rfl) (fun _ _ _ => rfl) (fun _ => by dsimp only [dats]; rfl) t x).trans rfl
theorem before2 (t : Fin cfg1.N) (x) : (dats V 0 d).before 2 t x = blkW V d t :=
  (Dat.before_in_eq_fetched _ 2 rfl (fun _ => rfl) (fun _ _ _ => rfl) (fun _ => by dsimp only [dats]; rfl) t x).trans rfl

theorem after0 (t : Fin cfg1.N) : (dats V 0 d).after 0 t = blkE V d t := by dsimp only [dats]
theorem after1 (t : Fin cfg1.N) : (dats V 0 d).after 1 t = blkH V d t := by dsimp only [dats]
theorem after2 (t : Fin cfg1.N) : (dats V 0 d).after 2 t = blkW V d t := by dsimp only [dats]
theorem after3 (t : Fin cfg1.N) : (dats V 0 d).after 3 t = blkY V d t := by dsimp only [dats]
theorem after4 (t : Fin cfg1.N) : (dats V 0 d).after 4 t = blkZ V d t := by dsimp only [dats]

/-- The window of last states is written at a direction's last point only. -/
theorem idle4 (t : Fin cfg1.N) : idle1 4 (grid1.coords t) = !decide (((grid1.coords t) 1).val = 4) := by
  show (!(k1_cond2 (grid1.coords t) == 1#1)) = _
  by_cases h : ((grid1.coords t) 1).val = 4
  · rw [decide_eq_true h, (last_iff _).mpr h]; rfl
  · rw [decide_eq_false h]
    have : ¬ k1_cond2 (grid1.coords t) = 1#1 := fun e => h ((last_iff _).mp e)
    rw [beq_eq_false_iff_ne.mpr this]

theorem flush4 (t : Fin cfg1.N) : (win1 4).flush t = decide (((grid1.coords t) 1).val = 4) := by
  rw [Bool.eq_iff_iff, flush1_4, decide_eq_true_iff, coord1]

/-- The body's obligation at each point. -/
theorem body_obligation : BodyObligation (dats V 0 d) (defs₀ (F := F)) 𝒱₀ (none : HIx 1) Set.univ := fun t => by
  rw [bigSep_W1, bigSep_W1]
  dsimp only
  rw [show (dats V 0 d).Φ t.castSucc = Kept V d t.val from rfl, show (dats V 0 d).Φ t.succ = Kept V d (t.val + 1) from rfl,
    show (dats V 0 d).owesAt (none : HIx 1) t.succ = (dats V 0 d).owesAt (none : HIx 1) t.castSucc from rfl]
  rw [idle4, flush4, after0, after1, after2, after3, after4]
  simp only [before0, before1, before2]
  rw [show defs₀ (F := F) Proc.tc 1 (t, cfg1.slots t) = bodyAt1 t from rfl]
  unfold Kept
  iintro ⟨⟨%s, %hs, S0, S1⟩, HO, ⟨%x0, H0⟩, ⟨%x1, H1⟩, ⟨%x2, H2⟩, ⟨%x3, H3⟩, ⟨%x4, H4⟩⟩
  have hst : startOf (grid1.coords t) (blkH V d t) s = startAt V d t := by
    show startOf _ _ s = startOf _ _ _
    unfold startOf
    by_cases h : ((grid1.coords t) 1).val = 0
    · rw [if_pos h, if_pos h]
    · rw [if_neg h, if_neg h, hs (by rw [← coord1]; exact h)]
  have hk := kept_succ V d t
  ihave Hw := (body_run d (grid1.coords t) (stage1_0 (cfg1.slots t 0)) _ (stage1_1 (cfg1.slots t 1)) _ (stage1_2 (cfg1.slots t 2)) _ (stage1_3 (cfg1.slots t 3)) _ (stage1_4 (cfg1.slots t 4)) _ (Memref.whole cc1_scratch0) _ (Memref.whole cc1_scratch1) _ (blkE V d t) _ (blkH V d t) (blkW V d t) _ s) $$ [S0 S1 H0 H1 H2 H3 H4]
  · isplitl [H0]
    · iexact H0
    isplitl [H1]
    · iexact H1
    isplitl [H2]
    · iexact H2
    isplitl [H3]
    · iexact H3
    isplitl [H4]
    · iexact H4
    isplitl [S0]
    · iexact S0
    iexact S1
  rw [hst, ← hk]
  iapply (wp_wand Idealize.ShloMosaic.frame _ _) $$ Hw
  iintro %_ ⟨H0, H1, H2, H3, H4, S0, S1⟩
  isplitl [S0 S1]
  · iexists (kept V d (t.val + 1))
    isplitr
    · ipureintro; exact fun _ => rfl
    isplitl [S0]
    · iexact S0
    iexact S1
  isplitl [HO]
  · iexact HO
  isplitl [H0]
  · iexact H0
  isplitl [H1]
  · iexact H1
  isplitl [H2]
  · iexact H2
  isplitl [H3]
  · iexact H3
  by_cases h : ((grid1.coords t) 1).val = 4
  · rw [if_pos h, decide_eq_true h]
    rw [Bool.not_true]
    iexact H4
  · rw [if_neg h, decide_eq_false h]
    rw [Bool.not_false]
    iexists x4
    iexact H4

end Cert.Gather

end
-- ==== Proof.Enter.lean ====
/-
  The recurrence's pipeline as one segment of the program: entered with every unscoped buffer at given contents, left with
  the two result arrays at what the pipeline wrote and every other buffer as it was.
-/
module

public import proofs.«01_k».proof.Proof.Region

@[expose] public section

noncomputable section

namespace Cert.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig (HIx 1) (Elt F) ℕ UU ℕ

/-- No table is prefetched. -/
abbrev adm : (p : Fin 1) → (pcfgs (F := F) p).Adm := fun p => (cfgs p).toPCfg_adm

/-- A device's buffers as a valuation, read at its TensorCore's names. -/
abbrev atRefs (W : Dev nD → Valuation τ sig (Elt F)) : Vals F := fun d b => W d (Proc.devRef .tc b)

variable (W : Dev nD → Valuation τ sig (Elt F))

/-- The buffers after the pipeline. -/
def leave (d : Dev nD) : Valuation τ sig (Elt F) := Pipeline.afterRegion (dats (atRefs W) 0 d) (W d)

/-- The TensorCore owes nothing. -/
abbrev Unbound (d : Dev nD) : sProp 𝕄 := iprop(∃ w, owes (tcThr d) (0 : CellTallies nD τ sig (HIx 1)) w)

theorem kept_open (V : Vals F) (d : Dev nD) (n : ℕ) (h : n % 5 = 0) :
    (Pipeline.scopedRest (Ix := HIx 1) (Name := ℕ) (U := UU) (Lvl := ℕ) (Val := Elt F) spec1 d : sProp 𝕄) ⊢ Kept V d n := by
  rw [scopedRest1_eq]
  unfold Kept
  simp only [owns_whole_eq]
  iintro ⟨⟨%f, H0⟩, ⟨%g, H1⟩⟩
  iexists ((f, g) : FVec F S1024x256 .bf16 × FVec F S1024x256 .f32)
  isplitr
  · ipureintro; exact fun e => absurd h e
  isplitl [H0]
  · iexists f
    isplitr
    · ipureintro; rfl
    iexact H0
  · iexists g
    isplitr
    · ipureintro; rfl
    iexact H1

theorem kept_close (V : Vals F) (d : Dev nD) (n : ℕ) :
    Kept V d n ⊢ (Pipeline.scopedRest (Ix := HIx 1) (Name := ℕ) (U := UU) (Lvl := ℕ) (Val := Elt F) spec1 d : sProp 𝕄) := by
  rw [scopedRest1_eq]
  unfold Kept
  simp only [owns_whole_eq]
  iintro ⟨%s, -, ⟨%f, -, H0⟩, ⟨%g, -, H1⟩⟩
  isplitl [H0]
  · iexists f; iexact H0
  · iexists g; iexact H1

-- the launch facts are stated over `cfgs p`; at the pinned configuration they unify only by unfolding plain definitions
-- in the type of a metavariable
set_option backward.isDefEq.respectTransparency.types false in
/-- The pipeline's segment. -/
def reg : Pipeline.RegionSeg (pcfgs (F := F)) adm (dats (atRefs W)) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation (atRefs W) d).loose
  hwaits := Pipeline.hwaits_of_owed_zero _ _ _ _ (K (F := F)).L (K (F := F)).lev 0 fun _ _ => rfl
  pre d := iprop(unscopedBufs d (atRefs W d) ∗ Unbound d)
  post d := iprop(unscopedBufs d (atRefs (leave W) d) ∗ Unbound d)
  X _ := BI.emp
  Y _ := BI.emp
  Z d := Pipeline.unscopedRest (Ix := HIx 1) (Name := ℕ) (U := UU) (Lvl := ℕ) spec1 d (atRefs W d)
  hentry d := by
    rw [Pipeline.ownSems0_none]
    have hsplit := Pipeline.arrays_of_unscopedBufs (p := 0) (pcfgs (F := F)) adm (dats (atRefs W)) launch1.win launch1.arr_whole d
      ((dats (atRefs W) 0 d).share_full fun _ => rfl) (atRefs W d) (A_eq (atRefs W) d)
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%w, HO⟩; iexists w
      isplitr
      · ipureintro; exact fun _ _ => Or.inl trivial
      iexact HO
    isplitr
    · iempintro
    iexact Hrest
  hin d := by
    rw [show (dats (atRefs W) 0 d).Φ 0 = Kept (atRefs W) d 0 from rfl]
    iintro ⟨-, -, Hr⟩
    iapply (kept_open (atRefs W) d 0 rfl) $$ Hr
  hout d := by
    rw [Pipeline.ownSems0_none, show (dats (atRefs W) 0 d).Φ (Fin.last _) = Kept (atRefs W) d cfg1.N from rfl]
    iintro Hr
    isplitr
    · iempintro
    isplitr
    · iempintro
    iapply (kept_close (atRefs W) d cfg1.N) $$ Hr
  hexit d := by
    have hjoin := Pipeline.unscopedBufs_of_arrays (p := 0) (pcfgs (F := F)) adm (Ix := HIx 1) (Name := ℕ) (U := UU) (Lvl := ℕ)
      launch1.win launch1.arr_whole d (dats (atRefs W)) ((dats (atRefs W) 0 d).share_full fun _ => rfl)
      (atRefs W d) (atRefs (leave W) d) ((dats (atRefs W) 0 d).arrAt · cfg1.N)
      (fun w => (Pipeline.afterRegion_arr (dats (atRefs W) 0 d) (W d) launch1.win.arr_inj w).symm)
      (fun b hb => Pipeline.afterRegion_of_not_arr (dats (atRefs W) 0 d) (W d)
        fun w h => hb (h ▸ Finset.mem_image.mpr ⟨w, Finset.mem_univ _, rfl⟩))
    iintro ⟨Ha, HO, -, Hrest⟩
    imodintro
    isplitl [Ha Hrest]
    · iapply hjoin
      isplitl [Ha] <;> iassumption
    · unfold Pipeline.Dat.owesAt Pipeline.owesWithin
      icases HO with ⟨%w, -, HO⟩
      iexists w
      iexact HO

end Cert.Gather

end
-- ==== Proof.Actions.lean ====
/-
  The five actions of the gather pipeline, each a rule for one operation of the program: start a copy in, wait for it,
  gather the rows a slot names and wait for them, start a copy out, wait for it. Each is stated for an offset of any
  spelling that names its slot or block, with what a slot holds before and after as a value.
-/
module

public import proofs.«01_k».proof.Defs
public import proofs.«01_k».proof.Proof.Setup

@[expose] public section

noncomputable section

namespace Cert.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

omit [FloatOps F] in
/-- The rows of a slot credit together what the slot's wait takes. -/
theorem sum_gat (off : Fin 3 → ℕ) (h : ∀ a, off a + S1x256x128.size a ≤ S2x256x128.size a) :
    ∑ j, ((rowSlot off h).slice (S256x128.rowRect gathers_S100000x128_S256x128.axis' j) (S256x128.stride_rowRect gathers_S100000x128_S256x128.axis' j)).view.dmaCredit = gatN := by
  exact (SparseCore.sum_rowCredit_eq_dmaCredit _ _ (fun _ => rfl)).trans rfl

/-- A copy in starts: the slot and the block go into flight. -/
theorem start_in (s : Fin 2) (b : ℕ) {off : Fin 3 → ℕ} {off' : Fin 2 → ℕ} {off'' : Fin 1 → ℕ}
    {h : ∀ a, off a + S1x1x256.size a ≤ S2x1x256.size a} {h' : ∀ a, off' a + S1x256.size a ≤ S1x51200.size a} {h'' : ∀ a, off'' a + S1.size a ≤ S2.size a}
    (e : off = ![s.val, 0, 0]) (e' : off' = ![0, 256 * b]) (e'' : off'' = ![s.val])
    (q : PosShare TreeShare) (X : S1x51200.Idx → BitVec 32) (f : S2x1x256.Idx → BitVec 32)
    {hs : (idxBlk off' h').view.WordExact} {hd : (inSlot off h).view.WordExact}
    {ht : DmaTarget.Typed (nD := nD) .hbm (.dma (inSem off'' h'')) (.here (inSlot off h) : DmaTarget nD τ sig (thr d L).2 .vmem S1x256 .i32)}
    {Q : PUnit → sProp 𝕄} :
    iprop(lstPts (F := F) d L s f ∗ idxPts d (idxSet b) q X ∗ semVal (inCell d L s) 0)
      ⊢ iprop((InFlight (F := F) d L s q X b -∗ Q ⟨⟩)
          -∗ wp frame (wpE (defs₀ (F := F)) 𝒱₀ (thr d L) none) Set.univ
              (Prog.lift (.enqueueDma (idxBlk off' h') (.here (inSlot off h)) (.dma (inSem off'' h'')) hs hd ht)) Q) := by
  have hm : ∀ (g : S2x1x256.Idx → BitVec 32), iprop(((inSlot off h).view.loc (thr d L) ↦[(inSlot off h).view.set]{fullShare} (inSlot off h).view.write (Elt F) g ((idxBlk off' h').view.read (Elt F) X) Finset.univ)
      ∗ ((idxBlk off' h').view.loc (thr d L) ↦[(idxBlk off' h').view.set]{q} X)) ⊢ (iprop(lstPts d L s (lstOf X b) ∗ idxPts d (idxSet b) q X) : sProp 𝕄) := by
    intro g
    rw [set_inSlot s h e, set_idxBlk b h' e']
    exact BIClass.sep_mono (Entails.of_eq (pointsTo_congr (write_inSlot (F := F) X s b h h' e e' g))) .rfl
  have hl : (lstPts d L s f : sProp 𝕄) ⊢ ((inSlot off h).view.loc (thr d L) ↦[(inSlot off h).view.set]{fullShare} f) := by
    rw [set_inSlot s h e]
  have hi : (idxPts d (idxSet b) q X : sProp 𝕄) ⊢ ((idxBlk off' h').view.loc (thr d L) ↦[(idxBlk off' h').view.set]{q} X) := by
    rw [set_idxBlk b h' e']
  have hv : (semVal (inCell d L s) 0 : sProp 𝕄) ⊢ semVal (thr d L, SemLoc.dma (inSem off'' h'')) 0 := by rw [inSem_eq s h'' e'']
  refine (BIClass.sep_mono hl (BIClass.sep_mono hi hv)).trans ?_
  iintro ⟨Hl, Hi, Hv⟩ Hk
  iapply (Transfers.wp_dmaLocal countersEmb 𝒱₀ (thr d L) none (src := idxBlk off' h') (dst := inSlot off h) (via := .same) (default : HIx 1) inN
    (by rfl) (by decide) (Finset.Subset.refl _)) $$ [Hl Hi Hv]
  · isplitl [Hi]; · iexact Hi
    isplitl [Hl]; · iexact Hl
    iexact Hv
  iintro Hfl
  rw [wp_ret]
  imodintro
  iapply Hk
  rw [inSem_eq s h'' e'']
  iapply (Transfers.Flight_mono countersEmb (thr d L) (hm f)) $$ Hfl

/-- A wait of the thread's own copies, kept in `Owing`. -/
theorem owing_insert {O : CellTallies nD τ sig (HIx 1)} {W W' : Waits sig (HIx 1)} (sem : SemLoc sig) (hW : ∀ p ∈ W', p ∈ W ∨ p.2 = none) :
    (owes (thr d L) O (insert (sem, (default : HIx 1)) W') : sProp 𝕄) ⊢ iprop(∃ W', ⌜∀ p ∈ W', p ∈ W ∨ p.2 = none⌝ ∗ owes (thr d L) O W') := by
  iintro HO
  iexists _; isplitr
  swap; · iexact HO
  ipureintro; intro p hp
  rcases Finset.mem_insert.mp hp with hp | hp
  · exact .inr (hp ▸ rfl)
  · exact hW p hp

/-- The wait for a copy in: the slot holds the block. -/
theorem wait_in (s : Fin 2) (b : ℕ) {off : Fin 3 → ℕ} {off' : Fin 2 → ℕ} {off'' : Fin 1 → ℕ}
    {h : ∀ a, off a + S1x1x256.size a ≤ S2x1x256.size a} {h' : ∀ a, off' a + S1x256.size a ≤ S1x51200.size a} {h'' : ∀ a, off'' a + S1.size a ≤ S2.size a}
    (e'' : off'' = ![s.val]) (q : PosShare TreeShare) (X : S1x51200.Idx → BitVec 32)
    {hs : (idxBlk off' h').view.WordExact} {hd : (inSlot off h).view.WordExact}
    {O : CellTallies nD τ sig (HIx 1)} {W : Waits sig (HIx 1)} (hO : ∀ g, O g none = 0) {Q : PUnit → sProp 𝕄} :
    iprop(levAts (K (F := F)).L (K (F := F)).lev ∗ InFlight (F := F) d L s q X b ∗ Owing d L O W)
      ⊢ iprop((iprop(lstPts d L s (lstOf X b) ∗ idxPts d (idxSet b) q X ∗ semVal (inCell d L s) 0 ∗ Owing d L O W) -∗ Q ⟨⟩)
          -∗ wp frame (wpE (defs₀ (F := F)) 𝒱₀ (thr d L) none) Set.univ
              (Prog.lift (.waitDma2 (inSem off'' h'') (idxBlk off' h') (inSlot off h) hs hd)) Q) := by
  rw [inSem_eq s h'' e'']
  unfold Owing
  iintro ⟨#Hlv, Hfl, ⟨%W', %hW, HO⟩⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (dstw := inSlot off h) (default : HIx 1) (show (inSlot off h).view.dmaCredit = inN by rfl)) $$ [Hfl HO Hmw]
  · isplitl [Hfl]; · iexact Hfl
    isplitl [HO]; · iexact HO
    iapply (Transfers.MayWaits.elim (SemLoc.dma (inS s))) $$ Hmw
  iintro ⟨⟨Hl, Hi⟩, Hv, HO⟩
  rw [wp_ret]
  imodintro
  iapply Hk
  isplitl [Hl]; · iexact Hl
  isplitl [Hi]; · iexact Hi
  isplitl [Hv]; · iexact Hv
  iapply (owing_insert d L (SemLoc.dma (inS s)) hW) $$ HO

/-- A copy out starts. -/
theorem start_out (s : Fin 2) (b : ℕ) {off : Fin 3 → ℕ} {off' : Fin 2 → ℕ} {off'' : Fin 1 → ℕ}
    {h : ∀ a, off a + S1x256x128.size a ≤ S2x256x128.size a} {h' : ∀ a, off' a + S256x128.size a ≤ S51200x128.size a} {h'' : ∀ a, off'' a + S1.size a ≤ S2.size a}
    (e : off = ![s.val, 0, 0]) (e' : off' = ![256 * b, 0]) (e'' : off'' = ![s.val])
    (T : S100000x128.Idx → F .f32) (X : S1x51200.Idx → BitVec 32) (f : S51200x128.Idx → F .f32)
    {hs : (rowSlot off h).view.WordExact} {hd : (outBlk off' h').view.WordExact}
    {ht : DmaTarget.Typed (nD := nD) .vmem (.dma (outSem off'' h'')) (.here (outBlk off' h') : DmaTarget nD τ sig (thr d L).2 .hbm S256x128 .f32)}
    {Q : PUnit → sProp 𝕄} :
    iprop(rowPts (F := F) d L s (rowsOf T X b) ∗ outPts d b f ∗ semVal (outCell d L s) 0)
      ⊢ iprop((OutFlight (F := F) d L s T X b -∗ Q ⟨⟩)
          -∗ wp frame (wpE (defs₀ (F := F)) 𝒱₀ (thr d L) none) Set.univ
              (Prog.lift (.enqueueDma (rowSlot off h) (.here (outBlk off' h')) (.dma (outSem off'' h'')) hs hd ht)) Q) := by
  have hm : ∀ (g : S51200x128.Idx → F .f32), iprop(((outBlk off' h').view.loc (thr d L) ↦[(outBlk off' h').view.set]{fullShare}
        (outBlk off' h').view.write (Elt F) g ((rowSlot off h).view.read (Elt F) (rowsOf T X b)) Finset.univ)
      ∗ ((rowSlot off h).view.loc (thr d L) ↦[(rowSlot off h).view.set]{fullShare} (rowsOf T X b)))
        ⊢ (iprop(outPts d b (gathered T X) ∗ rowPts d L s (rowsOf T X b)) : sProp 𝕄) := by
    intro g
    rw [set_rowSlot s h e, set_outBlk b h' e']
    exact BIClass.sep_mono (Entails.of_eq (pointsTo_congr (write_outBlk (F := F) T X s b h h' e e' g))) .rfl
  have hl : (rowPts d L s (rowsOf T X b) : sProp 𝕄) ⊢ ((rowSlot off h).view.loc (thr d L) ↦[(rowSlot off h).view.set]{fullShare} (rowsOf T X b)) := by
    rw [set_rowSlot s h e]
  have hi : (outPts d b f : sProp 𝕄) ⊢ ((outBlk off' h').view.loc (thr d L) ↦[(outBlk off' h').view.set]{fullShare} f) := by
    rw [set_outBlk b h' e']
  have hv : (semVal (outCell d L s) 0 : sProp 𝕄) ⊢ semVal (thr d L, SemLoc.dma (outSem off'' h'')) 0 := by rw [outSem_eq s h'' e'']
  refine (BIClass.sep_mono hl (BIClass.sep_mono hi hv)).trans ?_
  iintro ⟨Hl, Hi, Hv⟩ Hk
  iapply (Transfers.wp_dmaLocal countersEmb 𝒱₀ (thr d L) none (src := rowSlot off h) (dst := outBlk off' h') (via := .same) (default : HIx 1) outN
    (by rfl) (by decide) (Finset.Subset.refl _)) $$ [Hl Hi Hv]
  · isplitl [Hl]; · iexact Hl
    isplitl [Hi]; · iexact Hi
    iexact Hv
  iintro Hfl
  rw [wp_ret]
  imodintro
  iapply Hk
  rw [outSem_eq s h'' e'']
  iapply (Transfers.Flight_mono countersEmb (thr d L) (hm f)) $$ Hfl

/-- The wait for a copy out: the block of the gathered array is written. -/
theorem wait_out (s : Fin 2) (b : ℕ) {off : Fin 3 → ℕ} {off' : Fin 2 → ℕ} {off'' : Fin 1 → ℕ}
    {h : ∀ a, off a + S1x256x128.size a ≤ S2x256x128.size a} {h' : ∀ a, off' a + S256x128.size a ≤ S51200x128.size a} {h'' : ∀ a, off'' a + S1.size a ≤ S2.size a}
    (e'' : off'' = ![s.val]) (T : S100000x128.Idx → F .f32) (X : S1x51200.Idx → BitVec 32)
    {hs : (rowSlot off h).view.WordExact} {hd : (outBlk off' h').view.WordExact}
    {O : CellTallies nD τ sig (HIx 1)} {W : Waits sig (HIx 1)} (hO : ∀ g, O g none = 0) {Q : PUnit → sProp 𝕄} :
    iprop(levAts (K (F := F)).L (K (F := F)).lev ∗ OutFlight (F := F) d L s T X b ∗ Owing d L O W)
      ⊢ iprop((iprop(outPts d b (gathered T X) ∗ rowPts d L s (rowsOf T X b) ∗ semVal (outCell d L s) 0 ∗ Owing d L O W) -∗ Q ⟨⟩)
          -∗ wp frame (wpE (defs₀ (F := F)) 𝒱₀ (thr d L) none) Set.univ
              (Prog.lift (.waitDma2 (outSem off'' h'') (rowSlot off h) (outBlk off' h') hs hd)) Q) := by
  rw [outSem_eq s h'' e'']
  unfold Owing
  iintro ⟨#Hlv, Hfl, ⟨%W', %hW, HO⟩⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (dstw := outBlk off' h') (default : HIx 1) (show (outBlk off' h').view.dmaCredit = outN by rfl)) $$ [Hfl HO Hmw]
  · isplitl [Hfl]; · iexact Hfl
    isplitl [HO]; · iexact HO
    iapply (Transfers.MayWaits.elim (SemLoc.dma (outS s))) $$ Hmw
  iintro ⟨⟨Hl, Hi⟩, Hv, HO⟩
  rw [wp_ret]
  imodintro
  iapply Hk
  isplitl [Hl]; · iexact Hl
  isplitl [Hi]; · iexact Hi
  isplitl [Hv]; · iexact Hv
  iapply (owing_insert d L (SemLoc.dma (outS s)) hW) $$ HO

/-- The gather starts: the rows the slot's list names, every one of them a row of the table. -/
theorem start_gather (s : Fin 2) (b : ℕ) {off off' : Fin 3 → ℕ}
    {h : ∀ a, off a + S1x256x128.size a ≤ S2x256x128.size a} {h' : ∀ a, off' a + S1x1x256.size a ≤ S2x1x256.size a}
    (e : off = ![s.val, 0, 0]) (e' : off' = ![s.val, 0, 0])
    (q : PosShare TreeShare) (T : S100000x128.Idx → F .f32) (X : S1x51200.Idx → BitVec 32) (hX : ∀ n, (X n).toNat < 100000) (f : S2x256x128.Idx → F .f32)
    {hp : (thr d L).2.kind = .scVector} {hn : S256.numel = S256x128.size gathers_S100000x128_S256x128.axis'}
    {hs : tabAll.view.WordExact} {he : (EltTy.f32).bits = 32} {hsp : (Space.hbm : Space) = .hbm ∨ (Space.hbm : Space) = .shared} {hr : S100000x128.StreamRows 0} {Q : PUnit → sProp 𝕄} :
    iprop(tabPts (F := F) d q T ∗ rowPts d L s f ∗ lstPts d L s (lstOf X b) ∗ semVal (gatCell d L) 0)
      ⊢ iprop((GatFlight (F := F) d L s q T X b -∗ Q ⟨⟩)
          -∗ wp frame (wpE (defs₀ (F := F)) 𝒱₀ (thr d L) none) Set.univ
              (SparseCore.enqueueIndirectGather hp tabAll (rowSlot off h) gathers_S100000x128_S256x128 (lstSlot off' h') hn gatSem hs he hsp hr) Q) := by
  have hin : ∀ x, ((lstSlot off' h').view.read (Elt F) (lstOf X b) x).toNat < S100000x128.size gathers_S100000x128_S256x128.axis := by
    intro x; rw [read_lstSlot X s b h' e']; exact hX _
  have hm : ∀ (g : S2x256x128.Idx → F .f32), iprop(((rowSlot off h).view.loc (thr d L) ↦[(rowSlot off h).view.set]{fullShare}
        (rowSlot off h).view.write (Elt F) g (SparseCore.gatherPayload gathers_S100000x128_S256x128 (tabAll.view.read (Elt F) T)
          (SparseCore.rows ((lstSlot off' h').view.read (Elt F) (lstOf X b)) hn hin)) Finset.univ)
      ∗ (tabAll.view.loc (thr d L) ↦[tabAll.view.set]{q} T) ∗ ((lstSlot off' h').view.loc (thr d L) ↦[(lstSlot off' h').view.set]{fullShare} (lstOf X b)))
        ⊢ (iprop(rowPts d L s (rowsOf T X b) ∗ tabPts d q T ∗ lstPts d L s (lstOf X b)) : sProp 𝕄) := by
    intro g
    rw [set_rowSlot s h e, set_lstSlot s h' e', set_tabAll]
    exact BIClass.sep_mono (Entails.of_eq (pointsTo_congr (write_rowSlot (F := F) T X s b h h' e e' g hn hin))) .rfl
  have ht : (tabPts d q T : sProp 𝕄) ⊢ (tabAll.view.loc (thr d L) ↦[tabAll.view.set]{q} T) := by rw [set_tabAll]
  have hl : (lstPts d L s (lstOf X b) : sProp 𝕄) ⊢ ((lstSlot off' h').view.loc (thr d L) ↦[(lstSlot off' h').view.set]{fullShare} (lstOf X b)) := by
    rw [set_lstSlot s h' e']
  have hi : (rowPts d L s f : sProp 𝕄) ⊢ ((rowSlot off h).view.loc (thr d L) ↦[(rowSlot off h).view.set]{fullShare} f) := by
    rw [set_rowSlot s h e]
  refine (BIClass.sep_mono ht (BIClass.sep_mono hi (BIClass.sep_mono hl .rfl))).trans ?_
  rw [← bind_pure (SparseCore.enqueueIndirectGather hp tabAll (rowSlot off h) gathers_S100000x128_S256x128 (lstSlot off' h') hn gatSem hs he hsp hr)]
  iintro ⟨Ht, Hi, Hl, Hv⟩ Hk
  iapply (SparseCore.wp_indirectGatherLocal countersEmb 𝒱₀ (thr d L) none (hg := gathers_S100000x128_S256x128) (default : HIx 1) gatN
    (sum_gat off h) (by decide) hin) $$ [Ht Hi Hl Hv]
  · isplitl [Ht]; · iexact Ht
    isplitl [Hi]; · iexact Hi
    isplitl [Hl]; · iexact Hl
    iexact Hv
  iintro Hfl
  rw [wp_pure]
  imodintro
  iapply Hk
  iapply (Transfers.Flight_mono countersEmb (thr d L) (hm f)) $$ Hfl

/-- The wait for the gather. -/
theorem wait_gather (s : Fin 2) (b : ℕ) {off : Fin 3 → ℕ} {h : ∀ a, off a + S1x256x128.size a ≤ S2x256x128.size a}
    (q : PosShare TreeShare) (T : S100000x128.Idx → F .f32) (X : S1x51200.Idx → BitVec 32)
    {hs : tabAll.view.WordExact} {hd : (rowSlot off h).view.WordExact}
    {O : CellTallies nD τ sig (HIx 1)} {W : Waits sig (HIx 1)} (hO : ∀ g, O g none = 0) {Q : PUnit → sProp 𝕄} :
    iprop(levAts (K (F := F)).L (K (F := F)).lev ∗ GatFlight (F := F) d L s q T X b ∗ Owing d L O W)
      ⊢ iprop((iprop(rowPts d L s (rowsOf T X b) ∗ tabPts d q T ∗ lstPts d L s (lstOf X b) ∗ semVal (gatCell d L) 0 ∗ Owing d L O W) -∗ Q ⟨⟩)
          -∗ wp frame (wpE (defs₀ (F := F)) 𝒱₀ (thr d L) none) Set.univ
              (SparseCore.waitIndirectGather gatSem tabAll (rowSlot off h) hs hd) Q) := by
  unfold Owing SparseCore.waitIndirectGather
  iintro ⟨#Hlv, Hfl, ⟨%W', %hW, HO⟩⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (dstw := rowSlot off h) (default : HIx 1) (show (rowSlot off h).view.dmaCredit = gatN by rfl)) $$ [Hfl HO Hmw]
  · isplitl [Hfl]; · iexact Hfl
    isplitl [HO]; · iexact HO
    iapply (Transfers.MayWaits.elim (SemLoc.dma gatSem)) $$ Hmw
  iintro ⟨⟨Hr, Ht, Hl⟩, Hv, HO⟩
  rw [wp_ret]
  imodintro
  iapply Hk
  isplitl [Hr]; · iexact Hr
  isplitl [Ht]; · iexact Ht
  isplitl [Hl]; · iexact Hl
  isplitl [Hv]; · iexact Hv
  iapply (owing_insert d L (SemLoc.dma gatSem) hW) $$ HO

end Cert.Gather

end
-- ==== Proof.Invariant.lean ====
/-
  What one vector subcore holds before step `k` of its pipeline: one slot of row numbers on its way (or free, at the
  end), the other free; one slot of rows free, the other on its way out (or free, at the start); the blocks of the
  gathered array already written, and those still to come. And the steps that move it on.
-/
module

public import proofs.«01_k».proof.Defs
public import proofs.«01_k».proof.Proof.Actions
public import proofs.«01_k».proof.Proof.Words

@[expose] public section

noncomputable section

namespace Cert.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The slot a counter names. -/
def sl (k : ℕ) : Fin 2 := ⟨k % 2, Nat.mod_lt _ (by decide)⟩
theorem sl_add_two (k : ℕ) : sl (k + 1 + 1) = sl k := Fin.ext (by simp [sl]; omega)
theorem sl_pred {k : ℕ} (h : 0 < k) : sl (k - 1) = sl (k + 1) := Fin.ext (by simp [sl]; omega)

variable (d : Dev nD) (L : grid0.Coords) (qs : Fin 2 → PosShare TreeShare) (q : PosShare TreeShare)
  (T : S100000x128.Idx → F .f32) (X : S1x51200.Idx → BitVec 32) (f₀ : S51200x128.Idx → F .f32)

/-- A free slot of row numbers, with its share of the list; one that block `b` is on its way into, with the rest of it. -/
def Free (s : Fin 2) : sProp 𝕄 := iprop((∃ f, lstPts d L s f) ∗ semVal (inCell d L s) 0 ∗ idxPts d Finset.univ (qs s) X)
def Pend (s : Fin 2) (b : ℕ) : sProp 𝕄 := iprop(InFlight d L s (qs s) X b ∗ idxPts d (Finset.univ \ idxSet b) (qs s) X)
/-- A free slot of rows. -/
def OFree (s : Fin 2) : sProp 𝕄 := iprop((∃ f, rowPts d L s f) ∗ semVal (outCell d L s) 0)

/-- The slot of row numbers step `k` will read. -/
def InPart (k : ℕ) : sProp 𝕄 := if k < nb L then Pend d L qs X (sl k) (b0 L + k) else Free d L qs X (sl k)
/-- The slot of rows the step before `k` filled. -/
def OutPart (k : ℕ) : sProp 𝕄 := if 0 < k then OutFlight d L (sl (k + 1)) T X (b0 L + (k - 1)) else OFree d L (sl (k + 1))
/-- The blocks written, the blocks to come. -/
def Done (k : ℕ) : sProp 𝕄 := bigSep (Finset.range (k - 1)) fun j => outPts d (b0 L + j) (gathered T X)
def Todo (k : ℕ) : sProp 𝕄 := bigSep (Finset.Ico k (nb L)) fun j => outPts d (b0 L + j) f₀

/-- All of it, before step `k`. -/
def Inv (O : CellTallies nD τ sig (HIx 1)) (W : Waits sig (HIx 1)) (k : ℕ) (a : BitVec 32 × BitVec 32 × BitVec 32 × BitVec 32 × BitVec 32) : sProp 𝕄 :=
  iprop(⌜a = st L k⌝ ∗ levAts (K (F := F)).L (K (F := F)).lev ∗ Owing d L O W ∗ tabPts d q T ∗ semVal (gatCell d L) 0
    ∗ InPart d L qs X k ∗ Free d L qs X (sl (k + 1)) ∗ OFree d L (sl k) ∗ OutPart d L T X k ∗ Done d L T X k ∗ Todo d L f₀ k)

/-! ## The blocks -/

theorem todo_take {k : ℕ} (h : k < nb L) : (Todo d L f₀ k : sProp 𝕄) = iprop(outPts d (b0 L + k) f₀ ∗ Todo d L f₀ (k + 1)) := by
  unfold Todo
  rw [← Finset.insert_Ico_succ_left_eq_Ico h, bigSep_insert (by simp)]
  rfl

theorem done_put {k : ℕ} (h : 0 < k) : (Done d L T X (k + 1) : sProp 𝕄) = iprop(outPts d (b0 L + (k - 1)) (gathered T X) ∗ Done d L T X k) := by
  unfold Done
  obtain ⟨j, rfl⟩ : ∃ j, k = j + 1 := ⟨k - 1, by omega⟩
  rw [show j + 1 + 1 - 1 = j + 1 by omega, show j + 1 - 1 = j by omega, Finset.range_add_one, bigSep_insert (by simp)]
  rfl

/-! ## The words' steps -/

/-- An asserted side condition that holds. -/
theorem wp_assumed {P : Prop} {dec : Decidable P} (h : P) {Q : PLift P → sProp 𝕄} :
    Q ⟨h⟩ ⊢ wp frame (wpE (defs₀ (F := F)) 𝒱₀ (thr d L) none) Set.univ (Prog.lift (.assume P dec)) Q := by
  refine BIBase.Entails.trans ?_ (wp_assume 𝒱₀ (thr d L) none Set.univ h)
  rw [wp_ret]
  iintro H; imodintro; iexact H

/-- A guarded action, and the rest of the program after it: taken when its guard holds, and nothing to do when it does
    not. -/
theorem wp_guard {α : Type} {c : Prop} [Decidable c] {p : c → Prog (TpuEff nD τ sig (Elt F) Λ₀ (thr d L).2) PUnit} {rest : PUnit → Prog (TpuEff nD τ sig (Elt F) Λ₀ (thr d L).2) α}
    {P R : sProp 𝕄} {Q : α → sProp 𝕄}
    (hpos : ∀ h : c, P ⊢ iprop((R -∗ wp frame (wpE (defs₀ (F := F)) 𝒱₀ (thr d L) none) Set.univ (rest ⟨⟩) Q) -∗ wp frame (wpE (defs₀ (F := F)) 𝒱₀ (thr d L) none) Set.univ (p h)
        fun x => wp frame (wpE (defs₀ (F := F)) 𝒱₀ (thr d L) none) Set.univ (rest x) Q))
    (hneg : ¬ c → P ⊢ R) :
    P ⊢ iprop((R -∗ wp frame (wpE (defs₀ (F := F)) 𝒱₀ (thr d L) none) Set.univ (rest ⟨⟩) Q) -∗ wp frame (wpE (defs₀ (F := F)) 𝒱₀ (thr d L) none) Set.univ (if h : c then p h >>= rest else rest ⟨⟩) Q) := by
  by_cases hc : c
  · rw [dif_pos hc, wp_bind]
    exact hpos hc
  · rw [dif_neg hc]
    iintro HP Hk
    iapply Hk; iapply (hneg hc); iexact HP

end Cert.Gather

end
-- ==== Proof.Trip.lean ====
/-
  One trip of the gather pipeline on one vector subcore: the next block's row numbers start on their way in, this
  block's arrive, the rows they name are gathered, they start on their way out, and the block before has gone out.
-/
module

public import proofs.«01_k».proof.Defs
public import proofs.«01_k».proof.Proof.Invariant

@[expose] public section

noncomputable section

namespace Cert.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (qs : Fin 2 → PosShare TreeShare) (q : PosShare TreeShare)
  (T : S100000x128.Idx → F .f32) (X : S1x51200.Idx → BitVec 32) (f₀ : S51200x128.Idx → F .f32)

theorem lt_eight {k : ℕ} (h : k < nb L) : k < 8 := by
  have : nb L ≤ 7 := by unfold nb; split <;> omega
  omega

theorem block_lt {k : ℕ} (h : k < nb L) : b0 L + k < 200 := by have := blocks_le L; omega

/-- Block `j` starts on its way in, unless there is none. -/
theorem step_start {j : ℕ} {c : Prop} [Decidable c] (hc : c ↔ j < nb L)
    {off : c → Fin 3 → ℕ} {off' : c → Fin 2 → ℕ} {off'' : c → Fin 1 → ℕ}
    {h : ∀ hc a, off hc a + S1x1x256.size a ≤ S2x1x256.size a} {h' : ∀ hc a, off' hc a + S1x256.size a ≤ S1x51200.size a} {h'' : ∀ hc a, off'' hc a + S1.size a ≤ S2.size a}
    (e : ∀ hc, off hc = ![j % 2, 0, 0]) (e' : ∀ hc, off' hc = ![0, 256 * (b0 L + j)]) (e'' : ∀ hc, off'' hc = ![j % 2])
    {hs : ∀ hc, (idxBlk (off' hc) (h' hc)).view.WordExact} {hd : ∀ hc, (inSlot (off hc) (h hc)).view.WordExact}
    {ht : ∀ hc, DmaTarget.Typed (nD := nD) .hbm (.dma (inSem (off'' hc) (h'' hc))) (.here (inSlot (off hc) (h hc)) : DmaTarget nD τ sig (thr d L).2 .vmem S1x256 .i32)}
    {α : Type} {rest : PUnit → Prog (TpuEff nD τ sig (Elt F) Λ₀ (thr d L).2) α} {Q : α → sProp 𝕄} :
    (Free d L qs X (sl j) : sProp 𝕄)
      ⊢ iprop((InPart d L qs X j -∗ wp frame (wpE (defs₀ (F := F)) 𝒱₀ (thr d L) none) Set.univ (rest ⟨⟩) Q) -∗ wp frame (wpE (defs₀ (F := F)) 𝒱₀ (thr d L) none) Set.univ
          (if hc : c then Prog.lift (.enqueueDma (idxBlk (off' hc) (h' hc)) (.here (inSlot (off hc) (h hc))) (.dma (inSem (off'' hc) (h'' hc))) (hs hc) (hd hc) (ht hc)) >>= rest else rest ⟨⟩) Q) := by
  refine wp_guard d L (fun hcc => ?_) (fun hcc => ?_)
  · unfold Free
    iintro ⟨⟨%f, Hl⟩, Hv, Hi⟩ Hk
    ihave Hi' := (pointsTo_split_subset (q := qs (sl j)) (f := X) (S := Finset.univ) (Finset.subset_univ (idxSet (b0 L + j)))).1 $$ Hi
    icases Hi' with ⟨Hi, Hr⟩
    iapply (start_in d L (sl j) (b0 L + j) (e hcc) (e' hcc) (e'' hcc) (qs (sl j)) X f) $$ [Hl Hi Hv]
    · isplitl [Hl]; · iexact Hl
      isplitl [Hi]; · iexact Hi
      iexact Hv
    iintro Hf
    iapply Hk
    unfold InPart Pend
    rw [if_pos (hc.mp hcc)]
    isplitl [Hf]; · iexact Hf
    iexact Hr
  · unfold InPart
    rw [if_neg (fun h => hcc (hc.mpr h))]

/-- Step `k` waits for block `k`. -/
theorem step_arrive {k : ℕ} (hk : k < nb L) {c : Prop} [Decidable c] (hc : c)
    {off : c → Fin 3 → ℕ} {off' : c → Fin 2 → ℕ} {off'' : c → Fin 1 → ℕ}
    {h : ∀ hc a, off hc a + S1x1x256.size a ≤ S2x1x256.size a} {h' : ∀ hc a, off' hc a + S1x256.size a ≤ S1x51200.size a} {h'' : ∀ hc a, off'' hc a + S1.size a ≤ S2.size a}
    (e'' : ∀ hc, off'' hc = ![k % 2])
    {hs : ∀ hc, (idxBlk (off' hc) (h' hc)).view.WordExact} {hd : ∀ hc, (inSlot (off hc) (h hc)).view.WordExact}
    {O : CellTallies nD τ sig (HIx 1)} {W : Waits sig (HIx 1)} (hO : ∀ g, O g none = 0) {α : Type} {rest : PUnit → Prog (TpuEff nD τ sig (Elt F) Λ₀ (thr d L).2) α} {Q : α → sProp 𝕄} :
    iprop(levAts (K (F := F)).L (K (F := F)).lev ∗ InPart d L qs X k ∗ Owing d L O W)
      ⊢ iprop((iprop(lstPts d L (sl k) (lstOf X (b0 L + k)) ∗ idxPts d Finset.univ (qs (sl k)) X ∗ semVal (inCell d L (sl k)) 0 ∗ Owing d L O W) -∗ wp frame (wpE (defs₀ (F := F)) 𝒱₀ (thr d L) none) Set.univ (rest ⟨⟩) Q)
          -∗ wp frame (wpE (defs₀ (F := F)) 𝒱₀ (thr d L) none) Set.univ
          (if hc : c then Prog.lift (.waitDma2 (inSem (off'' hc) (h'' hc)) (idxBlk (off' hc) (h' hc)) (inSlot (off hc) (h hc)) (hs hc) (hd hc)) >>= rest else rest ⟨⟩) Q) := by
  refine wp_guard d L (fun hcc => ?_) (fun hcc => absurd hc hcc)
  unfold InPart
  rw [if_pos hk]
  unfold Pend
  iintro ⟨#Hlv, ⟨Hf, Hr⟩, HO⟩ Hk
  iapply (wait_in d L (sl k) (b0 L + k) (e'' hcc) (qs (sl k)) X hO) $$ [Hf HO]
  · isplitr; · iexact Hlv
    isplitl [Hf]; · iexact Hf
    iexact HO
  iintro ⟨Hl, Hi, Hv, HO⟩
  iapply Hk
  isplitl [Hl]; · iexact Hl
  isplitl [Hi Hr]
  · iapply (pointsTo_split_subset (q := qs (sl k)) (f := X) (S := Finset.univ) (Finset.subset_univ (idxSet (b0 L + k)))).2
    isplitl [Hi]; · iexact Hi
    iexact Hr
  isplitl [Hv]; · iexact Hv
  iexact HO

/-- Step `k` starts the rows of block `k` on their way out. -/
theorem step_leave {k : ℕ} (hk : k < nb L) {c : Prop} [Decidable c] (hc : c)
    {off : c → Fin 3 → ℕ} {off' : c → Fin 2 → ℕ} {off'' : c → Fin 1 → ℕ}
    {h : ∀ hc a, off hc a + S1x256x128.size a ≤ S2x256x128.size a} {h' : ∀ hc a, off' hc a + S256x128.size a ≤ S51200x128.size a} {h'' : ∀ hc a, off'' hc a + S1.size a ≤ S2.size a}
    (e : ∀ hc, off hc = ![k % 2, 0, 0]) (e' : ∀ hc, off' hc = ![256 * (b0 L + k), 0]) (e'' : ∀ hc, off'' hc = ![k % 2])
    {hs : ∀ hc, (rowSlot (off hc) (h hc)).view.WordExact} {hd : ∀ hc, (outBlk (off' hc) (h' hc)).view.WordExact}
    {ht : ∀ hc, DmaTarget.Typed (nD := nD) .vmem (.dma (outSem (off'' hc) (h'' hc))) (.here (outBlk (off' hc) (h' hc)) : DmaTarget nD τ sig (thr d L).2 .hbm S256x128 .f32)}
    {α : Type} {rest : PUnit → Prog (TpuEff nD τ sig (Elt F) Λ₀ (thr d L).2) α} {Q : α → sProp 𝕄} :
    iprop(rowPts (F := F) d L (sl k) (rowsOf T X (b0 L + k)) ∗ outPts d (b0 L + k) f₀ ∗ semVal (outCell d L (sl k)) 0)
      ⊢ iprop((OutPart d L T X (k + 1) -∗ wp frame (wpE (defs₀ (F := F)) 𝒱₀ (thr d L) none) Set.univ (rest ⟨⟩) Q) -∗ wp frame (wpE (defs₀ (F := F)) 𝒱₀ (thr d L) none) Set.univ
          (if hc : c then Prog.lift (.enqueueDma (rowSlot (off hc) (h hc)) (.here (outBlk (off' hc) (h' hc))) (.dma (outSem (off'' hc) (h'' hc))) (hs hc) (hd hc) (ht hc)) >>= rest else rest ⟨⟩) Q) := by
  refine wp_guard d L (fun hcc => ?_) (fun hcc => absurd hc hcc)
  iintro H Hk
  iapply (start_out d L (sl k) (b0 L + k) (e hcc) (e' hcc) (e'' hcc) T X f₀) $$ H
  iintro Hf
  iapply Hk
  unfold OutPart
  rw [if_pos (Nat.succ_pos k), sl_add_two, Nat.add_sub_cancel]
  iexact Hf

/-- Step `k` waits for the block before to be out, if there is one. -/
theorem step_gone {k : ℕ} {c : Prop} [Decidable c] (hc : c ↔ 0 < k)
    {off : c → Fin 3 → ℕ} {off' : c → Fin 2 → ℕ} {off'' : c → Fin 1 → ℕ}
    {h : ∀ hc a, off hc a + S1x256x128.size a ≤ S2x256x128.size a} {h' : ∀ hc a, off' hc a + S256x128.size a ≤ S51200x128.size a} {h'' : ∀ hc a, off'' hc a + S1.size a ≤ S2.size a}
    (e'' : ∀ hc, off'' hc = ![(k - 1) % 2])
    {hs : ∀ hc, (rowSlot (off hc) (h hc)).view.WordExact} {hd : ∀ hc, (outBlk (off' hc) (h' hc)).view.WordExact}
    {O : CellTallies nD τ sig (HIx 1)} {W : Waits sig (HIx 1)} (hO : ∀ g, O g none = 0) {α : Type} {rest : PUnit → Prog (TpuEff nD τ sig (Elt F) Λ₀ (thr d L).2) α} {Q : α → sProp 𝕄} :
    iprop(levAts (K (F := F)).L (K (F := F)).lev ∗ OutPart d L T X k ∗ Done d L T X k ∗ Owing d L O W)
      ⊢ iprop((iprop(OFree d L (sl (k + 1)) ∗ Done d L T X (k + 1) ∗ Owing d L O W) -∗ wp frame (wpE (defs₀ (F := F)) 𝒱₀ (thr d L) none) Set.univ (rest ⟨⟩) Q)
          -∗ wp frame (wpE (defs₀ (F := F)) 𝒱₀ (thr d L) none) Set.univ
          (if hc : c then Prog.lift (.waitDma2 (outSem (off'' hc) (h'' hc)) (rowSlot (off hc) (h hc)) (outBlk (off' hc) (h' hc)) (hs hc) (hd hc)) >>= rest else rest ⟨⟩) Q) := by
  refine wp_guard d L (fun hcc => ?_) (fun hcc => ?_)
  · have hk := hc.mp hcc
    unfold OutPart
    rw [if_pos hk, done_put d L T X hk]
    iintro ⟨#Hlv, Hf, Hd, HO⟩ Hk
    iapply (wait_out d L (sl (k + 1)) (b0 L + (k - 1)) (off'' := off'' hcc) (h'' := h'' hcc) (by rw [e'' hcc, ← sl_pred hk]; rfl) T X hO) $$ [Hf HO]
    · isplitr; · iexact Hlv
      isplitl [Hf]; · iexact Hf
      iexact HO
    iintro ⟨Ho, Hr, Hv, HO⟩
    iapply Hk
    unfold OFree
    isplitl [Hr Hv]
    · isplitl [Hr]; · iexists _; iexact Hr
      iexact Hv
    isplitl [Ho Hd]
    · isplitl [Ho]; · iexact Ho
      iexact Hd
    iexact HO
  · have hk : k = 0 := by by_contra h; exact hcc (hc.mpr (Nat.pos_of_ne_zero h))
    subst hk
    unfold OutPart Done
    rw [if_neg (Nat.lt_irrefl 0)]
    iintro ⟨-, Hf, Hd, HO⟩
    isplitl [Hf]; · iexact Hf
    isplitl [Hd]; · iexact Hd
    iexact HO

set_option pp.maxSteps 400 in
set_option maxHeartbeats 4000000 in
/-- One trip. -/
theorem trip (hX : ∀ n, (X n).toNat < 100000) {O : CellTallies nD τ sig (HIx 1)} {W : Waits sig (HIx 1)} (hO : ∀ g, O g none = 0)
    (h1 : k0_cond1 L = 1#1) (v11 v41 v45 z1 z2 z3 z4 : BitVec 32) (k : Fin (k0_t1_loop L).trips) (a : BitVec 32 × BitVec 32 × BitVec 32 × BitVec 32 × BitVec 32) :
    Inv d L qs q T X f₀ O W k.val a
      ⊢ wp frame (wpE (defs₀ (F := F)) 𝒱₀ (thr d L) none) Set.univ
          (k0_t1_body L tabV (Memref.isWhole_whole _) idxV (Memref.isWhole_whole _) outV (Memref.isWhole_whole _) lstV (Memref.isWhole_whole _) cc0_scoped1
            rowV (Memref.isWhole_whole _) cc0_scoped3 cc0_scoped4 cc0_scoped5 (w5 L) (w10 L) v11 h1 v41 0#32 z1 z2 z3 z4 v45 k a)
          (Inv d L qs q T X f₀ O W (k.val + 1)) := by
  have hk : k.val < nb L := (trips1 L) ▸ k.isLt
  have h8 : k.val < 8 := lt_eight L hk
  have h7 : nb L ≤ 7 := by unfold nb; split <;> omega
  have h9 : k.val + 1 < 8 := by omega
  have hy := yield_st L k
  unfold Inv
  iintro ⟨%ha, #Hlv, HO, Ht, Hg, Hin, Hfree, Hof, Hout, Hdone, Htodo⟩
  have hst : st L k.val = (BitVec.ofNat 32 (k.val + 1), BitVec.ofNat 32 k.val, BitVec.ofNat 32 k.val, BitVec.ofNat 32 (k.val - 1), BitVec.ofNat 32 k.val) := by
    unfold st
    rw [if_neg (Nat.ne_of_lt hk), Nat.min_eq_left hk]
  rw [hst] at hy
  obtain rfl := ha.trans hst
  have hc1 := chk1 L k
  rw [Nat.min_eq_left hk] at hc1
  unfold k0_t1_body
  simp only [k0_part1_eq_skeleton, k0_part2_eq_skeleton]
  unfold k0_part1_skel k0_part2_skel
  dsimp only
  rw [wp_bind, wp_bind]
  iapply (wp_assumed d L (chk3 L k))
  rw [wp_bind]
  iapply (wp_assumed d L (chk2 L k))
  rw [wp_bind]
  iapply (wp_assumed d L hc1)
  iapply (step_start d L qs X (cond3 L k) (fun _ => off4 ⟨k.val + 1, h9⟩) (fun h => off5 L k ((cond3 L k).mp h)) (fun _ => off6 ⟨k.val + 1, h9⟩)) $$ Hfree
  iintro Hnext
  rw [wp_pure]
  imodintro
  dsimp only
  rw [wp_bind]
  iapply (step_arrive d L qs X hk (cond4 L k) (fun _ => off9 ⟨k.val, h8⟩) hO) $$ [Hin HO]
  · isplitr; · iexact Hlv
    isplitl [Hin]; · iexact Hin
    iexact HO
  iintro ⟨Hl, Hi, Hv, HO⟩
  rw [ite_self, wp_bind]
  ihave Hof' := (show (OFree d L (sl k.val) : sProp 𝕄) ⊢ iprop((∃ f, rowPts d L (sl k.val) f) ∗ semVal (outCell d L (sl k.val)) 0) from .rfl) $$ Hof
  icases Hof' with ⟨⟨%fr, Hr⟩, Hov⟩
  iapply (start_gather d L (sl k.val) (b0 L + k.val) (off10 ⟨k.val, h8⟩) (off11 ⟨k.val, h8⟩) q T X hX fr) $$ [Ht Hr Hl Hg]
  · isplitl [Ht]; · iexact Ht
    isplitl [Hr]; · iexact Hr
    isplitl [Hl]; · iexact Hl
    iexact Hg
  iintro Hf
  rw [wp_bind]
  iapply (wait_gather d L (sl k.val) (b0 L + k.val) q T X hO) $$ [Hf HO]
  · isplitr; · iexact Hlv
    isplitl [Hf]; · iexact Hf
    iexact HO
  iintro ⟨Hr, Ht, Hl, Hg, HO⟩
  rw [wp_pure]
  imodintro
  rw [ite_self]
  ihave Htodo' := (Entails.of_eq (todo_take (F := F) d L f₀ hk)) $$ Htodo
  icases Htodo' with ⟨Ho, Htodo⟩
  iapply (step_leave d L T X f₀ hk (cond7 L k) (fun _ => off12 ⟨k.val, h8⟩) (fun _ => off13 L k) (fun _ => off14 ⟨k.val, h8⟩)) $$ [Hr Ho Hov]
  · isplitl [Hr]; · iexact Hr
    isplitl [Ho]; · iexact Ho
    iexact Hov
  iintro Hleave
  rw [ite_self]
  iapply (step_gone d L T X (cond9 L k) (fun _ => off17 ⟨k.val - 1, by omega⟩) hO) $$ [Hout Hdone HO]
  · isplitr; · iexact Hlv
    isplitl [Hout]; · iexact Hout
    isplitl [Hdone]; · iexact Hdone
    iexact HO
  iintro ⟨Hof, Hdone, HO⟩
  rw [wp_pure]
  imodintro
  isplitr
  · ipureintro
    rw [← hy]
    rfl
  isplitr; · iexact Hlv
  isplitl [HO]; · iexact HO
  isplitl [Ht]; · iexact Ht
  isplitl [Hg]; · iexact Hg
  isplitl [Hnext]; · iexact Hnext
  isplitl [Hl Hv Hi]
  · rw [sl_add_two]
    unfold Free
    isplitl [Hl]; · iexists _; iexact Hl
    isplitl [Hv]; · iexact Hv
    iexact Hi
  isplitl [Hof]; · iexact Hof
  isplitl [Hleave]; · iexact Hleave
  isplitl [Hdone]; · iexact Hdone
  iexact Htodo

end Cert.Gather

end
-- ==== Proof.Tile.lean ====
/-
  The whole of the gather on one vector subcore, from its slots free to its slots free: all its blocks of the gathered
  array are written.
-/
module

public import proofs.«01_k».proof.Defs
public import proofs.«01_k».proof.Proof.Trip

@[expose] public section

noncomputable section

namespace Cert.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (qs : Fin 2 → PosShare TreeShare) (q : PosShare TreeShare)
  (T : S100000x128.Idx → F .f32) (X : S1x51200.Idx → BitVec 32) (f₀ : S51200x128.Idx → F .f32)

/-- Two slots that follow each other are both slots. -/
theorem both (R : Fin 2 → sProp 𝕄) (k : ℕ) : iprop(R (sl k) ∗ R (sl (k + 1))) ⊢ iprop(R 0 ∗ R 1) := by
  rcases Nat.mod_two_eq_zero_or_one k with h | h
  · rw [show sl k = 0 from Fin.ext h, show sl (k + 1) = 1 from Fin.ext (by simp [sl]; omega)]
  · rw [show sl k = 1 from Fin.ext h, show sl (k + 1) = 0 from Fin.ext (by simp [sl]; omega)]
    iintro ⟨H1, H0⟩
    isplitl [H0]; · iexact H0
    iexact H1

set_option pp.maxSteps 60 in
set_option maxHeartbeats 4000000 in
theorem tile_run (hX : ∀ n, (X n).toNat < 100000) {O : CellTallies nD τ sig (HIx 1)} {W : Waits sig (HIx 1)} (hO : ∀ g, O g none = 0) :
    iprop(levAts (K (F := F)).L (K (F := F)).lev ∗ Owing d L O W ∗ tabPts d q T ∗ semVal (gatCell d L) 0
        ∗ Free d L qs X 0 ∗ Free d L qs X 1 ∗ OFree d L 0 ∗ OFree d L 1 ∗ Todo d L f₀ 0)
      ⊢ wp frame (wpE (defs₀ (F := F)) 𝒱₀ (thr d L) none) Set.univ
          (cc0_gather_kernel L tabV (Memref.isWhole_whole _) idxV (Memref.isWhole_whole _) outV (Memref.isWhole_whole _) lstV (Memref.isWhole_whole _) cc0_scoped1
            rowV (Memref.isWhole_whole _) cc0_scoped3 cc0_scoped4 cc0_scoped5)
          fun _ => iprop(Owing d L O W ∗ tabPts d q T ∗ semVal (gatCell d L) 0
            ∗ (Free d L qs X 0 ∗ Free d L qs X 1) ∗ (OFree d L 0 ∗ OFree d L 1) ∗ Done d L T X (nb L + 1)) := by
  have h1 := cond1 L
  simp only [cc0_gather_kernel_eq_skeleton]; unfold cc0_gather_kernel_skel
  simp only [k0_part5_eq_skeleton, k0_part6_eq_skeleton]
  unfold k0_part5_skel k0_part6_skel
  iintro ⟨#Hlv, HO, Ht, Hg, Hf0, Hf1, Ho0, Ho1, Htodo⟩
  dsimp only
  rw [dif_pos h1, wp_bind]
  iapply (step_start d L qs X (j := 0) (iff_of_true (cond2 L) (nb_pos L)) (fun _ => off1) (fun h => off2 L) (fun _ => off3)) $$ [Hf0]
  · iexact Hf0
  iintro Hin
  rw [wp_pure]
  imodintro
  dsimp only
  rw [wp_bind, wp_bind]
  iapply (Scf.wp_for (M := 𝕄) _ _ _ _ _ _ (k0_t1_ok L h1) _ _ (Inv d L qs q T X f₀ O W)
    (fun k a => trip d L qs q T X f₀ hX hO h1 _ _ _ _ _ _ _ k a))
  isplitl [HO Ht Hg Hin Hf1 Ho0 Ho1 Htodo]
  · unfold Inv
    isplitr; · ipureintro; exact st_first L
    isplitr; · iexact Hlv
    isplitl [HO]; · iexact HO
    isplitl [Ht]; · iexact Ht
    isplitl [Hg]; · iexact Hg
    isplitl [Hin]; · iexact Hin
    isplitl [Hf1]; · iexact Hf1
    isplitl [Ho0]; · iexact Ho0
    isplitl [Ho1]
    · unfold OutPart
      rw [if_neg (Nat.lt_irrefl 0)]
      iexact Ho1
    isplitr [Htodo]
    · unfold Done
      rw [show Finset.range (0 - 1) = ∅ from rfl, bigSep_empty]
      iempintro
    iexact Htodo
  iintro %a HI
  rw [show Scf.trips (k0_t1_loop L).lb (k0_t1_loop L).ub (k0_t1_loop L).st = nb L from trips1 L]
  rw [wp_bind]
  iapply (Scf.wp_for (M := 𝕄) _ _ _ _ _ _ (k0_t2_ok L h1) _ _ (fun _ => Inv d L qs q T X f₀ O W (nb L))
    (fun k a => absurd k.isLt (by have := trips2 L; unfold Scf.Loop.trips at this; omega)))
  isplitl [HI]; · iexact HI
  iintro %a' HI
  unfold Inv
  icases HI with ⟨%ha, -, HO, Ht, Hg, Hin, Hf, Hof, Hout, Hdone, -⟩
  have hst : st L (nb L) = (BitVec.ofNat 32 (nb L), BitVec.ofNat 32 (nb L), BitVec.ofNat 32 (nb L), BitVec.ofNat 32 (nb L - 1), 0#32) := by
    unfold st
    rw [if_pos rfl, Nat.min_eq_right (Nat.le_succ _)]
  obtain rfl := ha.trans hst
  dsimp only
  rw [wp_bind]
  iapply (wp_assumed d L (chk8 L))
  rw [wp_bind]
  iapply (wp_assumed d L (chk7 L))
  rw [dite_eq_ite, ite_self]
  have h7 : nb L ≤ 7 := by unfold nb; split <;> omega
  iapply (step_gone d L T X (k := nb L) (iff_of_true (cond18 L) (nb_pos L)) (fun _ => off34 ⟨nb L - 1, by omega⟩) hO) $$ [Hout Hdone HO]
  · isplitr; · iexact Hlv
    isplitl [Hout]; · iexact Hout
    isplitl [Hdone]; · iexact Hdone
    iexact HO
  iintro ⟨Hof', Hdone, HO⟩
  rw [wp_pure]
  imodintro
  rw [wp_pure]
  imodintro
  isplitl [HO]; · iexact HO
  isplitl [Ht]; · iexact Ht
  isplitl [Hg]; · iexact Hg
  isplitl [Hin Hf]
  · iapply (both (Free d L qs X) (nb L))
    isplitl [Hin]
    · iapply (show (InPart d L qs X (nb L) : sProp 𝕄) ⊢ Free d L qs X (sl (nb L)) by unfold InPart; rw [if_neg (Nat.lt_irrefl _)])
      iexact Hin
    iexact Hf
  isplitl [Hof Hof']
  · iapply (both (OFree d L) (nb L))
    isplitl [Hof]; · iexact Hof
    iexact Hof'
  iexact Hdone

end Cert.Gather

end
-- ==== Proof.TileBody.lean ====
/-
  The gather's task as the launch runs it: from the thread's scratch and semaphores, a share of the table and of the
  list, and its blocks of the gathered array, to the same with the blocks written.
-/
module

public import proofs.«01_k».proof.Defs
public import proofs.«01_k».proof.Proof.Tile

@[expose] public section

noncomputable section

namespace Cert.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (q qi : PosShare TreeShare)
  (T : S100000x128.Idx → F .f32) (X : S1x51200.Idx → BitVec 32) (f₀ : S51200x128.Idx → F .f32)

omit [FloatOps F] in
theorem bigSep_two (Φ : Fin 2 → sProp 𝕄) : bigSep Finset.univ Φ = iprop(Φ 0 ∗ Φ 1) := BI.bigSep_fin_two Φ

/-! ## The slots of the scratch -/

omit [FloatOps F] in
theorem lst_disjoint : ∀ s ∈ (Finset.univ : Finset (Fin 2)), ∀ t ∈ (Finset.univ : Finset (Fin 2)), s ≠ t → Disjoint (lstSet s) (lstSet t) := by
  intro s _ t _ h
  rw [Finset.disjoint_left]
  intro j hs ht
  simp only [lstSet, Finset.mem_filter, Finset.mem_univ, true_and] at hs ht
  exact h (Fin.ext (hs.symm.trans ht))
omit [FloatOps F] in
theorem row_disjoint : ∀ s ∈ (Finset.univ : Finset (Fin 2)), ∀ t ∈ (Finset.univ : Finset (Fin 2)), s ≠ t → Disjoint (rowSet s) (rowSet t) := by
  intro s _ t _ h
  rw [Finset.disjoint_left]
  intro j hs ht
  simp only [rowSet, Finset.mem_filter, Finset.mem_univ, true_and] at hs ht
  exact h (Fin.ext (hs.symm.trans ht))
omit [FloatOps F] in
theorem lst_cover : (Finset.univ : Finset (Fin 2)).biUnion lstSet = Finset.univ := by
  ext j
  simp only [Finset.mem_biUnion, Finset.mem_univ, true_and, lstSet, Finset.mem_filter, iff_true]
  exact ⟨⟨(j 0).val, (j 0).isLt⟩, rfl⟩
omit [FloatOps F] in
theorem row_cover : (Finset.univ : Finset (Fin 2)).biUnion rowSet = Finset.univ := by
  ext j
  simp only [Finset.mem_biUnion, Finset.mem_univ, true_and, rowSet, Finset.mem_filter, iff_true]
  exact ⟨⟨(j 0).val, (j 0).isLt⟩, rfl⟩

theorem lst_split (f : S2x1x256.Idx → BitVec 32) :
    (lstLoc d L ↦{fullShare} f : sProp 𝕄) ⊢ iprop((∃ f, lstPts d L 0 f) ∗ ∃ f, lstPts d L 1 f) := by
  rw [show (lstLoc d L ↦{fullShare} f : sProp 𝕄) = bigSep Finset.univ fun s : Fin 2 => lstPts d L s f by
    rw [← pointsTo_biUnion Finset.univ (ℓ := lstLoc d L) lstSet lst_disjoint, lst_cover], bigSep_two]
  iintro ⟨H0, H1⟩
  isplitl [H0]
  · iexists _; iexact H0
  iexists _; iexact H1
theorem row_split (f : S2x256x128.Idx → F .f32) :
    (rowLoc d L ↦{fullShare} f : sProp 𝕄) ⊢ iprop((∃ f, rowPts d L 0 f) ∗ ∃ f, rowPts d L 1 f) := by
  rw [show (rowLoc d L ↦{fullShare} f : sProp 𝕄) = bigSep Finset.univ fun s : Fin 2 => rowPts d L s f by
    rw [← pointsTo_biUnion Finset.univ (ℓ := rowLoc d L) rowSet row_disjoint, row_cover], bigSep_two]
  iintro ⟨H0, H1⟩
  isplitl [H0]
  · iexists _; iexact H0
  iexists _; iexact H1

theorem lst_join (f g : S2x1x256.Idx → BitVec 32) :
    iprop(lstPts d L 0 f ∗ lstPts d L 1 g) ⊢ (iprop(∃ f, lstLoc d L ↦{fullShare} f) : sProp 𝕄) := by
  have h := pointsTo_biUnion_join (Ix := HIx 1) (Name := ℕ) (U := UU) (Lvl := ℕ) (ℓ := lstLoc d L) (q := fullShare) (Val := Elt F) Finset.univ lstSet (![f, g] : Fin 2 → S2x1x256.Idx → BitVec 32) f lst_disjoint
  rw [bigSep_two, lst_cover] at h
  refine BIBase.Entails.trans h ?_
  iintro H'
  icases H' with ⟨%g, -, Hg⟩
  iexists g; iexact Hg
theorem row_join (f g : S2x256x128.Idx → F .f32) :
    iprop(rowPts d L 0 f ∗ rowPts d L 1 g) ⊢ (iprop(∃ f, rowLoc d L ↦{fullShare} f) : sProp 𝕄) := by
  have h := pointsTo_biUnion_join (Ix := HIx 1) (Name := ℕ) (U := UU) (Lvl := ℕ) (ℓ := rowLoc d L) (q := fullShare) (Val := Elt F) Finset.univ rowSet (![f, g] : Fin 2 → S2x256x128.Idx → F .f32) f row_disjoint
  rw [bigSep_two, row_cover] at h
  refine BIBase.Entails.trans h ?_
  iintro H'
  icases H' with ⟨%g, -, Hg⟩
  iexists g; iexact Hg

/-! ## The thread's own -/

omit [FloatOps F] in
theorem ownSems0_V :
    (ownSems0 (thr d L) : sProp 𝕄)
      = iprop(semVal (inCell d L 0) 0 ∗ semVal (inCell d L 1) 0 ∗ semVal (outCell d L 0) 0 ∗ semVal (outCell d L 1) 0 ∗ semVal (gatCell d L) 0
          ∗ bigSep ((((((ownCells (thr d L)).erase (inCell d L 0)).erase (inCell d L 1)).erase (outCell d L 0)).erase (outCell d L 1)).erase (gatCell d L)) fun g => semVal g 0) := by
  have hm : ∀ s : DmaSem sig, (SemLoc.dma s : SemLoc sig).isScoped .scVector = true → ((thr d L, SemLoc.dma s) : GSem nD τ sig) ∈ ownCells (thr d L) :=
    fun s h => mem_ownCells.mpr ⟨rfl, h⟩
  have hne : ∀ s t : DmaSem sig, s ≠ t → ((thr d L, SemLoc.dma s) : GSem nD τ sig) ≠ (thr d L, SemLoc.dma t) :=
    fun s t h e => h (SemLoc.dma.inj (congrArg Prod.snd e))
  unfold SparseCore.Cfg.ownSems0
  rw [SparseCore.bigSep_erase' (hm (inS 0) (by decide)),
    SparseCore.bigSep_erase' (Finset.mem_erase.mpr ⟨hne (inS 1) (inS 0) (by decide), hm (inS 1) (by decide)⟩),
    SparseCore.bigSep_erase' (Finset.mem_erase.mpr ⟨hne (outS 0) (inS 1) (by decide), Finset.mem_erase.mpr ⟨hne (outS 0) (inS 0) (by decide), hm (outS 0) (by decide)⟩⟩),
    SparseCore.bigSep_erase' (Finset.mem_erase.mpr ⟨hne (outS 1) (outS 0) (by decide), Finset.mem_erase.mpr ⟨hne (outS 1) (inS 1) (by decide),
      Finset.mem_erase.mpr ⟨hne (outS 1) (inS 0) (by decide), hm (outS 1) (by decide)⟩⟩⟩),
    SparseCore.bigSep_erase' (Finset.mem_erase.mpr ⟨hne gatSem (outS 1) (by decide), Finset.mem_erase.mpr ⟨hne gatSem (outS 0) (by decide), Finset.mem_erase.mpr ⟨hne gatSem (inS 1) (by decide),
      Finset.mem_erase.mpr ⟨hne gatSem (inS 0) (by decide), hm gatSem (by decide)⟩⟩⟩⟩)]

omit [FloatOps F] in
theorem ownBufs_V :
    (ownBufs (thr d L) : sProp 𝕄)
      = iprop((∃ f, lstLoc d L ↦{fullShare} f) ∗ (∃ f, rowLoc d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- The two shares of the list a tile's two slots read through. -/
def slotShare (s : Fin 2) : PosShare TreeShare := pieceOf qi 2 Nat.two_pos s

omit [FloatOps F] in
theorem idx_shares : (idxPts d Finset.univ qi X : sProp 𝕄) = iprop(idxPts d Finset.univ (slotShare qi 0) X ∗ idxPts d Finset.univ (slotShare qi 1) X) := by
  rw [show (idxPts d Finset.univ qi X : sProp 𝕄) = bigSep Finset.univ fun s : Fin 2 => idxPts d Finset.univ (slotShare qi s) X from
    pointsTo_piecesOf (Val := Elt F) (ℓ := idxLoc d) Finset.univ X Nat.two_pos qi, bigSep_two]

set_option maxHeartbeats 4000000 in
/-- The task. -/
theorem tile_body (hF : (K (F := F)).Facts) (hX : ∀ n, (X n).toNat < 100000) (O : CellTallies nD τ sig (HIx 1)) (W : Waits sig (HIx 1)) (hO : ∀ g, O g none = 0) :
    iprop(levAts (K (F := F)).L (K (F := F)).lev ∗ emp
        ∗ (tabPts d q T ∗ idxPts d Finset.univ qi X ∗ Todo d L f₀ 0)
        ∗ scopedBufs (thr d L) ∗ scopedSems0 (thr d L) ∗ owes (thr d L) O W)
      ⊢ wp frame (wpE (defs₀ (F := F)) 𝒱₀ (thr d L) none) Set.univ
          (cc0_gather_kernel L tabV (Memref.isWhole_whole _) idxV (Memref.isWhole_whole _) outV (Memref.isWhole_whole _) lstV (Memref.isWhole_whole _) cc0_scoped1
            rowV (Memref.isWhole_whole _) cc0_scoped3 cc0_scoped4 cc0_scoped5)
          fun _ => iprop((tabPts d q T ∗ idxPts d Finset.univ qi X ∗ Done d L T X (nb L + 1))
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V, idx_shares]
  iintro ⟨#Hlv, -, ⟨Ht, ⟨Hi0, Hi1⟩, Hd⟩, ⟨⟨%fl, Hl⟩, ⟨%fr, Hr⟩, Hbufs⟩, ⟨Ha, Hb, Hc, He, Hg, Hsems⟩, HO⟩
  ihave Hl' := (lst_split (F := F) d L fl) $$ Hl
  icases Hl' with ⟨Hl0, Hl1⟩
  ihave Hr' := (row_split (F := F) d L fr) $$ Hr
  icases Hr' with ⟨Hr0, Hr1⟩
  iapply (wp_wand_r frame _ _)
  isplitl [HO Ht Hg Hl0 Ha Hi0 Hl1 Hb Hi1 Hr0 Hc Hr1 He Hd]
  · iapply (tile_run d L (slotShare qi) q T X f₀ hX hO (W := W))
    isplitr; · iexact Hlv
    isplitl [HO]
    · unfold Owing
      iexists W
      isplitr; · ipureintro; exact fun p hp => .inl hp
      iexact HO
    isplitl [Ht]; · iexact Ht
    isplitl [Hg]; · iexact Hg
    unfold Free OFree
    isplitl [Hl0 Ha Hi0]
    · isplitl [Hl0]; · iexact Hl0
      isplitl [Ha]; · iexact Ha
      iexact Hi0
    isplitl [Hl1 Hb Hi1]
    · isplitl [Hl1]; · iexact Hl1
      isplitl [Hb]; · iexact Hb
      iexact Hi1
    isplitl [Hr0 Hc]
    · isplitl [Hr0]; · iexact Hr0
      iexact Hc
    isplitl [Hr1 He]
    · isplitl [Hr1]; · iexact Hr1
      iexact He
    iexact Hd
  iintro %_ H
  unfold Free OFree Owing
  icases H with ⟨HO, Ht, Hg, ⟨⟨⟨%a0, Hl0⟩, Ha, Hi0⟩, ⟨%a1, Hl1⟩, Hb, Hi1⟩, ⟨⟨⟨%r0, Hr0⟩, Hc⟩, ⟨%r1, Hr1⟩, He⟩, Hd⟩
  isplitl [Ht Hi0 Hi1 Hd]
  · isplitl [Ht]; · iexact Ht
    isplitl [Hi0 Hi1]
    · isplitl [Hi0]; · iexact Hi0
      iexact Hi1
    iexact Hd
  isplitl [Hl0 Hl1 Hr0 Hr1 Hbufs]
  · isplitl [Hl0 Hl1]
    · iapply (lst_join (F := F) d L a0 a1)
      isplitl [Hl0]; · iexact Hl0
      iexact Hl1
    isplitl [Hr0 Hr1]
    · iapply (row_join (F := F) d L r0 r1)
      isplitl [Hr0]; · iexact Hr0
      iexact Hr1
    iexact Hbufs
  isplitl [Ha Hb Hc He Hg Hsems]
  · isplitl [Ha]; · iexact Ha
    isplitl [Hb]; · iexact Hb
    isplitl [Hc]; · iexact Hc
    isplitl [He]; · iexact He
    isplitl [Hg]; · iexact Hg
    iexact Hsems
  iexact HO

end Cert.Gather

end
-- ==== Proof.Launch.lean ====
/-
  What the launch hands each core and each subcore of the gather, and what comes back: a share of the table and of the
  list of row numbers, and the subcore's own blocks of the gathered array.
-/
module

public import proofs.«01_k».proof.Defs
public import proofs.«01_k».proof.Proof.TileBody

@[expose] public section

noncomputable section

namespace Cert.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The shares of the table and of the list: one per core, and one per subcore of it. -/
def coreShare (c : Fin 2) : PosShare TreeShare := pieceOf fullShare 2 Nat.two_pos c
def tileShare (c : Fin 2) (s : Fin 16) : PosShare TreeShare := pieceOf (coreShare c) 16 (by omega) s

variable (T : Dev nD → S100000x128.Idx → F .f32) (X : Dev nD → S1x51200.Idx → BitVec 32) (f₀ : Dev nD → S51200x128.Idx → F .f32)

/-- What core `c` is handed and hands back; what its subcore `s` is handed and hands back. -/
def coreIn (d : Dev nD) (c : Fin 2) : sProp 𝕄 :=
  iprop(tabPts d (coreShare c) (T d) ∗ idxPts d Finset.univ (coreShare c) (X d) ∗ bigSep Finset.univ fun s : Fin 16 => Todo d (coordsV c s) (f₀ d) 0)
def coreOut (d : Dev nD) (c : Fin 2) : sProp 𝕄 :=
  iprop(tabPts d (coreShare c) (T d) ∗ idxPts d Finset.univ (coreShare c) (X d) ∗ bigSep Finset.univ fun s : Fin 16 => Done d (coordsV c s) (T d) (X d) (nb (coordsV c s) + 1))
def tileIn (d : Dev nD) (c : Fin 2) (s : Fin 16) : sProp 𝕄 :=
  iprop(tabPts d (tileShare c s) (T d) ∗ idxPts d Finset.univ (tileShare c s) (X d) ∗ Todo d (coordsV c s) (f₀ d) 0)
def tileOut (d : Dev nD) (c : Fin 2) (s : Fin 16) : sProp 𝕄 :=
  iprop(tabPts d (tileShare c s) (T d) ∗ idxPts d Finset.univ (tileShare c s) (X d) ∗ Done d (coordsV c s) (T d) (X d) (nb (coordsV c s) + 1))

instance coreIn_storable (d : Dev nD) (c : Fin 2) : BI.Storable (upEmb : UEmb _ 𝕄) (coreIn T X f₀ d c) := by
  unfold coreIn Todo; infer_instance
instance coreOut_storable (d : Dev nD) (c : Fin 2) : BI.Storable (upEmb : UEmb _ 𝕄) (coreOut T X d c) := by
  unfold coreOut Done; infer_instance
instance tileIn_storable (d : Dev nD) (c : Fin 2) (s : Fin 16) : BI.Storable (upEmb : UEmb _ 𝕄) (tileIn T X f₀ d c s) := by
  unfold tileIn Todo; infer_instance
instance tileOut_storable (d : Dev nD) (c : Fin 2) (s : Fin 16) : BI.Storable (upEmb : UEmb _ 𝕄) (tileOut T X d c s) := by
  unfold tileOut Done; infer_instance

def P : (K (F := F)).Pay (nD := nD) (Val := Elt F) (Name := ℕ) (U := UU) where
  st := fun q d c => match q with | 0 => coreIn T X f₀ d (Fin.cast nCore_zero c)
  dn := fun q d c => match q with | 0 => coreOut T X d (Fin.cast nCore_zero c)
  go := fun q d c i => match q with | 0 => tileIn T X f₀ d (Fin.cast nCore_zero c) (Fin.cast nSub_zero i)
  td := fun q d c i => match q with | 0 => tileOut T X d (Fin.cast nCore_zero c) (Fin.cast nSub_zero i)
  x := fun _ _ => iprop(emp)

instance P_storable : (P (F := F) T X f₀).IsStorable where
  st q d c := match q with | 0 => coreIn_storable T X f₀ d (Fin.cast nCore_zero c)
  dn q d c := match q with | 0 => coreOut_storable T X d (Fin.cast nCore_zero c)
  go q d c i := match q with | 0 => tileIn_storable T X f₀ d (Fin.cast nCore_zero c) (Fin.cast nSub_zero i)
  td q d c i := match q with | 0 => tileOut_storable T X d (Fin.cast nCore_zero c) (Fin.cast nSub_zero i)

/-! ## A core's share among its subcores -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem tab_tiles (d : Dev nD) (c : Fin 2) : (tabPts d (coreShare c) (T d) : sProp 𝕄) = bigSep Finset.univ fun s : Fin 16 => tabPts d (tileShare c s) (T d) :=
  pointsTo_piecesOf (Val := Elt F) (ℓ := tabLoc d) Finset.univ (T d) (by omega) (coreShare c)
theorem idx_tiles (d : Dev nD) (c : Fin 2) : (idxPts d Finset.univ (coreShare c) (X d) : sProp 𝕄) = bigSep Finset.univ fun s : Fin 16 => idxPts d Finset.univ (tileShare c s) (X d) :=
  pointsTo_piecesOf (Val := Elt F) (ℓ := idxLoc d) Finset.univ (X d) (by omega) (coreShare c)

theorem vecSplit : (K (F := F)).VecSplit' (P T X f₀) 0 := by
  intro d c
  show (coreIn T X f₀ d (Fin.cast nCore_zero c) : sProp 𝕄) ⊢ |={Set.univ}=> iprop(
      (bigSep Finset.univ fun i : Fin ((K (F := F)).nSub 0) => tileIn T X f₀ d (Fin.cast nCore_zero c) (Fin.cast nSub_zero i))
      ∗ ((bigSep Finset.univ fun i : Fin ((K (F := F)).nSub 0) => tileOut T X d (Fin.cast nCore_zero c) (Fin.cast nSub_zero i))
          -∗ coreOut T X d (Fin.cast nCore_zero c)))
  rw [bigSep_tasks (F := F) (fun i => tileIn T X f₀ d (Fin.cast nCore_zero c) i),
    bigSep_tasks (F := F) (fun i => tileOut T X d (Fin.cast nCore_zero c) i)]
  unfold coreIn coreOut tileIn tileOut
  rw [bigSep_sep', bigSep_sep', bigSep_sep', bigSep_sep', tab_tiles, idx_tiles]
  iintro H; imodintro
  isplitl [H]; · iexact H
  iintro H; iexact H

/-! ## The gathered array is its blocks -/

/-- The rows subcore `s` of core `c` writes. -/
def tileSet (c : Fin 2) (s : Fin 16) : Finset S51200x128.Idx := (Finset.Ico 0 (nb (coordsV c s))).biUnion fun j => outSet (b0 (coordsV c s) + j)

theorem mem_tileSet (c : Fin 2) (s : Fin 16) (x : S51200x128.Idx) :
    x ∈ tileSet c s ↔ 256 * b0 (coordsV c s) ≤ (x 0).val ∧ (x 0).val < 256 * (b0 (coordsV c s) + nb (coordsV c s)) := by
  simp only [tileSet, outSet, Finset.mem_biUnion, Finset.mem_Ico, Finset.mem_filter, Finset.mem_univ, true_and]
  constructor
  · rintro ⟨j, hj, h1, h2⟩; omega
  · rintro ⟨h1, h2⟩; exact ⟨(x 0).val / 256 - b0 (coordsV c s), by omega, by omega, by omega⟩

theorem tile_apart : ∀ (c c' : Fin 2) (s s' : Fin 16), (c, s) ≠ (c', s') →
    b0 (coordsV c s) + nb (coordsV c s) ≤ b0 (coordsV c' s') ∨ b0 (coordsV c' s') + nb (coordsV c' s') ≤ b0 (coordsV c s) := by decide +kernel
theorem tile_find : ∀ b : Fin 200, ∃ (c : Fin 2) (s : Fin 16), b0 (coordsV c s) ≤ b.val ∧ b.val < b0 (coordsV c s) + nb (coordsV c s) := by decide +kernel

theorem tileSet_disjoint {c c' : Fin 2} {s s' : Fin 16} (h : (c, s) ≠ (c', s')) : Disjoint (tileSet c s) (tileSet c' s') := by
  rw [Finset.disjoint_left]
  intro x hx hx'
  rw [mem_tileSet] at hx hx'
  rcases tile_apart c c' s s' h with h | h <;> omega

theorem tileSet_cover : ((Finset.univ : Finset (Fin 2)).biUnion fun c => (Finset.univ : Finset (Fin 16)).biUnion fun s => tileSet c s) = Finset.univ := by
  ext x
  simp only [Finset.mem_biUnion, Finset.mem_univ, true_and, iff_true, mem_tileSet]
  have hx : (x 0).val < 51200 := (x 0).isLt
  obtain ⟨c, s, h1, h2⟩ := tile_find ⟨(x 0).val / 256, by omega⟩
  exact ⟨c, s, by simp only at h1; omega, by simp only at h2; omega⟩

theorem out_tile (d : Dev nD) (c : Fin 2) (s : Fin 16) (f : S51200x128.Idx → F .f32) :
    (outLoc d ↦[tileSet c s]{fullShare} f : sProp 𝕄) = bigSep (Finset.Ico 0 (nb (coordsV c s))) fun j => outPts d (b0 (coordsV c s) + j) f := by
  unfold tileSet
  rw [pointsTo_biUnion (Val := Elt F) (ℓ := outLoc d) (Finset.Ico 0 (nb (coordsV c s))) (fun j => outSet (b0 (coordsV c s) + j))]
  intro j _ j' _ h
  rw [Finset.disjoint_left]
  intro x hx hx'
  simp only [outSet, Finset.mem_filter, Finset.mem_univ, true_and] at hx hx'
  omega

theorem out_whole (d : Dev nD) (f : S51200x128.Idx → F .f32) :
    (outLoc d ↦{fullShare} f : sProp 𝕄) = bigSep Finset.univ fun c : Fin 2 => bigSep Finset.univ fun s : Fin 16 =>
      bigSep (Finset.Ico 0 (nb (coordsV c s))) fun j => outPts d (b0 (coordsV c s) + j) f := by
  rw [← tileSet_cover, pointsTo_biUnion (Val := Elt F) (ℓ := outLoc d) Finset.univ (fun c => (Finset.univ : Finset (Fin 16)).biUnion fun s => tileSet c s)]
  · refine bigSep_congr fun c _ => ?_
    rw [pointsTo_biUnion (Val := Elt F) (ℓ := outLoc d) Finset.univ (fun s => tileSet c s)]
    · exact bigSep_congr fun s _ => out_tile d c s f
    · intro s _ s' _ h; exact tileSet_disjoint (fun e => h (Prod.ext_iff.mp e).2)
  · intro c _ c' _ h
    rw [Finset.disjoint_biUnion_left]; intro s _
    rw [Finset.disjoint_biUnion_right]; intro s' _
    exact tileSet_disjoint (fun e => h (Prod.ext_iff.mp e).1)

/-- What the call takes is the table, the list and the gathered array whole, and what it gives back the same with the
    array gathered. -/
theorem st0_eq (d : Dev nD) :
    (bigSep Finset.univ fun c : Fin ((K (F := F)).nCore 0) => (P T X f₀).st 0 d c)
      = iprop((tabLoc d ↦{fullShare} T d) ∗ (idxLoc d ↦{fullShare} X d) ∗ outLoc d ↦{fullShare} f₀ d) := by
  have h : (bigSep Finset.univ fun c : Fin ((K (F := F)).nCore 0) => (P T X f₀).st 0 d c) = bigSep Finset.univ fun c : Fin 2 => coreIn T X f₀ d c :=
    bigSep_congr fun _ _ => congrArg (coreIn T X f₀ d) (Fin.ext rfl)
  rw [h, out_whole]
  unfold coreIn Todo
  rw [bigSep_sep', bigSep_sep']
  rw [show (tabLoc d ↦{fullShare} T d : sProp 𝕄) = bigSep Finset.univ fun c : Fin 2 => tabPts d (coreShare c) (T d) from
      pointsTo_piecesOf (Val := Elt F) (ℓ := tabLoc d) Finset.univ (T d) Nat.two_pos fullShare,
    show (idxLoc d ↦{fullShare} X d : sProp 𝕄) = bigSep Finset.univ fun c : Fin 2 => idxPts d Finset.univ (coreShare c) (X d) from
      pointsTo_piecesOf (Val := Elt F) (ℓ := idxLoc d) Finset.univ (X d) Nat.two_pos fullShare]

theorem dn0_eq (d : Dev nD) :
    (bigSep Finset.univ fun c : Fin ((K (F := F)).nCore 0) => (P T X f₀).dn 0 d c)
      = iprop((tabLoc d ↦{fullShare} T d) ∗ (idxLoc d ↦{fullShare} X d) ∗ outLoc d ↦{fullShare} gathered (T d) (X d)) := by
  have h : (bigSep Finset.univ fun c : Fin ((K (F := F)).nCore 0) => (P T X f₀).dn 0 d c) = bigSep Finset.univ fun c : Fin 2 => coreOut T X d c :=
    bigSep_congr fun _ _ => congrArg (coreOut T X d) (Fin.ext rfl)
  rw [h, out_whole]
  unfold coreOut Done
  simp only [Nat.add_sub_cancel, ← Finset.range_eq_Ico]
  rw [bigSep_sep', bigSep_sep']
  rw [show (tabLoc d ↦{fullShare} T d : sProp 𝕄) = bigSep Finset.univ fun c : Fin 2 => tabPts d (coreShare c) (T d) from
      pointsTo_piecesOf (Val := Elt F) (ℓ := tabLoc d) Finset.univ (T d) Nat.two_pos fullShare,
    show (idxLoc d ↦{fullShare} X d : sProp 𝕄) = bigSep Finset.univ fun c : Fin 2 => idxPts d Finset.univ (coreShare c) (X d) from
      pointsTo_piecesOf (Val := Elt F) (ℓ := idxLoc d) Finset.univ (X d) Nat.two_pos fullShare]

end Cert.Gather

end
-- ==== Proof.Obligation.lean ====
/-
  What each subcore's task owes the launch: its part of the gather, from what it is handed to what it hands back.
-/
module

public import proofs.«01_k».proof.Defs
public import proofs.«01_k».proof.Proof.Launch

@[expose] public section

noncomputable section

namespace Cert.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (T : Dev nD → S100000x128.Idx → F .f32) (X : Dev nD → S1x51200.Idx → BitVec 32) (f₀ : Dev nD → S51200x128.Idx → F .f32)

theorem defs₀_vector (c : Fin τ.nSC) (s : Fin τ.nSub) :
    defs₀ (F := F) (.scVector c s) 0 ()
      = SparseCore.onTile hcore0 hsub0 (fun c s => cc0_gather_kernel (coordsV c s)
          tabV (Memref.isWhole_whole _) idxV (Memref.isWhole_whole _) outV (Memref.isWhole_whole _) lstV (Memref.isWhole_whole _) cc0_scoped1
            rowV (Memref.isWhole_whole _) cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 4000000 in
set_option maxRecDepth 16384 in
theorem tileObl (hF : (K (F := F)).Facts) (hX : ∀ d n, (X d n).toNat < 100000) : (K (F := F)).TileObl (D (F := F)) 𝒱 (P T X f₀) v₀ 0 := by
  intro d c i O W hO _ _
  simp only [show (P T X f₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tileShare ⟨_, hci.1⟩ ⟨_, hci.2⟩) (tileShare ⟨_, hci.1⟩ ⟨_, hci.2⟩) (T d) (X d) (f₀ d) hF (hX d) O W hO).trans
    (wp_mono frame _ _ fun _ => obl_post)

end Cert.Gather

end
-- ==== Proof.Main.lean ====
/-
  The program on the TensorCore: the host operations before the gather, the gather, the host operations before the
  recurrence, the recurrence's pipeline, and the last transposition.
-/
module

public import proofs.«01_k».proof.Proof.Enter
public import proofs.«01_k».proof.Proof.Obligation
public import Idealize.ShloMosaic.Lib.StableHlo.Run

@[expose] public section

noncomputable section

namespace Cert.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The host operations before the gather: the list of indices in the order of the steps; -/
abbrev opsA : List (HloOp τ sig (Elt F)) :=
  [StableHlo.unary main_arg0 main_v0 ((transpose S50x1024 [1, 0] · transposes_S1024x50_S50x1024_1_0) : (⟨S1024x50, .i32⟩ : BufTy).Contents (Elt F) → (⟨S50x1024, .i32⟩ : BufTy).Contents (Elt F)),
    StableHlo.reshape main_v0 main_v1 (rfl : (.i32 : EltTy) = .i32) shapeCasts_S50x1024_S51200,
    StableHlo.reshape main_v1 main_v2 (rfl : (.i32 : EltTy) = .i32) shapeCasts_S51200_S1x51200]

/-- between the gather and the recurrence: the gathered rows by steps, the two directions' weights; -/
abbrev opsB : List (HloOp τ sig (Elt F)) :=
  [StableHlo.reshape main_v3 main_v4 (rfl : (.f32 : EltTy) = .f32) shapeCasts_S51200x128_S50x1024x128,
    StableHlo.binary main_arg3 main_arg4 main_v5 ((fun a b => concatenate S384x1024 0 [⟨S128x1024, a⟩, ⟨S256x1024, b⟩] concatenates_S128x1024_S256x1024_S384x1024_d0) : (⟨S128x1024, .f32⟩ : BufTy).Contents (Elt F) → (⟨S256x1024, .f32⟩ : BufTy).Contents (Elt F) → (⟨S384x1024, .f32⟩ : BufTy).Contents (Elt F)),
    StableHlo.binary main_arg6 main_arg7 main_v6 ((fun a b => concatenate S384x1024 0 [⟨S128x1024, a⟩, ⟨S256x1024, b⟩] concatenates_S128x1024_S256x1024_S384x1024_d0) : (⟨S128x1024, .f32⟩ : BufTy).Contents (Elt F) → (⟨S256x1024, .f32⟩ : BufTy).Contents (Elt F) → (⟨S384x1024, .f32⟩ : BufTy).Contents (Elt F)),
    StableHlo.unary main_v5 main_v7 (broadcastInDim S1x384x1024 ![1, 2] bcast_S384x1024_S1x384x1024_1_2 : (⟨S384x1024, .f32⟩ : BufTy).Contents (Elt F) → (⟨S1x384x1024, .f32⟩ : BufTy).Contents (Elt F)),
    StableHlo.unary main_v6 main_v8 (broadcastInDim S1x384x1024 ![1, 2] bcast_S384x1024_S1x384x1024_1_2 : (⟨S384x1024, .f32⟩ : BufTy).Contents (Elt F) → (⟨S1x384x1024, .f32⟩ : BufTy).Contents (Elt F)),
    StableHlo.binary main_v7 main_v8 main_v9 ((fun a b => concatenate S2x384x1024 0 [⟨S1x384x1024, a⟩, ⟨S1x384x1024, b⟩] concatenates_S1x384x1024_S1x384x1024_S2x384x1024_d0) : (⟨S1x384x1024, .f32⟩ : BufTy).Contents (Elt F) → (⟨S1x384x1024, .f32⟩ : BufTy).Contents (Elt F) → (⟨S2x384x1024, .f32⟩ : BufTy).Contents (Elt F)),
    StableHlo.unary main_v9 main_v10 ((truncf .bf16 · bitsLt_bf16_f32) : (⟨S2x384x1024, .f32⟩ : BufTy).Contents (Elt F) → (⟨S2x384x1024, .bf16⟩ : BufTy).Contents (Elt F))]

/-- and after the recurrence: the outputs back in the order of the rows. -/
abbrev opsC : List (HloOp τ sig (Elt F)) :=
  [StableHlo.unary main_v11_0 main_v12 ((transpose S1024x50x512 [1, 0, 2] · transposes_S50x1024x512_S1024x50x512_1_0_2) : (⟨S50x1024x512, .f32⟩ : BufTy).Contents (Elt F) → (⟨S1024x50x512, .f32⟩ : BufTy).Contents (Elt F))]

theorem main_eq (d : Dev nD) : main (F := F) d = (StableHlo.seq opsA >>= fun _ => (sc (F := F)).run d 0 >>= fun _ => StableHlo.seq opsB >>= fun _ =>
    Prog.lift (.customCall (SparseCore.inner (Pipeline.entry 0)) ()) >>= fun _ => StableHlo.seq opsC >>= fun _ => pure ⟨⟩) := by
  simp only [main, StableHlo.seq, bind_assoc, pure_bind]

theorem sub_of (ops : List (HloOp τ sig (Elt F))) (h : ops.Forall fun op => op.bufs ⊆ StableHlo.tcRefs τ sig) :
    ∀ op ∈ ops, op.bufs ⊆ Pipeline.ucRefs τ sig := fun op hop => Pipeline.sub_ucRefs op (List.forall_iff_forall_mem.mp h op hop)

theorem opsA_sub : (opsA (F := F)).Forall fun op => op.bufs ⊆ StableHlo.tcRefs τ sig :=
  ⟨StableHlo.unary_bufs_sub .., StableHlo.reshape_bufs_sub .., StableHlo.reshape_bufs_sub ..⟩

theorem opsB_sub : (opsB (F := F)).Forall fun op => op.bufs ⊆ StableHlo.tcRefs τ sig :=
  ⟨StableHlo.reshape_bufs_sub .., StableHlo.binary_bufs_sub .., StableHlo.binary_bufs_sub .., StableHlo.unary_bufs_sub .., StableHlo.unary_bufs_sub ..,
    StableHlo.binary_bufs_sub .., StableHlo.unary_bufs_sub ..⟩

theorem opsC_sub : (opsC (F := F)).Forall fun op => op.bufs ⊆ StableHlo.tcRefs τ sig := StableHlo.unary_bufs_sub ..

variable (m : (ℓ : Loc nD τ sig) → Buf (Elt F) ℓ) (ρ : Dev nD → PrngReg)

/-- The buffers at the launch; after the first host operations; after the gather; as the recurrence is entered; as it is
    left; and at the end. -/
def W0 (d : Dev nD) : Valuation τ sig (Elt F) := fun b => m (d, b)
def W1 (d : Dev nD) : Valuation τ sig (Elt F) := StableHlo.after opsA (W0 m d)
def tabIn (d : Dev nD) : S100000x128.Idx → F .f32 := W1 m d (Proc.devRef .tc main_arg2)
def listIn (d : Dev nD) : S1x51200.Idx → BitVec 32 := W1 m d (Proc.devRef .tc main_v2)
def outIn (d : Dev nD) : S51200x128.Idx → F .f32 := W1 m d (Proc.devRef .tc main_v3)
def W2 (d : Dev nD) : Valuation τ sig (Elt F) := Function.update (W1 m d) (Proc.devRef .tc main_v3) (gathered (tabIn m d) (listIn m d))
def W3 (d : Dev nD) : Valuation τ sig (Elt F) := StableHlo.after opsB (W2 m d)
def W4 (d : Dev nD) : Valuation τ sig (Elt F) := leave (W3 m) d
def W5 (d : Dev nD) : Valuation τ sig (Elt F) := StableHlo.after opsC (W4 m d)

/-- The gather's three buffers. -/
def three : Finset (DevRef τ sig) := {Proc.devRef .tc main_arg2, Proc.devRef .tc main_v2, Proc.devRef .tc main_v3}

theorem three_sub : three ⊆ Pipeline.ucRefs τ sig := by decide

theorem held_three (d : Dev nD) (W : Valuation τ sig (Elt F)) :
    (StableHlo.held (tcThr d) three W : sProp 𝕄) = iprop((tabLoc d ↦{fullShare} W (Proc.devRef .tc main_arg2))
      ∗ (idxLoc d ↦{fullShare} W (Proc.devRef .tc main_v2)) ∗ outLoc d ↦{fullShare} W (Proc.devRef .tc main_v3)) := by
  unfold StableHlo.held three
  rw [SparseCore.bigSep_insert' (by decide), SparseCore.bigSep_insert' (by decide), bigSep_singleton]

theorem held_rest (d : Dev nD) : (StableHlo.held (tcThr d) (Pipeline.ucRefs τ sig \ three) (W2 m d) : sProp 𝕄)
    = StableHlo.held (tcThr d) (Pipeline.ucRefs τ sig \ three) (W1 m d) :=
  StableHlo.held_congr _ fun b hb => by
    unfold W2
    refine Function.update_of_ne ?_ _ _
    rintro rfl
    exact (Finset.mem_sdiff.mp hb).2 (by decide)

/-- What the gather's call takes and gives back, out of the unscoped buffers. -/
theorem to_call (d : Dev nD) : (StableHlo.held (tcThr d) (Pipeline.ucRefs τ sig) (W1 m d) : sProp 𝕄)
    = iprop(((tabLoc d ↦{fullShare} tabIn m d) ∗ (idxLoc d ↦{fullShare} listIn m d) ∗ outLoc d ↦{fullShare} outIn m d)
      ∗ StableHlo.held (tcThr d) (Pipeline.ucRefs τ sig \ three) (W1 m d)) := by
  rw [StableHlo.held_sub_split _ three_sub, held_three]; rfl

theorem of_call (d : Dev nD) : (StableHlo.held (tcThr d) (Pipeline.ucRefs τ sig) (W2 m d) : sProp 𝕄)
    = iprop(((tabLoc d ↦{fullShare} tabIn m d) ∗ (idxLoc d ↦{fullShare} listIn m d) ∗ outLoc d ↦{fullShare} gathered (tabIn m d) (listIn m d))
      ∗ StableHlo.held (tcThr d) (Pipeline.ucRefs τ sig \ three) (W1 m d)) := by
  rw [StableHlo.held_sub_split _ three_sub, held_three, held_rest]
  have e1 : W2 m d (Proc.devRef .tc main_arg2) = tabIn m d := Function.update_of_ne (by decide) _ _
  have e2 : W2 m d (Proc.devRef .tc main_v2) = listIn m d := Function.update_of_ne (by decide) _ _
  have e3 : W2 m d (Proc.devRef .tc main_v3) = gathered (tabIn m d) (listIn m d) := Function.update_self _ _ _
  rw [e1, e2, e3]

end Cert.Gather

end
-- ==== Proof.Run.lean ====
/-
  The program's run: the ghost state the launch deals, the TensorCore's program against it, and what every final memory
  holds.
-/
module

public import proofs.«01_k».proof.Proof.Main

@[expose] public section

noncomputable section

namespace Cert.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The launch element: the handshakes' rounds, the staging cells' rounds, no counter. -/
def u₀ : UU := (initOf (K (F := F)).hsCells (K (F := F)).hsToks, (initOf (Pipeline.cells cfgs cellOf_inj) (Pipeline.launchToks cfgs cellOf_inj), 1))

/-- The ghost state a device's pipeline is entered with. -/
abbrev Ghost (d : Dev nD) : sProp 𝕄 :=
  iprop(Pipeline.cellsGhost (Pipeline.pin (pcfgs (F := F)) adm) EP 0 d ∗ Pipeline.toksInit (Pipeline.pin (pcfgs (F := F)) adm) EP 0 d)

/-- The gather's payloads over this program's buffers. -/
abbrev PP : (K (F := F)).Pay (nD := nD) (Val := Elt F) (Name := ℕ) (U := UU) := P (tabIn m) (listIn m) (outIn m)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Ghost d)
        ∗ bigSep Finset.univ fun thr : Thread nD τ => bigSep Finset.univ fun q : Fin 1 => (PP m).x q thr) := by
  unfold u₀
  iintro Hu
  ihave H := (ownU_pair (initOf (K (F := F)).hsCells (K (F := F)).hsToks) _) $$ Hu
  icases H with ⟨HH, H2⟩
  ihave H2' := (own_pair_emb (embR (A := UH) (B := UP × Counters)) (initOf (Pipeline.cells cfgs cellOf_inj) (Pipeline.launchToks cfgs cellOf_inj)) (1 : Counters)) $$ H2
  icases H2' with ⟨HP, -⟩
  imod (Pipeline.fund_ghost (Pipeline.pin (pcfgs (F := F)) adm) EP cellOf_inj) $$ HP with ⟨Hg, Ht⟩
  imodintro
  isplitl [HH]; · iexact HH
  isplitl [Hg Ht]
  · ihave Hg' := (Entails.of_eq (show (bigSep Finset.univ fun d : Dev nD => bigSep Finset.univ fun p => Pipeline.cellsGhost (Pipeline.pin (pcfgs (F := F)) adm) EP p d : sProp 𝕄)
        = bigSep Finset.univ fun d : Dev nD => Pipeline.cellsGhost (Pipeline.pin (pcfgs (F := F)) adm) EP 0 d from
      bigSep_congr fun _ _ => bigSep_univ_of_subsingleton (0 : Fin 1))) $$ Hg
    ihave Ht' := (Entails.of_eq (show (bigSep Finset.univ fun d : Dev nD => bigSep Finset.univ fun p => Pipeline.toksInit (Pipeline.pin (pcfgs (F := F)) adm) EP p d : sProp 𝕄)
        = bigSep Finset.univ fun d : Dev nD => Pipeline.toksInit (Pipeline.pin (pcfgs (F := F)) adm) EP 0 d from
      bigSep_congr fun _ _ => bigSep_univ_of_subsingleton (0 : Fin 1))) $$ Ht
    rw [bigSep_sep']
    isplitl [Hg']
    · iexact Hg'
    iexact Ht'
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-- What a device's TensorCore ends with: every unscoped buffer at the end's contents. -/
abbrev FIN (d : Dev nD) : sProp 𝕄 := StableHlo.held (tcThr d) (Pipeline.ucRefs τ sig) (W5 m d)

/-- Any recorded wait of the TensorCore lies below the level after the gather. -/
theorem below (d : Dev nD) (w : Waits sig (HIx 1)) : (K (F := F)).WBelow (tcThr d) w (8 * 1) := by
  rintro ⟨sm, ι⟩ -
  cases ι with
  | none => exact Nat.zero_le _
  | some q =>
    have hq : q.val = 0 := by have := q.isLt; omega
    show 8 * q.val + 6 + 1 ≤ 8 * 1
    omega

/-- The TensorCore's state after the gather, at the waits recorded so far and with those put back. -/
theorem st_open (d : Dev nD) : ((K (F := F)).tcSt EH d 1 : sProp 𝕄) ⊢ iprop(Unbound d ∗ (Unbound d -∗ (K (F := F)).tcSt EH d 1)) := by
  unfold SparseCore.Cfg.tcSt
  rw [(K (F := F)).Otc_end d le_rfl]
  iintro ⟨⟨%w, -, HO⟩, Hr⟩
  isplitl [HO]
  · iexists w; iexact HO
  iintro ⟨%w', HO⟩
  isplitl [HO]
  · iexists w'
    isplitr
    · ipureintro; exact below d w'
    iexact HO
  iexact Hr

/-- The pipeline's call in the kernel's own signature. -/
abbrev callP : Prog (TpuEff nD τ sig (Elt F) (ΛP (F := F)) .tc) PUnit := .op (.customCall (Pipeline.entry 0) ()) fun _ => .ret ⟨⟩

theorem callP_lift : (Prog.lift (.customCall (SparseCore.inner (Pipeline.entry 0)) ()) :
      Prog (TpuEff nD τ sig (Elt F) (SparseCore.Sig (ΛP (F := F)) 1) .tc) PUnit) = SparseCore.liftProg callP := rfl

set_option backward.isDefEq.respectTransparency.types false in
theorem callP_run [∀ e, Nonempty (Elt F e)] (W : Dev nD → Valuation τ sig (Elt F)) (d : Dev nD) (Q : PUnit → sProp 𝕄) :
    iprop((iprop(boundary d.tc ∗ (reg W).post d) -∗ wp Idealize.ShloMosaic.frame (wpE (D (F := F)) 𝒱 d.tc none) Set.univ (.ret ⟨⟩) Q)
        ∗ boundary d.tc ∗ (reg W).pre d ∗ levAts (K (F := F)).L (K (F := F)).lev ∗ Ghost d)
      ⊢ wp Idealize.ShloMosaic.frame (wpE (D (F := F)) 𝒱 d.tc none) Set.univ (callP (F := F)) Q :=
by
  have h := Pipeline.RegionSeg.wp (pcfgs (F := F)) adm (dats (atRefs W)) (none : HIx 1) cellOf_inj EP defs₀ 𝒱₀ (K (F := F)).L (K (F := F)).lev
    (reg W) d none (fun _ h => nomatch h) (α := PUnit) (fun _ => .ret ⟨⟩) Q
  exact h

theorem region_run [∀ e, Nonempty (Elt F e)] (W : Dev nD → Valuation τ sig (Elt F)) (d : Dev nD) (Q : PUnit → sProp 𝕄) :
    iprop((iprop(boundary (tcThr d) ∗ StableHlo.held (tcThr d) (Pipeline.ucRefs τ sig) (leave W d) ∗ Unbound d) -∗ Q ⟨⟩)
        ∗ boundary (tcThr d) ∗ (StableHlo.held (tcThr d) (Pipeline.ucRefs τ sig) (W d) ∗ Unbound d) ∗ levAts (K (F := F)).L (K (F := F)).lev ∗ Ghost d)
      ⊢ wp Idealize.ShloMosaic.frame (wpE ((K (F := F)).defs (D (F := F))) 𝒱 (SparseCore.T d) none) Set.univ
          (Prog.lift (.customCall (SparseCore.inner (Pipeline.entry 0)) ())) Q := by
  rw [callP_lift]
  refine BIBase.Entails.trans ?_ ((callP_run W d Q).trans ((K (F := F)).wp_liftProg (D (F := F)) 𝒱 (SparseCore.T d) Set.univ none callP Q))
  rw [show (reg W).post d = iprop(StableHlo.held (tcThr d) (Pipeline.ucRefs τ sig) (leave W d) ∗ Unbound d) from
      congrArg (fun x => iprop(x ∗ Unbound d)) (Pipeline.unscopedBufs_held d (leave W d)),
    show (reg W).pre d = iprop(StableHlo.held (tcThr d) (Pipeline.ucRefs τ sig) (W d) ∗ Unbound d) from
      congrArg (fun x => iprop(x ∗ Unbound d)) (Pipeline.unscopedBufs_held d (W d))]
  iintro ⟨Hk, Hb, Hpre, Hl, HG⟩
  isplitl [Hk]
  · iintro H
    rw [wp_ret]
    imodintro
    iapply Hk
    iexact H
  isplitl [Hb]
  · iexact Hb
  isplitl [Hpre]
  · iexact Hpre
  isplitl [Hl]
  · iexact Hl
  iexact HG

-- rules stated at any thread are applied at the TensorCore's, which unifies only by unfolding plain definitions in the
-- type of a metavariable
set_option backward.isDefEq.respectTransparency.types false in
/-- The program on the TensorCore. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ Ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d : Thread nD τ).loc b)) : sProp 𝕄) = StableHlo.held (tcThr d) (Pipeline.ucRefs τ sig) (W0 m d) from
    Pipeline.unscopedBufs_held d (W0 m d)]
  iintro ⟨#Hctx, Hst, ⟨Hb, Hh, Hts, -⟩, HG⟩
  iapply (StableHlo.wp_seq 𝒱 none Set.univ d (Pipeline.ucRefs τ sig) _ opsA (sub_of opsA opsA_sub)
    (by intro _ h; (repeat (cases h with | head => rfl | tail _ h => ?_)); exact nomatch h) (W0 m d)) $$ [Hb Hh]
  · isplitl [Hb]
    · iexact Hb
    iexact Hh
  iintro ⟨Hb, Hh⟩
  rw [wp_bind]
  ihave Hh' := (Entails.of_eq (show (StableHlo.held d.tc (Pipeline.ucRefs τ sig) (StableHlo.after opsA (W0 m d)) : sProp 𝕄) = _ from to_call m d)) $$ Hh
  icases Hh' with ⟨H3, Hr⟩
  iapply ((K (F := F)).wp_run (D (F := F)) 𝒱 (EH := EH) (P := PP m) κ d 0) $$ [Hst H3 Hr Hb Hts HG]
  isplitr; · iexact Hctx
  isplitl [Hst]; · iexact Hst
  isplitl [H3]
  · rw [st0_eq]
    iexact H3
  iintro ⟨Hst, Hdn⟩
  ihave H3 := (Entails.of_eq (dn0_eq (tabIn m) (listIn m) (outIn m) d)) $$ Hdn
  ihave Hh := (Entails.of_eq (of_call m d).symm) $$ [H3 Hr]
  · isplitl [H3]
    · iexact H3
    iexact Hr
  iapply (StableHlo.wp_seq 𝒱 none Set.univ d (Pipeline.ucRefs τ sig) _ opsB (sub_of opsB opsB_sub)
    (by intro _ h; (repeat (cases h with | head => rfl | tail _ h => ?_)); exact nomatch h) (W2 m d)) $$ [Hb Hh]
  · isplitl [Hb]
    · iexact Hb
    iexact Hh
  iintro ⟨Hb, Hh⟩
  rw [wp_bind]
  ihave Hst' := (show ((K (F := F)).tcSt EH d ((0 : Fin 1).val + 1) : sProp 𝕄) ⊢ _ from st_open d) $$ Hst
  icases Hst' with ⟨HO, Hback⟩
  ihave Hlev := (SparseCore.Cfg.ctx_levAts κ) $$ Hctx
  iapply (region_run (W3 m) d)
  isplitr [Hb Hh HO Hlev HG]
  rotate_left
  · isplitl [Hb]
    · iexact Hb
    isplitl [Hh HO]
    · isplitl [Hh]
      · iexact Hh
      iexact HO
    isplitl [Hlev]
    · iexact Hlev
    iexact HG
  iintro ⟨Hb, Hh, HO⟩
  iapply (StableHlo.wp_seq 𝒱 none Set.univ d (Pipeline.ucRefs τ sig) _ opsC (sub_of opsC opsC_sub)
    (by intro _ h; (repeat (cases h with | head => rfl | tail _ h => ?_)); exact nomatch h) (W4 m d)) $$ [Hb Hh]
  · isplitl [Hb]
    · iexact Hb
    iexact Hh
  iintro ⟨Hb, Hh⟩
  rw [wp_pure]
  imodintro
  isplitl [Hback HO]
  · iapply Hback
    iexact HO
  isplitl [Hh]
  · iexact Hh
  isplitl [Hb]
  · iexact Hb
  iexact Hts

/-- What is read of a final memory: every unscoped buffer at the end's contents. -/
def fq (d : Dev nD) (s' : Phys nD τ sig (Elt F)) : Prop := ∀ b ∈ Pipeline.ucRefs τ sig, s'.mem.mem (d, b) = W5 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]
    · iexact HSI
    iexact H
  ipureintro
  exact h

def QC : PUnit × MemSt nD τ sig (Elt F) → Prop := fun r => (∀ d : Dev nD, ∀ b ∈ Pipeline.ucRefs τ sig, r.2.mem (d, b) = W5 m d b) ∧ r.2.sem = fun _ => 0

/-- Over any float values and from any memory whose list names rows of the table: the program runs, every unscoped buffer
    ends at the contents computed here, and every counter ends at zero. -/
theorem run_main [∀ e, Nonempty (Elt F e)] (hX : ∀ d n, (listIn m d n).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tabIn m) (listIn m) (outIn m) facts hX)
    (fun q _ => match q with | 0 => SparseCore.Cfg.VecSplit.of_plain (vecSplit (tabIn m) (listIn m) (outIn m)))
    m ρ main Ghost (FIN m) (u₀ (F := F)) (sep_elim_left.trans (hu₀ m)) (hmain m ρ) (fq m) (hfin m) (QC m) (fun _ h hz => ⟨h, hz⟩)

end Cert.Gather

end
-- ==== Proof.Frames.lean ====
/-
  The program's frame: no operation, the gather and the recurrence write an argument, so each ends as it began; and the
  list the gather reads holds the entries of the first argument, so that argument's precondition puts it inside the table.
-/
module

public import proofs.«01_k».proof.Proof.Run
public import proofs.«01_k».proof.Defs
public import proofs.«01_k».proof.Proof.Gen.Kernel
public import Idealize.ShloMosaic.Lib.StableHlo.RunRead

@[expose] public section

noncomputable section

namespace Cert.Gather

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- A buffer no operation of a list writes keeps its contents through the list. -/
theorem opsA_keep {b : Ref sig .tc} (h : b ∉ [main_v0, main_v1, main_v2]) (V : Valuation τ sig (Elt F)) :
    StableHlo.after opsA V (Proc.devRef .tc b) = V (Proc.devRef .tc b) :=
  StableHlo.after_unwritten [main_v0, main_v1, main_v2] rfl h V

theorem opsB_keep {b : Ref sig .tc} (h : b ∉ [main_v4, main_v5, main_v6, main_v7, main_v8, main_v9, main_v10]) (V : Valuation τ sig (Elt F)) :
    StableHlo.after opsB V (Proc.devRef .tc b) = V (Proc.devRef .tc b) :=
  StableHlo.after_unwritten [main_v4, main_v5, main_v6, main_v7, main_v8, main_v9, main_v10] rfl h V

theorem opsC_keep {b : Ref sig .tc} (h : b ∉ [main_v12]) (V : Valuation τ sig (Elt F)) :
    StableHlo.after opsC V (Proc.devRef .tc b) = V (Proc.devRef .tc b) :=
  StableHlo.after_unwritten [main_v12] rfl h V

theorem W1_keep (d : Dev nD) {b : Ref sig .tc} (h : b ∉ [main_v0, main_v1, main_v2]) : W1 m d (Proc.devRef .tc b) = m (d, Proc.devRef .tc b) :=
  opsA_keep h _

theorem W2_keep (d : Dev nD) {b : Ref sig .tc} (h : b ∉ [main_v0, main_v1, main_v2, main_v3]) : W2 m d (Proc.devRef .tc b) = m (d, Proc.devRef .tc b) := by
  have h3 : b ≠ main_v3 := fun e => h (by rw [e]; decide)
  exact (Function.update_of_ne (StableHlo.devRef_ne_of_ne h3) _ _).trans (W1_keep m d fun hb => h (by
    simp only [List.mem_cons, List.mem_nil_iff, or_false] at hb ⊢; tauto))

theorem W3_keep (d : Dev nD) {b : Ref sig .tc} (h : b ∉ [main_v0, main_v1, main_v2, main_v3])
    (h' : b ∉ [main_v4, main_v5, main_v6, main_v7, main_v8, main_v9, main_v10]) : W3 m d (Proc.devRef .tc b) = m (d, Proc.devRef .tc b) :=
  (opsB_keep h' _).trans (W2_keep m d h)

theorem W4_keep (d : Dev nD) {b : Ref sig .tc} (h : ∀ w, b ≠ Pipeline.arrRef spec1 w) : W4 m d (Proc.devRef .tc b) = W3 m d (Proc.devRef .tc b) :=
  Pipeline.afterRegion_of_not_arr _ _ h

theorem W4_arr (d : Dev nD) (w : Fin 5) : W4 m d (Proc.devRef .tc (Pipeline.arrRef spec1 w)) = (dats (atRefs (W3 m)) 0 d).arrAt w cfg1.N :=
  Pipeline.afterRegion_arr (dats (atRefs (W3 m)) 0 d) (W3 m d) winFacts1.arr_inj w

theorem W5_keep (d : Dev nD) {b : Ref sig .tc} (h : b ∉ [main_v0, main_v1, main_v2, main_v3])
    (h' : b ∉ [main_v4, main_v5, main_v6, main_v7, main_v8, main_v9, main_v10]) (h'' : ∀ w, b ≠ Pipeline.arrRef spec1 w) (h3 : b ∉ [main_v12]) :
    W5 m d (Proc.devRef .tc b) = m (d, Proc.devRef .tc b) :=
  (opsC_keep h3 _).trans ((W4_keep m d h'').trans (W3_keep m d h h'))

/-- The state's first argument is an input of the recurrence: its array is not written. -/
theorem W5_arg1 (d : Dev nD) : W5 m d (Proc.devRef .tc main_arg1) = m (d, Proc.devRef .tc main_arg1) :=
  (opsC_keep (by decide) _).trans ((W4_arr m d 1).trans (((dats (atRefs (W3 m)) 0 d).arrAt_in 1 rfl _).trans
    (W3_keep m d (b := main_arg1) (by decide) (by decide))))

/-- What the run says of the arguments. -/
theorem args_of_run {r : PUnit × MemSt nD τ sig (Elt F)} (h : QC m r) (d : Dev nD) :
    r.2.mem (d, Proc.devRef .tc main_arg0) = m (d, Proc.devRef .tc main_arg0)
    ∧ r.2.mem (d, Proc.devRef .tc main_arg1) = m (d, Proc.devRef .tc main_arg1)
    ∧ r.2.mem (d, Proc.devRef .tc main_arg2) = m (d, Proc.devRef .tc main_arg2)
    ∧ r.2.mem (d, Proc.devRef .tc main_arg3) = m (d, Proc.devRef .tc main_arg3)
    ∧ r.2.mem (d, Proc.devRef .tc main_arg4) = m (d, Proc.devRef .tc main_arg4)
    ∧ r.2.mem (d, Proc.devRef .tc main_arg5) = m (d, Proc.devRef .tc main_arg5)
    ∧ r.2.mem (d, Proc.devRef .tc main_arg6) = m (d, Proc.devRef .tc main_arg6)
    ∧ r.2.mem (d, Proc.devRef .tc main_arg7) = m (d, Proc.devRef .tc main_arg7)
    ∧ r.2.mem (d, Proc.devRef .tc main_arg8) = m (d, Proc.devRef .tc main_arg8) :=
  ⟨(h.1 d _ (by decide)).trans (W5_keep m d (by decide) (by decide) (by decide) (by decide)),
   (h.1 d _ (by decide)).trans (W5_arg1 m d),
   (h.1 d _ (by decide)).trans (W5_keep m d (by decide) (by decide) (by decide) (by decide)),
   (h.1 d _ (by decide)).trans (W5_keep m d (by decide) (by decide) (by decide) (by decide)),
   (h.1 d _ (by decide)).trans (W5_keep m d (by decide) (by decide) (by decide) (by decide)),
   (h.1 d _ (by decide)).trans (W5_keep m d (by decide) (by decide) (by decide) (by decide)),
   (h.1 d _ (by decide)).trans (W5_keep m d (by decide) (by decide) (by decide) (by decide)),
   (h.1 d _ (by decide)).trans (W5_keep m d (by decide) (by decide) (by decide) (by decide)),
   (h.1 d _ (by decide)).trans (W5_keep m d (by decide) (by decide) (by decide) (by decide))⟩

/-- The list the gather reads: the first argument transposed, flat. -/
theorem listIn_eq (d : Dev nD) : listIn m d = shapeCast S1x51200 (shapeCast S51200
    (transpose S50x1024 [1, 0] (m (d, Proc.devRef .tc main_arg0) : S1024x50.Idx → BitVec 32) transposes_S1024x50_S50x1024_1_0)
    shapeCasts_S50x1024_S51200) shapeCasts_S51200_S1x51200 := by
  unfold listIn W1 W0
  after_results
  rfl

/-- The arguments' precondition: every word of the first argument, non-negative as a signed word, is its own value. -/
theorem small_of_word (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Every row number is inside the table. -/
def Small : Prop := ∀ (d : Dev nD) (j : S1024x50.Idx), ((m (d, Proc.devRef .tc main_arg0) : S1024x50.Idx → BitVec 32) j).toNat < 100000

theorem list_small (h : Small m) (d : Dev nD) (n : S1x51200.Idx) : (listIn m d n).toNat < 100000 := by
  rw [listIn_eq]
  exact h d _

/-- The facts the precondition states. -/
instance rows_facts : Cert.Pre_rows.Facts where
  bcast_S_S1024x50 := by decide

theorem small_bits (m : (ℓ : Loc nD τ sig) → Buf (Elt Bits) ℓ) (h : Cert.Pre_Kernel m) : Small (F := Bits) m := fun d j => by
  have e := congrFun (h d) j
  simp only [Cert.Pre_rows.fn, andi, cmpi, broadcastInDim, constantI] at e
  exact small_of_word _ e

theorem small_ideal (m : (ℓ : Loc nD τ sig) → Buf (Elt Ideal) ℓ) (h : Cert.Pre_KernelIdeal m) : Small (F := Ideal) m := fun d j => by
  have e := congrFun (h d) j
  simp only [Cert.Pre_rows.fn, andi, cmpi, broadcastInDim, constantI] at e
  exact small_of_word _ e

/-- A conjunction of predicates is one only where its left part is. -/
theorem left_of_and (a b : BitVec 1) (h : IntOp.andi a b = 1#1) : a = 1#1 := by
  revert a b; decide

theorem right_of_and (a b : BitVec 1) (h : IntOp.andi a b = 1#1) : b = 1#1 := by
  revert a b; decide

instance : ∀ e, Nonempty (Elt Bits e) := fun e => by cases e <;> exact ⟨(0 : BitVec _)⟩

theorem frame_ideal : Cert.quiescent_KernelIdeal := fun m ρ hp =>
  (θ_run (Cert.KernelIdeal.defs (F := Ideal)) _ _).mono (fun _ h => ⟨args_of_run m h, h.2⟩) (run_main (F := Ideal) m ρ (list_small m (small_ideal m hp)))

end Cert.Gather

end
-- ==== Proof.FrameBits.lean ====
/-
  The frame of the program as printed: it is the idealised program, operation for operation, so the run over any float
  values is its run too.
-/
module

public import proofs.«01_k».proof.Proof.Frames

@[expose] public section

set_option maxRecDepth 10000

noncomputable section

namespace Cert.Gather

open Idealize.ShloMosaic
open Idealize.SL.Sem

/-- The two prints' kernels are the same programs, -/
theorem bodies_eq : Cert.Kernel.defs₀ (F := Bits) = Cert.KernelIdeal.defs₀ (F := Bits) := by
  funext p l a
  match p, l, a with
  | .tc, 0, _ => rfl
  | .tc, 1, (t, s) => rfl
  | .scScalar _, 0, _ => rfl
  | .scScalar _, 1, _ => rfl
  | .scVector c s, 0, _ => rfl
  | .scVector c s, 1, _ => rfl

/-- and so are the whole programs. -/
theorem defs_eq : Cert.Kernel.defs (F := Bits) = Cert.KernelIdeal.defs (F := Bits) := by
  unfold Cert.Kernel.defs Cert.KernelIdeal.defs
  rw [bodies_eq]
  rfl

theorem frame_kernel : Cert.quiescent_Kernel := fun m ρ hp => by
  rw [defs_eq]
  exact (θ_run (Cert.KernelIdeal.defs (F := Bits)) (Cert.KernelIdeal.threads (F := Bits)) ⟨m, fun _ => 0, ρ⟩).mono
    (fun _ h => ⟨args_of_run (F := Bits) m h, h.2⟩) (run_main (F := Bits) m ρ (list_small m (small_bits m hp)))

end Cert.Gather

end
-- ==== Proof.RefOps.lean ====
/-
  The reference's operations, in the order of the program: what precedes the first loop, a step of each loop, what lies
  between the loops, and what follows. The program is the chain of these lists.
-/
module

public import proofs.«01_k».proof.Proof.Gen.ReferenceIdeal
public import Idealize.ShloMosaic.Lib.StableHlo.RunLoop
public import Idealize.ShloMosaic.Lib.StableHlo.RunRead

@[expose] public section

noncomputable section

namespace Cert.Scan

open Cert.ReferenceIdeal Cert.ReferenceIdeal.Gen

open Idealize.ShloMosaic
open Idealize.ShloMosaic.TcCoe
open Idealize.SL.Sem

variable {F : FTy → Type} [FloatOps F]

/-- The looked-up rows of the table; -/
abbrev takeOps : List (HloOp τ sig (Elt F)) :=
  [StableHlo.nullary main_call0_c (constantI S_ 32 0#32),
   StableHlo.unary main_call0_c main_call0_v0 ((broadcastInDim S1024x50 ![] bcast_S_S1024x50) : (⟨S_, .i32⟩ : BufTy).Contents (Elt F) → (⟨S1024x50, .i32⟩ : BufTy).Contents (Elt F)),
   StableHlo.binary main_arg0 main_call0_v0 main_call0_v1 ((cmpi .slt) : (⟨S1024x50, .i32⟩ : BufTy).Contents (Elt F) → (⟨S1024x50, .i32⟩ : BufTy).Contents (Elt F) → (⟨S1024x50, .i1⟩ : BufTy).Contents (Elt F)),
   StableHlo.nullary main_call0_c_0 (constantI S_ 32 100000#32),
   StableHlo.unary main_call0_c_0 main_call0_v2 ((broadcastInDim S1024x50 ![] bcast_S_S1024x50) : (⟨S_, .i32⟩ : BufTy).Contents (Elt F) → (⟨S1024x50, .i32⟩ : BufTy).Contents (Elt F)),
   StableHlo.binary main_arg0 main_call0_v2 main_call0_v3 (addi : (⟨S1024x50, .i32⟩ : BufTy).Contents (Elt F) → (⟨S1024x50, .i32⟩ : BufTy).Contents (Elt F) → (⟨S1024x50, .i32⟩ : BufTy).Contents (Elt F)),
   StableHlo.ternary main_call0_v1 main_call0_v3 main_arg0 main_call0_v4 (select : (⟨S1024x50, .i1⟩ : BufTy).Contents (Elt F) → (⟨S1024x50, .i32⟩ : BufTy).Contents (Elt F) → (⟨S1024x50, .i32⟩ : BufTy).Contents (Elt F) → (⟨S1024x50, .i32⟩ : BufTy).Contents (Elt F)),
   StableHlo.unary main_call0_v4 main_call0_v5 ((broadcastInDim S1024x50x1 ![0, 1] bcast_S1024x50_S1024x50x1_0_1) : (⟨S1024x50, .i32⟩ : BufTy).Contents (Elt F) → (⟨S1024x50x1, .i32⟩ : BufTy).Contents (Elt F)),
   StableHlo.nullary main_call0_c_1 (constantI S1 32 99999#32),
   StableHlo.nullary main_call0_c_2 (constantI S_ 32 0#32),
   StableHlo.unary main_call0_c_2 main_call0_v6 ((broadcastInDim S1024x50x1 ![] bcast_S_S1024x50x1) : (⟨S_, .i32⟩ : BufTy).Contents (Elt F) → (⟨S1024x50x1, .i32⟩ : BufTy).Contents (Elt F)),
   StableHlo.binary main_call0_v5 main_call0_v6 main_call0_v7 ((cmpi .sge) : (⟨S1024x50x1, .i32⟩ : BufTy).Contents (Elt F) → (⟨S1024x50x1, .i32⟩ : BufTy).Contents (Elt F) → (⟨S1024x50x1, .i1⟩ : BufTy).Contents (Elt F)),
   StableHlo.unary main_call0_c_1 main_call0_v8 ((broadcastInDim S1x1x1 ![2] bcast_S1_S1x1x1_2) : (⟨S1, .i32⟩ : BufTy).Contents (Elt F) → (⟨S1x1x1, .i32⟩ : BufTy).Contents (Elt F)),
   StableHlo.unary main_call0_v8 main_call0_v9 ((broadcastInDim S1024x50x1 ![0, 1, 2] bcast_S1x1x1_S1024x50x1_0_1_2) : (⟨S1x1x1, .i32⟩ : BufTy).Contents (Elt F) → (⟨S1024x50x1, .i32⟩ : BufTy).Contents (Elt F)),
   StableHlo.binary main_call0_v5 main_call0_v9 main_call0_v10 ((cmpi .sle) : (⟨S1024x50x1, .i32⟩ : BufTy).Contents (Elt F) → (⟨S1024x50x1, .i32⟩ : BufTy).Contents (Elt F) → (⟨S1024x50x1, .i1⟩ : BufTy).Contents (Elt F)),
   StableHlo.binary main_call0_v7 main_call0_v10 main_call0_v11 (andi : (⟨S1024x50x1, .i1⟩ : BufTy).Contents (Elt F) → (⟨S1024x50x1, .i1⟩ : BufTy).Contents (Elt F) → (⟨S1024x50x1, .i1⟩ : BufTy).Contents (Elt F)),
   StableHlo.nullary main_call0_c_3 (constantI S_ 1 1#1),
   StableHlo.binary main_call0_v11 main_call0_c_3 main_call0_v12 ((fun x v => Host.reduce IntOp.andi x v reducesTo_S1024x50x1_S1024x50_d2 h_S_) : (⟨S1024x50x1, .i1⟩ : BufTy).Contents (Elt F) → (⟨S_, .i1⟩ : BufTy).Contents (Elt F) → (⟨S1024x50, .i1⟩ : BufTy).Contents (Elt F)),
   StableHlo.binary main_arg2 main_call0_v5 main_call0_v13 ((fun x i => Host.gather gather_S100000x128_S1024x50x1_S1024x50x128_2_0_n_n_0_2_1128 x i) : (⟨S100000x128, .f32⟩ : BufTy).Contents (Elt F) → (⟨S1024x50x1, .i32⟩ : BufTy).Contents (Elt F) → (⟨S1024x50x128, .f32⟩ : BufTy).Contents (Elt F)),
   StableHlo.unary main_call0_v12 main_call0_v14 ((broadcastInDim S1024x50x128 ![0, 1] bcast_S1024x50_S1024x50x128_0_1) : (⟨S1024x50, .i1⟩ : BufTy).Contents (Elt F) → (⟨S1024x50x128, .i1⟩ : BufTy).Contents (Elt F)),
   StableHlo.nullary main_call0_cst (constant S_ .f32 0x7FC00000#32),
   StableHlo.unary main_call0_cst main_call0_v15 ((broadcastInDim S1024x50x128 ![] bcast_S_S1024x50x128) : (⟨S_, .f32⟩ : BufTy).Contents (Elt F) → (⟨S1024x50x128, .f32⟩ : BufTy).Contents (Elt F)),
   StableHlo.ternary main_call0_v14 main_call0_v13 main_call0_v15 main_v0 (select : (⟨S1024x50x128, .i1⟩ : BufTy).Contents (Elt F) → (⟨S1024x50x128, .f32⟩ : BufTy).Contents (Elt F) → (⟨S1024x50x128, .f32⟩ : BufTy).Contents (Elt F) → (⟨S1024x50x128, .f32⟩ : BufTy).Contents (Elt F))]

/-- the rows by steps, and the operands of the first loop; -/
abbrev entryOps : List (HloOp τ sig (Elt F)) :=
  [StableHlo.unary main_v0 main_v1 ((transpose S50x1024x128 [1, 0, 2] · transposes_S1024x50x128_S50x1024x128_1_0_2) : (⟨S1024x50x128, .f32⟩ : BufTy).Contents (Elt F) → (⟨S50x1024x128, .f32⟩ : BufTy).Contents (Elt F)),
   StableHlo.nullary main_cst (constant S_ .f32 0x00000000#32),
   StableHlo.unary main_cst main_v2 (broadcastInDim S1024x256 ![] bcast_S_S1024x256 : (⟨S_, .f32⟩ : BufTy).Contents (Elt F) → (⟨S1024x256, .f32⟩ : BufTy).Contents (Elt F)),
   StableHlo.nullary main_cst_0 (constant S_ .f32 0x00000000#32),
   StableHlo.unary main_cst_0 main_v3 (broadcastInDim S50x1024x256 ![] bcast_S_S50x1024x256 : (⟨S_, .f32⟩ : BufTy).Contents (Elt F) → (⟨S50x1024x256, .f32⟩ : BufTy).Contents (Elt F)),
   StableHlo.nullary main_c (constantI S_ 32 0#32),
   StableHlo.unary main_v1 main_v4_0 id,
   StableHlo.unary main_arg3 main_v4_1 id,
   StableHlo.unary main_arg4 main_v4_2 id,
   StableHlo.unary main_arg5 main_v4_3 id,
   StableHlo.unary main_c main_v4_4 id,
   StableHlo.unary main_arg1 main_v4_5 id,
   StableHlo.unary main_v2 main_v4_6 id,
   StableHlo.unary main_v3 main_v4_7 id]

/-- the rows in reversed order, and the operands of the second loop; -/
abbrev midOps : List (HloOp τ sig (Elt F)) :=
  [StableHlo.unary main_v1 main_v5 (Host.reverse [0] : (⟨S50x1024x128, .f32⟩ : BufTy).Contents (Elt F) → (⟨S50x1024x128, .f32⟩ : BufTy).Contents (Elt F)),
   StableHlo.nullary main_cst_1 (constant S_ .f32 0x00000000#32),
   StableHlo.unary main_cst_1 main_v6 (broadcastInDim S50x1024x256 ![] bcast_S_S50x1024x256 : (⟨S_, .f32⟩ : BufTy).Contents (Elt F) → (⟨S50x1024x256, .f32⟩ : BufTy).Contents (Elt F)),
   StableHlo.nullary main_c_2 (constantI S_ 32 0#32),
   StableHlo.unary main_v5 main_v7_0 id,
   StableHlo.unary main_arg6 main_v7_1 id,
   StableHlo.unary main_arg7 main_v7_2 id,
   StableHlo.unary main_arg8 main_v7_3 id,
   StableHlo.unary main_c_2 main_v7_4 id,
   StableHlo.unary main_arg1 main_v7_5 id,
   StableHlo.unary main_v2 main_v7_6 id,
   StableHlo.unary main_v6 main_v7_7 id]

/-- the two results. -/
abbrev postOps : List (HloOp τ sig (Elt F)) :=
  [StableHlo.unary main_v7_7 main_v8 (Host.reverse [0] : (⟨S50x1024x256, .f32⟩ : BufTy).Contents (Elt F) → (⟨S50x1024x256, .f32⟩ : BufTy).Contents (Elt F)),
   StableHlo.binary main_v4_7 main_v8 main_v9 ((fun a b => concatenate S50x1024x512 2 [⟨S50x1024x256, a⟩, ⟨S50x1024x256, b⟩] concatenates_S50x1024x256_S50x1024x256_S50x1024x512_d2) : (⟨S50x1024x256, .f32⟩ : BufTy).Contents (Elt F) → (⟨S50x1024x256, .f32⟩ : BufTy).Contents (Elt F) → (⟨S50x1024x512, .f32⟩ : BufTy).Contents (Elt F)),
   StableHlo.unary main_v9 main_v10 ((transpose S1024x50x512 [1, 0, 2] · transposes_S50x1024x512_S1024x50x512_1_0_2) : (⟨S50x1024x512, .f32⟩ : BufTy).Contents (Elt F) → (⟨S1024x50x512, .f32⟩ : BufTy).Contents (Elt F)),
   StableHlo.binary main_v4_5 main_v7_5 main_v11 ((fun a b => concatenate S1024x512 1 [⟨S1024x256, a⟩, ⟨S1024x256, b⟩] concatenates_S1024x256_S1024x256_S1024x512_d1) : (⟨S1024x256, .f32⟩ : BufTy).Contents (Elt F) → (⟨S1024x256, .f32⟩ : BufTy).Contents (Elt F) → (⟨S1024x512, .f32⟩ : BufTy).Contents (Elt F))]

/-- The test of loop 0; -/
abbrev condOps0 : List (HloOp τ sig (Elt F)) :=
  [StableHlo.nullary main_while0c_c_10 (constantI S_ 32 50#32),
   StableHlo.binary main_v4_4 main_while0c_c_10 main_while0c_v12 (cmpi .slt : (⟨S_, .i32⟩ : BufTy).Contents (Elt F) → (⟨S_, .i32⟩ : BufTy).Contents (Elt F) → (⟨S_, .i1⟩ : BufTy).Contents (Elt F))]

/-- one step of loop 0: the weighted sums of the row and of the hidden state; -/
abbrev sumOps0 : List (HloOp τ sig (Elt F)) :=
  [StableHlo.nullary main_while0b_call1_c (constantI S_ 32 0#32),
   StableHlo.nullary main_while0b_call1_c_0 (constantI S_ 32 0#32),
   StableHlo.TRef.unaryIndexed (.of main_v4_0 : StableHlo.TRef sig ⟨S50x1024x128, .f32⟩) ![(.of main_v4_4 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x1024x128, .f32⟩) (fun x i => Host.dynamicSlice S1x1024x128 x (fun k => (i k (Shape.Idx.first h_S_)).toInt) sliceFits_S50x1024x128_S1x1024x128),
   StableHlo.reshape main_while0b_call1_v0 main_while0b_v12 (rfl : (.f32 : EltTy) = .f32) shapeCasts_S1x1024x128_S1024x128,
   StableHlo.binary main_while0b_v12 main_v4_1 main_while0b_v13 ((fun l r => Host.dotGeneral dot_S1024x128_S128x1024_S1024x1024_1_0_0_1_n_n none l r) : (⟨S1024x128, .f32⟩ : BufTy).Contents (Elt F) → (⟨S128x1024, .f32⟩ : BufTy).Contents (Elt F) → (⟨S1024x1024, .f32⟩ : BufTy).Contents (Elt F)),
   StableHlo.binary main_v4_5 main_v4_2 main_while0b_v14 ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F)),
   StableHlo.binary main_while0b_v13 main_while0b_v14 main_while0b_v15 (addf : (⟨S1024x1024, .f32⟩ : BufTy).Contents (Elt F) → (⟨S1024x1024, .f32⟩ : BufTy).Contents (Elt F) → (⟨S1024x1024, .f32⟩ : BufTy).Contents (Elt F)),
   StableHlo.unary main_v4_3 main_while0b_v16 (broadcastInDim S1x1024 ![1] bcast_S1024_S1x1024_1 : (⟨S1024, .f32⟩ : BufTy).Contents (Elt F) → (⟨S1x1024, .f32⟩ : BufTy).Contents (Elt F)),
   StableHlo.unary main_while0b_v16 main_while0b_v17 (broadcastInDim S1024x1024 ![0, 1] bcast_S1x1024_S1024x1024_0_1 : (⟨S1x1024, .f32⟩ : BufTy).Contents (Elt F) → (⟨S1024x1024, .f32⟩ : BufTy).Contents (Elt F)),
   StableHlo.binary main_while0b_v15 main_while0b_v17 main_while0b_v18 (addf : (⟨S1024x1024, .f32⟩ : BufTy).Contents (Elt F) → (⟨S1024x1024, .f32⟩ : BufTy).Contents (Elt F) → (⟨S1024x1024, .f32⟩ : BufTy).Contents (Elt F))]

/-- the four gates and the new states; -/
abbrev gateOps0 : List (HloOp τ sig (Elt F)) :=
  [StableHlo.unary main_while0b_v18 main_while0b_v19 ((extractStridedSlice S1024x256 ![0, 0] · slices_S1024x1024_S1024x256_0_0) : (⟨S1024x1024, .f32⟩ : BufTy).Contents (Elt F) → (⟨S1024x256, .f32⟩ : BufTy).Contents (Elt F)),
   StableHlo.unary main_while0b_v18 main_while0b_v20 ((extractStridedSlice S1024x256 ![0, 256] · slices_S1024x1024_S1024x256_0_256) : (⟨S1024x1024, .f32⟩ : BufTy).Contents (Elt F) → (⟨S1024x256, .f32⟩ : BufTy).Contents (Elt F)),
   StableHlo.unary main_while0b_v18 main_while0b_v21 ((extractStridedSlice S1024x256 ![0, 512] · slices_S1024x1024_S1024x256_0_512) : (⟨S1024x1024, .f32⟩ : BufTy).Contents (Elt F) → (⟨S1024x256, .f32⟩ : BufTy).Contents (Elt F)),
   StableHlo.unary main_while0b_v18 main_while0b_v22 ((extractStridedSlice S1024x256 ![0, 768] · slices_S1024x1024_S1024x256_0_768) : (⟨S1024x1024, .f32⟩ : BufTy).Contents (Elt F) → (⟨S1024x256, .f32⟩ : BufTy).Contents (Elt F)),
   StableHlo.unary main_while0b_v19 main_while0b_v23 (Host.negf : (⟨S1024x256, .f32⟩ : BufTy).Contents (Elt F) → (⟨S1024x256, .f32⟩ : BufTy).Contents (Elt F)),
   StableHlo.unary main_while0b_v23 main_while0b_v24 (Host.exp : (⟨S1024x256, .f32⟩ : BufTy).Contents (Elt F) → (⟨S1024x256, .f32⟩ : BufTy).Contents (Elt F)),
   StableHlo.nullary main_while0b_cst_10 (constant S_ .f32 0x3F800000#32),
   StableHlo.unary main_while0b_cst_10 main_while0b_v25 (broadcastInDim S1024x256 ![] bcast_S_S1024x256 : (⟨S_, .f32⟩ : BufTy).Contents (Elt F) → (⟨S1024x256, .f32⟩ : BufTy).Contents (Elt F)),
   StableHlo.binary main_while0b_v25 main_while0b_v24 main_while0b_v26 (addf : (⟨S1024x256, .f32⟩ : BufTy).Contents (Elt F) → (⟨S1024x256, .f32⟩ : BufTy).Contents (Elt F) → (⟨S1024x256, .f32⟩ : BufTy).Contents (Elt F)),
   StableHlo.nullary main_while0b_cst_11 (constant S_ .f32 0x3F800000#32),
   StableHlo.unary main_while0b_cst_11 main_while0b_v27 (broadcastInDim S1024x256 ![] bcast_S_S1024x256 : (⟨S_, .f32⟩ : BufTy).Contents (Elt F) → (⟨S1024x256, .f32⟩ : BufTy).Contents (Elt F)),
   StableHlo.binary main_while0b_v27 main_while0b_v26 main_while0b_v28 (Host.divf : (⟨S1024x256, .f32⟩ : BufTy).Contents (Elt F) → (⟨S1024x256, .f32⟩ : BufTy).Contents (Elt F) → (⟨S1024x256, .f32⟩ : BufTy).Contents (Elt F)),
   StableHlo.unary main_while0b_v20 main_while0b_v29 (Host.negf : (⟨S1024x256, .f32⟩ : BufTy).Contents (Elt F) → (⟨S1024x256, .f32⟩ : BufTy).Contents (Elt F)),
   StableHlo.unary main_while0b_v29 main_while0b_v30 (Host.exp : (⟨S1024x256, .f32⟩ : BufTy).Contents (Elt F) → (⟨S1024x256, .f32⟩ : BufTy).Contents (Elt F)),
   StableHlo.nullary main_while0b_cst_12 (constant S_ .f32 0x3F800000#32),
   StableHlo.unary main_while0b_cst_12 main_while0b_v31 (broadcastInDim S1024x256 ![] bcast_S_S1024x256 : (⟨S_, .f32⟩ : BufTy).Contents (Elt F) → (⟨S1024x256, .f32⟩ : BufTy).Contents (Elt F)),
   StableHlo.binary main_while0b_v31 main_while0b_v30 main_while0b_v32 (addf : (⟨S1024x256, .f32⟩ : BufTy).Contents (Elt F) → (⟨S1024x256, .f32⟩ : BufTy).Contents (Elt F) → (⟨S1024x256, .f32⟩ : BufTy).Contents (Elt F)),
   StableHlo.nullary main_while0b_cst_13 (constant S_ .f32 0x3F800000#32),
   StableHlo.unary main_while0b_cst_13 main_while0b_v33 (broadcastInDim S1024x256 ![] bcast_S_S1024x256 : (⟨S_, .f32⟩ : BufTy).Contents (Elt F) → (⟨S1024x256, .f32⟩ : BufTy).Contents (Elt F)),
   StableHlo.binary main_while0b_v33 main_while0b_v32 main_while0b_v34 (Host.divf : (⟨S1024x256, .f32⟩ : BufTy).Contents (Elt F) → (⟨S1024x256, .f32⟩ : BufTy).Contents (Elt F) → (⟨S1024x256, .f32⟩ : BufTy).Contents (Elt F)),
   StableHlo.unary main_while0b_v21 main_while0b_v35 (Host.tanh : (⟨S1024x256, .f32⟩ : BufTy).Contents (Elt F) → (⟨S1024x256, .f32⟩ : BufTy).Contents (Elt F)),
   StableHlo.unary main_while0b_v22 main_while0b_v36 (Host.negf : (⟨S1024x256, .f32⟩ : BufTy).Contents (Elt F) → (⟨S1024x256, .f32⟩ : BufTy).Contents (Elt F)),
   StableHlo.unary main_while0b_v36 main_while0b_v37 (Host.exp : (⟨S1024x256, .f32⟩ : BufTy).Contents (Elt F) → (⟨S1024x256, .f32⟩ : BufTy).Contents (Elt F)),
   StableHlo.nullary main_while0b_cst_14 (constant S_ .f32 0x3F800000#32),
   StableHlo.unary main_while0b_cst_14 main_while0b_v38 (broadcastInDim S1024x256 ![] bcast_S_S1024x256 : (⟨S_, .f32⟩ : BufTy).Contents (Elt F) → (⟨S1024x256, .f32⟩ : BufTy).Contents (Elt F)),
   StableHlo.binary main_while0b_v38 main_while0b_v37 main_while0b_v39 (addf : (⟨S1024x256, .f32⟩ : BufTy).Contents (Elt F) → (⟨S1024x256, .f32⟩ : BufTy).Contents (Elt F) → (⟨S1024x256, .f32⟩ : BufTy).Contents (Elt F)),
   StableHlo.nullary main_while0b_cst_15 (constant S_ .f32 0x3F800000#32),
   StableHlo.unary main_while0b_cst_15 main_while0b_v40 (broadcastInDim S1024x256 ![] bcast_S_S1024x256 : (⟨S_, .f32⟩ : BufTy).Contents (Elt F) → (⟨S1024x256, .f32⟩ : BufTy).Contents (Elt F)),
   StableHlo.binary main_while0b_v40 main_while0b_v39 main_while0b_v41 (Host.divf : (⟨S1024x256, .f32⟩ : BufTy).Contents (Elt F) → (⟨S1024x256, .f32⟩ : BufTy).Contents (Elt F) → (⟨S1024x256, .f32⟩ : BufTy).Contents (Elt F)),
   StableHlo.binary main_while0b_v34 main_v4_6 main_while0b_v42 (mulf : (⟨S1024x256, .f32⟩ : BufTy).Contents (Elt F) → (⟨S1024x256, .f32⟩ : BufTy).Contents (Elt F) → (⟨S1024x256, .f32⟩ : BufTy).Contents (Elt F)),
   StableHlo.binary main_while0b_v28 main_while0b_v35 main_while0b_v43 (mulf : (⟨S1024x256, .f32⟩ : BufTy).Contents (Elt F) → (⟨S1024x256, .f32⟩ : BufTy).Contents (Elt F) → (⟨S1024x256, .f32⟩ : BufTy).Contents (Elt F)),
   StableHlo.binary main_while0b_v42 main_while0b_v43 main_while0b_v44 (addf : (⟨S1024x256, .f32⟩ : BufTy).Contents (Elt F) → (⟨S1024x256, .f32⟩ : BufTy).Contents (Elt F) → (⟨S1024x256, .f32⟩ : BufTy).Contents (Elt F)),
   StableHlo.unary main_while0b_v44 main_while0b_v45 (Host.tanh : (⟨S1024x256, .f32⟩ : BufTy).Contents (Elt F) → (⟨S1024x256, .f32⟩ : BufTy).Contents (Elt F)),
   StableHlo.binary main_while0b_v41 main_while0b_v45 main_while0b_v46 (mulf : (⟨S1024x256, .f32⟩ : BufTy).Contents (Elt F) → (⟨S1024x256, .f32⟩ : BufTy).Contents (Elt F) → (⟨S1024x256, .f32⟩ : BufTy).Contents (Elt F))]

/-- the row of the sequence of hidden states, the counter, and the carried values. -/
abbrev keepOps0 : List (HloOp τ sig (Elt F)) :=
  [StableHlo.unary main_while0b_v46 main_while0b_call2_v0 ((broadcastInDim S1x1024x256 ![1, 2] bcast_S1024x256_S1x1024x256_1_2) : (⟨S1024x256, .f32⟩ : BufTy).Contents (Elt F) → (⟨S1x1024x256, .f32⟩ : BufTy).Contents (Elt F)),
   StableHlo.nullary main_while0b_call2_c (constantI S_ 32 0#32),
   StableHlo.nullary main_while0b_call2_c_0 (constantI S_ 32 0#32),
   StableHlo.TRef.binaryIndexed (.of main_v4_7 : StableHlo.TRef sig ⟨S50x1024x256, .f32⟩) (.of main_while0b_call2_v0 : StableHlo.TRef sig ⟨S1x1024x256, .f32⟩) ![(.of main_v4_4 : StableHlo.TRef sig ⟨S_, .i32⟩), (.of main_while0b_call2_c : StableHlo.TRef sig ⟨S_, .i32⟩), (.of main_while0b_call2_c_0 : StableHlo.TRef sig ⟨S_, .i32⟩)] (.of main_while0b_v47 : StableHlo.TRef sig ⟨S50x1024x256, .f32⟩) (fun x u i => Host.dynamicUpdateSlice x u (fun k => (i k (Shape.Idx.first h_S_)).toInt) updateFits_S50x1024x256_S1x1024x256),
   StableHlo.nullary main_while0b_c_16 (constantI S_ 32 1#32),
   StableHlo.binary main_v4_4 main_while0b_c_16 main_while0b_v48 (addi : (⟨S_, .i32⟩ : BufTy).Contents (Elt F) → (⟨S_, .i32⟩ : BufTy).Contents (Elt F) → (⟨S_, .i32⟩ : BufTy).Contents (Elt F)),
   StableHlo.unary main_while0b_v48 main_v4_4 id,
   StableHlo.unary main_while0b_v46 main_v4_5 id,
   StableHlo.unary main_while0b_v44 main_v4_6 id,
   StableHlo.unary main_while0b_v47 main_v4_7 id]

/-- The test of loop 1; -/
abbrev condOps1 : List (HloOp τ sig (Elt F)) :=
  [StableHlo.nullary main_while1c_c_10 (constantI S_ 32 50#32),
   StableHlo.binary main_v7_4 main_while1c_c_10 main_while1c_v12 (cmpi .slt : (⟨S_, .i32⟩ : BufTy).Contents (Elt F) → (⟨S_, .i32⟩ : BufTy).Contents (Elt F) → (⟨S_, .i1⟩ : BufTy).Contents (Elt F))]

/-- one step of loop 1: the weighted sums of the row and of the hidden state; -/
abbrev sumOps1 : List (HloOp τ sig (Elt F)) :=
  [StableHlo.nullary main_while1b_call3_c (constantI S_ 32 0#32),
   StableHlo.nullary main_while1b_call3_c_0 (constantI S_ 32 0#32),
   StableHlo.TRef.unaryIndexed (.of main_v7_0 : StableHlo.TRef sig ⟨S50x1024x128, .f32⟩) ![(.of main_v7_4 : StableHlo.TRef sig ⟨S_, .i32⟩), (.of main_while1b_call3_c : StableHlo.TRef sig ⟨S_, .i32⟩), (.of main_while1b_call3_c_0 : StableHlo.TRef sig ⟨S_, .i32⟩)] (.of main_while1b_call3_v0 : StableHlo.TRef sig ⟨S1x1024x128, .f32⟩) (fun x i => Host.dynamicSlice S1x1024x128 x (fun k => (i k (Shape.Idx.first h_S_)).toInt) sliceFits_S50x1024x128_S1x1024x128),
   StableHlo.reshape main_while1b_call3_v0 main_while1b_v12 (rfl : (.f32 : EltTy) = .f32) shapeCasts_S1x1024x128_S1024x128,
   StableHlo.binary main_while1b_v12 main_v7_1 main_while1b_v13 ((fun l r => Host.dotGeneral dot_S1024x128_S128x1024_S1024x1024_1_0_0_1_n_n none l r) : (⟨S1024x128, .f32⟩ : BufTy).Contents (Elt F) → (⟨S128x1024, .f32⟩ : BufTy).Contents (Elt F) → (⟨S1024x1024, .f32⟩ : BufTy).Contents (Elt F)),
   StableHlo.binary main_v7_5 main_v7_2 main_while1b_v14 ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F)),
   StableHlo.binary main_while1b_v13 main_while1b_v14 main_while1b_v15 (addf : (⟨S1024x1024, .f32⟩ : BufTy).Contents (Elt F) → (⟨S1024x1024, .f32⟩ : BufTy).Contents (Elt F) → (⟨S1024x1024, .f32⟩ : BufTy).Contents (Elt F)),
   StableHlo.unary main_v7_3 main_while1b_v16 (broadcastInDim S1x1024 ![1] bcast_S1024_S1x1024_1 : (⟨S1024, .f32⟩ : BufTy).Contents (Elt F) → (⟨S1x1024, .f32⟩ : BufTy).Contents (Elt F)),
   StableHlo.unary main_while1b_v16 main_while1b_v17 (broadcastInDim S1024x1024 ![0, 1] bcast_S1x1024_S1024x1024_0_1 : (⟨S1x1024, .f32⟩ : BufTy).Contents (Elt F) → (⟨S1024x1024, .f32⟩ : BufTy).Contents (Elt F)),
   StableHlo.binary main_while1b_v15 main_while1b_v17 main_while1b_v18 (addf : (⟨S1024x1024, .f32⟩ : BufTy).Contents (Elt F) → (⟨S1024x1024, .f32⟩ : BufTy).Contents (Elt F) → (⟨S1024x1024, .f32⟩ : BufTy).Contents (Elt F))]

/-- the four gates and the new states; -/
abbrev gateOps1 : List (HloOp τ sig (Elt F)) :=
  [StableHlo.unary main_while1b_v18 main_while1b_v19 ((extractStridedSlice S1024x256 ![0, 0] · slices_S1024x1024_S1024x256_0_0) : (⟨S1024x1024, .f32⟩ : BufTy).Contents (Elt F) → (⟨S1024x256, .f32⟩ : BufTy).Contents (Elt F)),
   StableHlo.unary main_while1b_v18 main_while1b_v20 ((extractStridedSlice S1024x256 ![0, 256] · slices_S1024x1024_S1024x256_0_256) : (⟨S1024x1024, .f32⟩ : BufTy).Contents (Elt F) → (⟨S1024x256, .f32⟩ : BufTy).Contents (Elt F)),
   StableHlo.unary main_while1b_v18 main_while1b_v21 ((extractStridedSlice S1024x256 ![0, 512] · slices_S1024x1024_S1024x256_0_512) : (⟨S1024x1024, .f32⟩ : BufTy).Contents (Elt F) → (⟨S1024x256, .f32⟩ : BufTy).Contents (Elt F)),
   StableHlo.unary main_while1b_v18 main_while1b_v22 ((extractStridedSlice S1024x256 ![0, 768] · slices_S1024x1024_S1024x256_0_768) : (⟨S1024x1024, .f32⟩ : BufTy).Contents (Elt F) → (⟨S1024x256, .f32⟩ : BufTy).Contents (Elt F)),
   StableHlo.unary main_while1b_v19 main_while1b_v23 (Host.negf : (⟨S1024x256, .f32⟩ : BufTy).Contents (Elt F) → (⟨S1024x256, .f32⟩ : BufTy).Contents (Elt F)),
   StableHlo.unary main_while1b_v23 main_while1b_v24 (Host.exp : (⟨S1024x256, .f32⟩ : BufTy).Contents (Elt F) → (⟨S1024x256, .f32⟩ : BufTy).Contents (Elt F)),
   StableHlo.nullary main_while1b_cst_10 (constant S_ .f32 0x3F800000#32),
   StableHlo.unary main_while1b_cst_10 main_while1b_v25 (broadcastInDim S1024x256 ![] bcast_S_S1024x256 : (⟨S_, .f32⟩ : BufTy).Contents (Elt F) → (⟨S1024x256, .f32⟩ : BufTy).Contents (Elt F)),
   StableHlo.binary main_while1b_v25 main_while1b_v24 main_while1b_v26 (addf : (⟨S1024x256, .f32⟩ : BufTy).Contents (Elt F) → (⟨S1024x256, .f32⟩ : BufTy).Contents (Elt F) → (⟨S1024x256, .f32⟩ : BufTy).Contents (Elt F)),
   StableHlo.nullary main_while1b_cst_11 (constant S_ .f32 0x3F800000#32),
   StableHlo.unary main_while1b_cst_11 main_while1b_v27 (broadcastInDim S1024x256 ![] bcast_S_S1024x256 : (⟨S_, .f32⟩ : BufTy).Contents (Elt F) → (⟨S1024x256, .f32⟩ : BufTy).Contents (Elt F)),
   StableHlo.binary main_while1b_v27 main_while1b_v26 main_while1b_v28 (Host.divf : (⟨S1024x256, .f32⟩ : BufTy).Contents (Elt F) → (⟨S1024x256, .f32⟩ : BufTy).Contents (Elt F) → (⟨S1024x256, .f32⟩ : BufTy).Contents (Elt F)),
   StableHlo.unary main_while1b_v20 main_while1b_v29 (Host.negf : (⟨S1024x256, .f32⟩ : BufTy).Contents (Elt F) → (⟨S1024x256, .f32⟩ : BufTy).Contents (Elt F)),
   StableHlo.unary main_while1b_v29 main_while1b_v30 (Host.exp : (⟨S1024x256, .f32⟩ : BufTy).Contents (Elt F) → (⟨S1024x256, .f32⟩ : BufTy).Contents (Elt F)),
   StableHlo.nullary main_while1b_cst_12 (constant S_ .f32 0x3F800000#32),
   StableHlo.unary main_while1b_cst_12 main_while1b_v31 (broadcastInDim S1024x256 ![] bcast_S_S1024x256 : (⟨S_, .f32⟩ : BufTy).Contents (Elt F) → (⟨S1024x256, .f32⟩ : BufTy).Contents (Elt F)),
   StableHlo.binary main_while1b_v31 main_while1b_v30 main_while1b_v32 (addf : (⟨S1024x256, .f32⟩ : BufTy).Contents (Elt F) → (⟨S1024x256, .f32⟩ : BufTy).Contents (Elt F) → (⟨S1024x256, .f32⟩ : BufTy).Contents (Elt F)),
   StableHlo.nullary main_while1b_cst_13 (constant S_ .f32 0x3F800000#32),
   StableHlo.unary main_while1b_cst_13 main_while1b_v33 (broadcastInDim S1024x256 ![] bcast_S_S1024x256 : (⟨S_, .f32⟩ : BufTy).Contents (Elt F) → (⟨S1024x256, .f32⟩ : BufTy).Contents (Elt F)),
   StableHlo.binary main_while1b_v33 main_while1b_v32 main_while1b_v34 (Host.divf : (⟨S1024x256, .f32⟩ : BufTy).Contents (Elt F) → (⟨S1024x256, .f32⟩ : BufTy).Contents (Elt F) → (⟨S1024x256, .f32⟩ : BufTy).Contents (Elt F)),
   StableHlo.unary main_while1b_v21 main_while1b_v35 (Host.tanh : (⟨S1024x256, .f32⟩ : BufTy).Contents (Elt F) → (⟨S1024x256, .f32⟩ : BufTy).Contents (Elt F)),
   StableHlo.unary main_while1b_v22 main_while1b_v36 (Host.negf : (⟨S1024x256, .f32⟩ : BufTy).Contents (Elt F) → (⟨S1024x256, .f32⟩ : BufTy).Contents (Elt F)),
   StableHlo.unary main_while1b_v36 main_while1b_v37 (Host.exp : (⟨S1024x256, .f32⟩ : BufTy).Contents (Elt F) → (⟨S1024x256, .f32⟩ : BufTy).Contents (Elt F)),
   StableHlo.nullary main_while1b_cst_14 (constant S_ .f32 0x3F800000#32),
   StableHlo.unary main_while1b_cst_14 main_while1b_v38 (broadcastInDim S1024x256 ![] bcast_S_S1024x256 : (⟨S_, .f32⟩ : BufTy).Contents (Elt F) → (⟨S1024x256, .f32⟩ : BufTy).Contents (Elt F)),
   StableHlo.binary main_while1b_v38 main_while1b_v37 main_while1b_v39 (addf : (⟨S1024x256, .f32⟩ : BufTy).Contents (Elt F) → (⟨S1024x256, .f32⟩ : BufTy).Contents (Elt F) → (⟨S1024x256, .f32⟩ : BufTy).Contents (Elt F)),
   StableHlo.nullary main_while1b_cst_15 (constant S_ .f32 0x3F800000#32),
   StableHlo.unary main_while1b_cst_15 main_while1b_v40 (broadcastInDim S1024x256 ![] bcast_S_S1024x256 : (⟨S_, .f32⟩ : BufTy).Contents (Elt F) → (⟨S1024x256, .f32⟩ : BufTy).Contents (Elt F)),
   StableHlo.binary main_while1b_v40 main_while1b_v39 main_while1b_v41 (Host.divf : (⟨S1024x256, .f32⟩ : BufTy).Contents (Elt F) → (⟨S1024x256, .f32⟩ : BufTy).Contents (Elt F) → (⟨S1024x256, .f32⟩ : BufTy).Contents (Elt F)),
   StableHlo.binary main_while1b_v34 main_v7_6 main_while1b_v42 (mulf : (⟨S1024x256, .f32⟩ : BufTy).Contents (Elt F) → (⟨S1024x256, .f32⟩ : BufTy).Contents (Elt F) → (⟨S1024x256, .f32⟩ : BufTy).Contents (Elt F)),
   StableHlo.binary main_while1b_v28 main_while1b_v35 main_while1b_v43 (mulf : (⟨S1024x256, .f32⟩ : BufTy).Contents (Elt F) → (⟨S1024x256, .f32⟩ : BufTy).Contents (Elt F) → (⟨S1024x256, .f32⟩ : BufTy).Contents (Elt F)),
   StableHlo.binary main_while1b_v42 main_while1b_v43 main_while1b_v44 (addf : (⟨S1024x256, .f32⟩ : BufTy).Contents (Elt F) → (⟨S1024x256, .f32⟩ : BufTy).Contents (Elt F) → (⟨S1024x256, .f32⟩ : BufTy).Contents (Elt F)),
   StableHlo.unary main_while1b_v44 main_while1b_v45 (Host.tanh : (⟨S1024x256, .f32⟩ : BufTy).Contents (Elt F) → (⟨S1024x256, .f32⟩ : BufTy).Contents (Elt F)),
   StableHlo.binary main_while1b_v41 main_while1b_v45 main_while1b_v46 (mulf : (⟨S1024x256, .f32⟩ : BufTy).Contents (Elt F) → (⟨S1024x256, .f32⟩ : BufTy).Contents (Elt F) → (⟨S1024x256, .f32⟩ : BufTy).Contents (Elt F))]

/-- the row of the sequence of hidden states, the counter, and the carried values. -/
abbrev keepOps1 : List (HloOp τ sig (Elt F)) :=
  [StableHlo.unary main_while1b_v46 main_while1b_call4_v0 ((broadcastInDim S1x1024x256 ![1, 2] bcast_S1024x256_S1x1024x256_1_2) : (⟨S1024x256, .f32⟩ : BufTy).Contents (Elt F) → (⟨S1x1024x256, .f32⟩ : BufTy).Contents (Elt F)),
   StableHlo.nullary main_while1b_call4_c (constantI S_ 32 0#32),
   StableHlo.nullary main_while1b_call4_c_0 (constantI S_ 32 0#32),
   StableHlo.TRef.binaryIndexed (.of main_v7_7 : StableHlo.TRef sig ⟨S50x1024x256, .f32⟩) (.of main_while1b_call4_v0 : StableHlo.TRef sig ⟨S1x1024x256, .f32⟩) ![(.of main_v7_4 : StableHlo.TRef sig ⟨S_, .i32⟩), (.of main_while1b_call4_c : StableHlo.TRef sig ⟨S_, .i32⟩), (.of main_while1b_call4_c_0 : StableHlo.TRef sig ⟨S_, .i32⟩)] (.of main_while1b_v47 : StableHlo.TRef sig ⟨S50x1024x256, .f32⟩) (fun x u i => Host.dynamicUpdateSlice x u (fun k => (i k (Shape.Idx.first h_S_)).toInt) updateFits_S50x1024x256_S1x1024x256),
   StableHlo.nullary main_while1b_c_16 (constantI S_ 32 1#32),
   StableHlo.binary main_v7_4 main_while1b_c_16 main_while1b_v48 (addi : (⟨S_, .i32⟩ : BufTy).Contents (Elt F) → (⟨S_, .i32⟩ : BufTy).Contents (Elt F) → (⟨S_, .i32⟩ : BufTy).Contents (Elt F)),
   StableHlo.unary main_while1b_v48 main_v7_4 id,
   StableHlo.unary main_while1b_v46 main_v7_5 id,
   StableHlo.unary main_while1b_v44 main_v7_6 id,
   StableHlo.unary main_while1b_v47 main_v7_7 id]

theorem takeOps_sub : (takeOps (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

theorem entryOps_sub : (entryOps (F := F)).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem midOps_sub : (midOps (F := F)).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem postOps_sub : (postOps (F := F)).Forall fun op => op.bufs ⊆ StableHlo.tcRefs τ sig :=
  ⟨StableHlo.unary_bufs_sub .., StableHlo.binary_bufs_sub .., StableHlo.unary_bufs_sub .., StableHlo.binary_bufs_sub ..⟩

theorem condOps0_sub : (condOps0 (F := F)).Forall fun op => op.bufs ⊆ StableHlo.tcRefs τ sig :=
  ⟨StableHlo.nullary_bufs_sub .., StableHlo.binary_bufs_sub ..⟩

theorem sumOps0_sub : (sumOps0 (F := F)).Forall fun op => op.bufs ⊆ StableHlo.tcRefs τ sig :=
  ⟨StableHlo.nullary_bufs_sub .., StableHlo.nullary_bufs_sub .., StableHlo.unaryIndexed_bufs_sub .., StableHlo.reshape_bufs_sub .., StableHlo.binary_bufs_sub .., StableHlo.binary_bufs_sub .., StableHlo.binary_bufs_sub .., StableHlo.unary_bufs_sub .., StableHlo.unary_bufs_sub .., StableHlo.binary_bufs_sub ..⟩

theorem gateOps0_sub : (gateOps0 (F := F)).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

theorem keepOps0_sub : (keepOps0 (F := F)).Forall fun op => op.bufs ⊆ StableHlo.tcRefs τ sig :=
  ⟨StableHlo.unary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩

theorem condOps1_sub : (condOps1 (F := F)).Forall fun op => op.bufs ⊆ StableHlo.tcRefs τ sig :=
  ⟨StableHlo.nullary_bufs_sub .., StableHlo.binary_bufs_sub ..⟩

theorem sumOps1_sub : (sumOps1 (F := F)).Forall fun op => op.bufs ⊆ StableHlo.tcRefs τ sig :=
  ⟨StableHlo.nullary_bufs_sub .., StableHlo.nullary_bufs_sub .., StableHlo.unaryIndexed_bufs_sub .., StableHlo.reshape_bufs_sub .., StableHlo.binary_bufs_sub .., StableHlo.binary_bufs_sub .., StableHlo.binary_bufs_sub .., StableHlo.unary_bufs_sub .., StableHlo.unary_bufs_sub .., StableHlo.binary_bufs_sub ..⟩

theorem gateOps1_sub : (gateOps1 (F := F)).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

theorem keepOps1_sub : (keepOps1 (F := F)).Forall fun op => op.bufs ⊆ StableHlo.tcRefs τ sig :=
  ⟨StableHlo.unary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩

/-- The stretches of the program. -/
abbrev preI : List (List (HloOp τ sig (Elt F))) := [takeOps, entryOps]
abbrev midI : List (List (HloOp τ sig (Elt F))) := [midOps]
abbrev postI : List (List (HloOp τ sig (Elt F))) := [postOps]
abbrev bodyI0 : List (List (HloOp τ sig (Elt F))) := [sumOps0, gateOps0, keepOps0]
abbrev bodyI1 : List (List (HloOp τ sig (Elt F))) := [sumOps1, gateOps1, keepOps1]

theorem plain_pre : StableHlo.Plain (preI (F := F)) := .cons takeOps_sub (.cons entryOps_sub .nil)
theorem plain_mid : StableHlo.Plain (midI (F := F)) := .cons midOps_sub .nil
theorem plain_post : StableHlo.Plain (postI (F := F)) := .cons postOps_sub .nil
theorem plain_body0 : StableHlo.Plain (bodyI0 (F := F)) := .cons sumOps0_sub (.cons gateOps0_sub (.cons keepOps0_sub .nil))
theorem plain_body1 : StableHlo.Plain (bodyI1 (F := F)) := .cons sumOps1_sub (.cons gateOps1_sub (.cons keepOps1_sub .nil))

theorem body0_eq : main_while0_body (F := F) = Pipeline.chain (bodyI0.map fun ops => (StableHlo.seq ops : Prog _ PUnit)) := by
  chain_rfl

theorem body1_eq : main_while1_body (F := F) = Pipeline.chain (bodyI1.map fun ops => (StableHlo.seq ops : Prog _ PUnit)) := by
  chain_rfl

theorem main_eq (d : Dev nD) : main (F := F) d = Pipeline.chain ((preI.map fun ops => (StableHlo.seq ops : Prog _ PUnit)) ++ HostLoop.enter 0 ::
    ((midI.map fun ops => (StableHlo.seq ops : Prog _ PUnit)) ++ HostLoop.enter 1 :: postI.map fun ops => (StableHlo.seq ops : Prog _ PUnit))) := by
  chain_rfl

end Cert.Scan

end
-- ==== Proof.RefKeep.lean ====
/-
  What each list of the reference's operations writes, and that it leaves every other value as it was; so a trip of a
  loop changes its carried values and its temporaries only.
-/
module

public import proofs.«01_k».proof.Proof.RefOps

@[expose] public section

noncomputable section

namespace Cert.Scan

open Cert.ReferenceIdeal Cert.ReferenceIdeal.Gen

open Idealize.ShloMosaic
open Idealize.ShloMosaic.TcCoe
open Idealize.SL.Sem

variable {F : FTy → Type} [FloatOps F]

abbrev takeOps_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

theorem takeOps_keep {b : Ref sig .tc} (h : b ∉ takeOps_W) (V : Valuation τ sig (Elt F)) :
    StableHlo.after takeOps V (Proc.devRef .tc b) = V (Proc.devRef .tc b) :=
  StableHlo.after_unwritten takeOps_W rfl h V

abbrev entryOps_W : List (Ref sig .tc) := [main_v1, main_cst, main_v2, main_cst_0, main_v3, main_c, main_v4_0, main_v4_1, main_v4_2, main_v4_3, main_v4_4, main_v4_5, main_v4_6, main_v4_7]

theorem entryOps_keep {b : Ref sig .tc} (h : b ∉ entryOps_W) (V : Valuation τ sig (Elt F)) :
    StableHlo.after entryOps V (Proc.devRef .tc b) = V (Proc.devRef .tc b) :=
  StableHlo.after_unwritten entryOps_W rfl h V

abbrev midOps_W : List (Ref sig .tc) := [main_v5, main_cst_1, main_v6, main_c_2, main_v7_0, main_v7_1, main_v7_2, main_v7_3, main_v7_4, main_v7_5, main_v7_6, main_v7_7]

theorem midOps_keep {b : Ref sig .tc} (h : b ∉ midOps_W) (V : Valuation τ sig (Elt F)) :
    StableHlo.after midOps V (Proc.devRef .tc b) = V (Proc.devRef .tc b) :=
  StableHlo.after_unwritten midOps_W rfl h V

abbrev postOps_W : List (Ref sig .tc) := [main_v8, main_v9, main_v10, main_v11]

theorem postOps_keep {b : Ref sig .tc} (h : b ∉ postOps_W) (V : Valuation τ sig (Elt F)) :
    StableHlo.after postOps V (Proc.devRef .tc b) = V (Proc.devRef .tc b) :=
  StableHlo.after_unwritten postOps_W rfl h V

abbrev condOps0_W : List (Ref sig .tc) := [main_while0c_c_10, main_while0c_v12]

theorem condOps0_keep {b : Ref sig .tc} (h : b ∉ condOps0_W) (V : Valuation τ sig (Elt F)) :
    StableHlo.after condOps0 V (Proc.devRef .tc b) = V (Proc.devRef .tc b) :=
  StableHlo.after_unwritten condOps0_W rfl h V

abbrev sumOps0_W : List (Ref sig .tc) := [main_while0b_call1_c, main_while0b_call1_c_0, main_while0b_call1_v0, main_while0b_v12, main_while0b_v13, main_while0b_v14, main_while0b_v15, main_while0b_v16, main_while0b_v17, main_while0b_v18]

theorem sumOps0_keep {b : Ref sig .tc} (h : b ∉ sumOps0_W) (V : Valuation τ sig (Elt F)) :
    StableHlo.after sumOps0 V (Proc.devRef .tc b) = V (Proc.devRef .tc b) :=
  StableHlo.after_unwritten sumOps0_W rfl h V

abbrev gateOps0_W : List (Ref sig .tc) := [main_while0b_v19, main_while0b_v20, main_while0b_v21, main_while0b_v22, main_while0b_v23, main_while0b_v24, main_while0b_cst_10, main_while0b_v25, main_while0b_v26, main_while0b_cst_11, main_while0b_v27, main_while0b_v28, main_while0b_v29, main_while0b_v30, main_while0b_cst_12, main_while0b_v31, main_while0b_v32, main_while0b_cst_13, main_while0b_v33, main_while0b_v34, main_while0b_v35, main_while0b_v36, main_while0b_v37, main_while0b_cst_14, main_while0b_v38, main_while0b_v39, main_while0b_cst_15, main_while0b_v40, main_while0b_v41, main_while0b_v42, main_while0b_v43, main_while0b_v44, main_while0b_v45, main_while0b_v46]

theorem gateOps0_keep {b : Ref sig .tc} (h : b ∉ gateOps0_W) (V : Valuation τ sig (Elt F)) :
    StableHlo.after gateOps0 V (Proc.devRef .tc b) = V (Proc.devRef .tc b) :=
  StableHlo.after_unwritten gateOps0_W rfl h V

abbrev keepOps0_W : List (Ref sig .tc) := [main_while0b_call2_v0, main_while0b_call2_c, main_while0b_call2_c_0, main_while0b_v47, main_while0b_c_16, main_while0b_v48, main_v4_4, main_v4_5, main_v4_6, main_v4_7]

theorem keepOps0_keep {b : Ref sig .tc} (h : b ∉ keepOps0_W) (V : Valuation τ sig (Elt F)) :
    StableHlo.after keepOps0 V (Proc.devRef .tc b) = V (Proc.devRef .tc b) :=
  StableHlo.after_unwritten keepOps0_W rfl h V

abbrev condOps1_W : List (Ref sig .tc) := [main_while1c_c_10, main_while1c_v12]

theorem condOps1_keep {b : Ref sig .tc} (h : b ∉ condOps1_W) (V : Valuation τ sig (Elt F)) :
    StableHlo.after condOps1 V (Proc.devRef .tc b) = V (Proc.devRef .tc b) :=
  StableHlo.after_unwritten condOps1_W rfl h V

abbrev sumOps1_W : List (Ref sig .tc) := [main_while1b_call3_c, main_while1b_call3_c_0, main_while1b_call3_v0, main_while1b_v12, main_while1b_v13, main_while1b_v14, main_while1b_v15, main_while1b_v16, main_while1b_v17, main_while1b_v18]

theorem sumOps1_keep {b : Ref sig .tc} (h : b ∉ sumOps1_W) (V : Valuation τ sig (Elt F)) :
    StableHlo.after sumOps1 V (Proc.devRef .tc b) = V (Proc.devRef .tc b) :=
  StableHlo.after_unwritten sumOps1_W rfl h V

abbrev gateOps1_W : List (Ref sig .tc) := [main_while1b_v19, main_while1b_v20, main_while1b_v21, main_while1b_v22, main_while1b_v23, main_while1b_v24, main_while1b_cst_10, main_while1b_v25, main_while1b_v26, main_while1b_cst_11, main_while1b_v27, main_while1b_v28, main_while1b_v29, main_while1b_v30, main_while1b_cst_12, main_while1b_v31, main_while1b_v32, main_while1b_cst_13, main_while1b_v33, main_while1b_v34, main_while1b_v35, main_while1b_v36, main_while1b_v37, main_while1b_cst_14, main_while1b_v38, main_while1b_v39, main_while1b_cst_15, main_while1b_v40, main_while1b_v41, main_while1b_v42, main_while1b_v43, main_while1b_v44, main_while1b_v45, main_while1b_v46]

theorem gateOps1_keep {b : Ref sig .tc} (h : b ∉ gateOps1_W) (V : Valuation τ sig (Elt F)) :
    StableHlo.after gateOps1 V (Proc.devRef .tc b) = V (Proc.devRef .tc b) :=
  StableHlo.after_unwritten gateOps1_W rfl h V

abbrev keepOps1_W : List (Ref sig .tc) := [main_while1b_call4_v0, main_while1b_call4_c, main_while1b_call4_c_0, main_while1b_v47, main_while1b_c_16, main_while1b_v48, main_v7_4, main_v7_5, main_v7_6, main_v7_7]

theorem keepOps1_keep {b : Ref sig .tc} (h : b ∉ keepOps1_W) (V : Valuation τ sig (Elt F)) :
    StableHlo.after keepOps1 V (Proc.devRef .tc b) = V (Proc.devRef .tc b) :=
  StableHlo.after_unwritten keepOps1_W rfl h V

abbrev trip0_W : List (Ref sig .tc) := condOps0_W ++ (sumOps0_W ++ (gateOps0_W ++ keepOps0_W))

/-- One trip of loop 0: the test's operations and the step's. -/
abbrev trip0 (V : Valuation τ sig (Elt F)) : Valuation τ sig (Elt F) := StableHlo.afterL bodyI0 (StableHlo.after condOps0 V)

theorem trip0_keep {b : Ref sig .tc} (h : b ∉ trip0_W) (V : Valuation τ sig (Elt F)) : trip0 V (Proc.devRef .tc b) = V (Proc.devRef .tc b) := by
  rw [List.mem_append, List.mem_append, List.mem_append, not_or, not_or, not_or] at h
  show StableHlo.after keepOps0 (StableHlo.after gateOps0 (StableHlo.after sumOps0 (StableHlo.after condOps0 V))) _ = _
  rw [keepOps0_keep h.2.2.2, gateOps0_keep h.2.2.1, sumOps0_keep h.2.1, condOps0_keep h.1]

theorem atTrip0_keep {b : Ref sig .tc} (h : b ∉ trip0_W) (W₀ : Dev nD → Valuation τ sig (Elt F)) (c : Dev nD) :
    ∀ k, StableHlo.atTrip condOps0 bodyI0 W₀ k c (Proc.devRef .tc b) = W₀ c (Proc.devRef .tc b)
  | 0 => rfl
  | k + 1 => (trip0_keep h _).trans (atTrip0_keep h W₀ c k)

abbrev trip1_W : List (Ref sig .tc) := condOps1_W ++ (sumOps1_W ++ (gateOps1_W ++ keepOps1_W))

/-- One trip of loop 1: the test's operations and the step's. -/
abbrev trip1 (V : Valuation τ sig (Elt F)) : Valuation τ sig (Elt F) := StableHlo.afterL bodyI1 (StableHlo.after condOps1 V)

theorem trip1_keep {b : Ref sig .tc} (h : b ∉ trip1_W) (V : Valuation τ sig (Elt F)) : trip1 V (Proc.devRef .tc b) = V (Proc.devRef .tc b) := by
  rw [List.mem_append, List.mem_append, List.mem_append, not_or, not_or, not_or] at h
  show StableHlo.after keepOps1 (StableHlo.after gateOps1 (StableHlo.after sumOps1 (StableHlo.after condOps1 V))) _ = _
  rw [keepOps1_keep h.2.2.2, gateOps1_keep h.2.2.1, sumOps1_keep h.2.1, condOps1_keep h.1]

theorem atTrip1_keep {b : Ref sig .tc} (h : b ∉ trip1_W) (W₀ : Dev nD → Valuation τ sig (Elt F)) (c : Dev nD) :
    ∀ k, StableHlo.atTrip condOps1 bodyI1 W₀ k c (Proc.devRef .tc b) = W₀ c (Proc.devRef .tc b)
  | 0 => rfl
  | k + 1 => (trip1_keep h _).trans (atTrip1_keep h W₀ c k)

end Cert.Scan

end
-- ==== Proof.RefLoop.lean ====
/-
  The counters of the reference's two loops: each starts at zero, goes up by one each trip, and the test succeeds while
  it is below fifty.
-/
module

public import proofs.«01_k».proof.Proof.RefKeep
public import Idealize.ShloMosaic.Lib.HostLoop
public import Idealize.ShloMosaic.Lib.Scf.Counter
public import Idealize.ShloMosaic.Lib.Scf.ExitTest

@[expose] public section

noncomputable section

namespace Cert.Scan

open Cert.ReferenceIdeal Cert.ReferenceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the core carries beside the buffers. -/
abbrev Rw (c : Dev nD) : sProp (MT nD τ sig Unit (Elt F) ℕ (Option PUnit) ℕ) := iprop(∃ W, owes (c : Thread nD τ) (0 : CellTallies nD τ sig Unit) W)

theorem ctr0_entry (V : Valuation τ sig (Elt F)) : StableHlo.after entryOps V (Proc.devRef .tc main_v4_4) = fun _ => Scf.iv 0#32 1#32 0 := by
  after_results_simp
  rfl

theorem ctr0_keepOps (V : Valuation τ sig (Elt F)) :
    StableHlo.after keepOps0 V (Proc.devRef .tc main_v4_4) = fun _ => IntOp.addi (V (Proc.devRef .tc main_v4_4) HostLoop.idx0) 1#32 := by
  after_results_simp
  funext j
  have hj : j = HostLoop.idx0 := funext fun a => a.elim0
  rw [hj]
  rfl

theorem ctr0_at (W₀ : Dev nD → Valuation τ sig (Elt F)) (c : Dev nD) (h : W₀ c (Proc.devRef .tc main_v4_4) = fun _ => Scf.iv 0#32 1#32 0) :
    ∀ k, StableHlo.atTrip condOps0 bodyI0 W₀ k c (Proc.devRef .tc main_v4_4) = fun _ => Scf.iv 0#32 1#32 k
  | 0 => h
  | k + 1 => by
    show StableHlo.after keepOps0 (StableHlo.after gateOps0 (StableHlo.after sumOps0 (StableHlo.after condOps0 (StableHlo.atTrip condOps0 bodyI0 W₀ k c)))) (Proc.devRef .tc main_v4_4) = _
    rw [ctr0_keepOps, gateOps0_keep (by decide), sumOps0_keep (by decide), condOps0_keep (by decide), ctr0_at W₀ c h k, Scf.iv_succ]
    rfl

set_option backward.isDefEq.respectTransparency.types false in
theorem cond0_spec (W₀ : Dev nD → Valuation τ sig (Elt F)) (h : ∀ c, W₀ c (Proc.devRef .tc main_v4_4) = fun _ => Scf.iv 0#32 1#32 0) :
    StableHlo.LoopCond (pcfgs (F := F)) defs₀ Variants.none loops Rw main_while0_cond condOps0 bodyI0 W₀ 50 := by
  intro k hk c bd
  have hctr := ctr0_at W₀ c (h c) k
  unfold main_while0_cond
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]
  imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]
  imodintro
  isplitr
  · ipureintro
    show Iff (IntOp.cmpi .slt (HloOp.result _ (StableHlo.atTrip condOps0 bodyI0 W₀ k c) (Proc.devRef .tc main_v4_4) HostLoop.idx0)
      (HloOp.result _ (StableHlo.atTrip condOps0 bodyI0 W₀ k c) (Proc.devRef .tc main_while0c_c_10) HostLoop.idx0) = 1#1) (k < 50)
    rw [StableHlo.nullary_result_ne _ _ _ _ (by decide), StableHlo.nullary_result, hctr]
    exact Scf.cmpi_slt_iv_ub_iff (lb := 0#32) (ub := 50#32) (st := 1#32) (by decide) (show k ≤ Scf.trips 0#32 50#32 1#32 from hk)
  isplitl [Hb]; · iexact Hb
  isplitl [Hh]
  · rw [StableHlo.after_cons, StableHlo.after_cons, StableHlo.after_nil]; iexact Hh
  iexact HR

theorem ctr1_entry (V : Valuation τ sig (Elt F)) : StableHlo.after midOps V (Proc.devRef .tc main_v7_4) = fun _ => Scf.iv 0#32 1#32 0 := by
  after_results_simp
  rfl

theorem ctr1_keepOps (V : Valuation τ sig (Elt F)) :
    StableHlo.after keepOps1 V (Proc.devRef .tc main_v7_4) = fun _ => IntOp.addi (V (Proc.devRef .tc main_v7_4) HostLoop.idx0) 1#32 := by
  after_results_simp
  funext j
  have hj : j = HostLoop.idx0 := funext fun a => a.elim0
  rw [hj]
  rfl

theorem ctr1_at (W₀ : Dev nD → Valuation τ sig (Elt F)) (c : Dev nD) (h : W₀ c (Proc.devRef .tc main_v7_4) = fun _ => Scf.iv 0#32 1#32 0) :
    ∀ k, StableHlo.atTrip condOps1 bodyI1 W₀ k c (Proc.devRef .tc main_v7_4) = fun _ => Scf.iv 0#32 1#32 k
  | 0 => h
  | k + 1 => by
    show StableHlo.after keepOps1 (StableHlo.after gateOps1 (StableHlo.after sumOps1 (StableHlo.after condOps1 (StableHlo.atTrip condOps1 bodyI1 W₀ k c)))) (Proc.devRef .tc main_v7_4) = _
    rw [ctr1_keepOps, gateOps1_keep (by decide), sumOps1_keep (by decide), condOps1_keep (by decide), ctr1_at W₀ c h k, Scf.iv_succ]
    rfl

set_option backward.isDefEq.respectTransparency.types false in
theorem cond1_spec (W₀ : Dev nD → Valuation τ sig (Elt F)) (h : ∀ c, W₀ c (Proc.devRef .tc main_v7_4) = fun _ => Scf.iv 0#32 1#32 0) :
    StableHlo.LoopCond (pcfgs (F := F)) defs₀ Variants.none loops Rw main_while1_cond condOps1 bodyI1 W₀ 50 := by
  intro k hk c bd
  have hctr := ctr1_at W₀ c (h c) k
  unfold main_while1_cond
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]
  imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]
  imodintro
  isplitr
  · ipureintro
    show Iff (IntOp.cmpi .slt (HloOp.result _ (StableHlo.atTrip condOps1 bodyI1 W₀ k c) (Proc.devRef .tc main_v7_4) HostLoop.idx0)
      (HloOp.result _ (StableHlo.atTrip condOps1 bodyI1 W₀ k c) (Proc.devRef .tc main_while1c_c_10) HostLoop.idx0) = 1#1) (k < 50)
    rw [StableHlo.nullary_result_ne _ _ _ _ (by decide), StableHlo.nullary_result, hctr]
    exact Scf.cmpi_slt_iv_ub_iff (lb := 0#32) (ub := 50#32) (st := 1#32) (by decide) (show k ≤ Scf.trips 0#32 50#32 1#32 from hk)
  isplitl [Hb]; · iexact Hb
  isplitl [Hh]
  · rw [StableHlo.after_cons, StableHlo.after_cons, StableHlo.after_nil]; iexact Hh
  iexact HR

end Cert.Scan

end
-- ==== Proof.RefRun.lean ====
/-
  The run of the reference: every execution ends, each value of the program then holds what the lists of operations
  leave there, each loop taken fifty times, and no counter of a semaphore is left changed.
-/
module

public import proofs.«01_k».proof.Proof.RefLoop

@[expose] public section

noncomputable section

namespace Cert.Scan

open Cert.ReferenceIdeal Cert.ReferenceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket)

variable {F : FTy → Type} [FloatOps F]

local notation "𝕄" => MT nD τ sig Unit (Elt F) ℕ (Option PUnit) ℕ

variable (m : (ℓ : Loc nD τ sig) → Buf (Elt F) ℓ)

/-- The values at the first loop's start and end, -/
def X0 (c : Dev nD) : Valuation τ sig (Elt F) := StableHlo.afterL preI (StableHlo.launchContents m c)
def Y0 (c : Dev nD) : Valuation τ sig (Elt F) := StableHlo.after condOps0 (StableHlo.atTrip condOps0 bodyI0 (X0 m) 50 c)
/-- at the second loop's start and end, -/
def X1 (c : Dev nD) : Valuation τ sig (Elt F) := StableHlo.afterL midI (Y0 m c)
def Y1 (c : Dev nD) : Valuation τ sig (Elt F) := StableHlo.after condOps1 (StableHlo.atTrip condOps1 bodyI1 (X1 m) 50 c)
/-- and at the program's end. -/
def Z (c : Dev nD) : Valuation τ sig (Elt F) := StableHlo.afterL postI (Y1 m c)

theorem X0_ctr (c : Dev nD) : X0 m c (Proc.devRef .tc main_v4_4) = fun _ => Scf.iv 0#32 1#32 0 := by
  show StableHlo.after entryOps (StableHlo.after takeOps (StableHlo.launchContents m c)) (Proc.devRef .tc main_v4_4) = _
  exact ctr0_entry _
theorem X1_ctr (c : Dev nD) : X1 m c (Proc.devRef .tc main_v7_4) = fun _ => Scf.iv 0#32 1#32 0 := by
  show StableHlo.after midOps (Y0 m c) (Proc.devRef .tc main_v7_4) = _
  exact ctr1_entry _

abbrev padm : (p : Fin 0) → (pcfgs (F := F) p).Adm := fun p => p.elim0
abbrev ptk : Fin 0 → Ticket (Ix := Unit) (Name := ℕ) (U := Option PUnit) (Lvl := ℕ) (nD := nD) (τ := τ) (pcfgs (F := F)) padm := fun j => j.elim0
abbrev pL : GSem nD τ sig → Finset Unit := fun _ => ∅
abbrev plv : GSem nD τ sig → Unit → ℕ := fun _ _ => 0

/-- The program's parts: the lists of operations and the two loops. -/
def parts : List (CSeg (nD := nD) (τ := τ) (Ix := Unit) (Name := ℕ) (U := Option PUnit) (Lvl := ℕ) (pcfgs (F := F)) padm defs₀ Variants.none pL plv loops ptk) :=
  StableHlo.segsOf _ _ _ _ _ _ _ _ Rw preI plain_pre (StableHlo.launchContents m)
    ++ StableHlo.loopSeg _ _ _ _ _ _ _ _ 0 main_while0_cond main_while0_body rfl condOps0 bodyI0 plain_body0 body0_eq 50 (X0 m) Rw (cond0_spec _ (X0_ctr m))
      :: (StableHlo.segsOf _ _ _ _ _ _ _ _ Rw midI plain_mid (Y0 m)
        ++ StableHlo.loopSeg _ _ _ _ _ _ _ _ 1 main_while1_cond main_while1_body rfl condOps1 bodyI1 plain_body1 body1_eq 50 (X1 m) Rw (cond1_spec _ (X1_ctr m))
          :: StableHlo.segsOf _ _ _ _ _ _ _ _ Rw postI plain_post (Y1 m))

theorem parts_prog : (parts m).map CSeg.prog = (preI.map fun ops => (StableHlo.seq ops : Prog _ PUnit)) ++ HostLoop.enter 0 ::
    ((midI.map fun ops => (StableHlo.seq ops : Prog _ PUnit)) ++ HostLoop.enter 1 :: postI.map fun ops => (StableHlo.seq ops : Prog _ PUnit)) := by
  unfold parts
  rw [List.map_append, List.map_cons, List.map_append, List.map_cons, StableHlo.segsOf_prog, StableHlo.segsOf_prog, StableHlo.segsOf_prog]
  rfl

theorem parts_chain : CSeg.Chains (fun c => iprop(StableHlo.held (c : Thread nD τ) (Pipeline.ucRefs τ sig) (StableHlo.launchContents m c) ∗ Rw c)) (parts m)
    (fun c => iprop(iprop(StableHlo.held (c : Thread nD τ) (Pipeline.ucRefs τ sig) (Z m c)) ∗ ∃ W, owes (c : Thread nD τ) (0 : CellTallies nD τ sig Unit) W)) := by
  unfold parts
  exact CSeg.Chains.append (StableHlo.segsOf_chains _ _ _ _ _ _ _ _ Rw preI plain_pre _) ⟨fun _ => .rfl,
    CSeg.Chains.append (StableHlo.segsOf_chains _ _ _ _ _ _ _ _ Rw midI plain_mid _) ⟨fun _ => .rfl, StableHlo.segsOf_chains _ _ _ _ _ _ _ _ Rw postI plain_post _⟩⟩

theorem parts_run (c : Dev nD) : CSeg.runL (parts m) = main (F := F) c := by
  unfold CSeg.runL
  rw [parts_prog, main_eq]

/-- What holds at the end of every execution. -/
def QR (r : PUnit × MemSt nD τ sig (Elt F)) : Prop :=
  (∀ c, ∀ b ∈ Pipeline.ucRefs τ sig, r.2.mem ((c : Dev nD), b) = Z m c b) ∧ r.2.sem = fun _ => 0

theorem no_sem (g : GSem nD τ sig) : False := by
  obtain ⟨_, s⟩ := g
  cases s with
  | reg s => exact s.elim0
  | dma s => exact s.elim0

theorem run_ref [∀ e, Nonempty (Elt F e)] (ρ : Dev nD → PrngReg) :
    θ_run (defs (F := F)) (onTc (τ := τ) (main (F := F))) ⟨m, fun _ => 0, ρ⟩ (QR m) :=
  Pipeline.θ_run_regions_loop_kit_sems (Ix := Unit) (Name := ℕ) (U := Option PUnit) (Lvl := ℕ) (J := Fin 0) (P := Fin 0) (Val := Elt F)
    pcfgs padm (fun k => k.1.elim0) defs₀ Variants.none pL plv loops ptk m ρ main (parts m)
    (fun c Q => by
      rw [← parts_run m c])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (StableHlo.launchContents m c) ∗ Rw c))
    (Tₙ := fun c => iprop(StableHlo.held (c : Thread nD τ) (Pipeline.ucRefs τ sig) (Z m c)))
    (hch := parts_chain m)
    (hinit := by
      refine Pipeline.initEach pL plv fun c => ?_
      rw [show unscopedBufs c (fun b => m ((c : Thread nD τ).loc b)) = StableHlo.held (c : Thread nD τ) (Pipeline.ucRefs τ sig) (StableHlo.launchContents m c)
        from Pipeline.unscopedBufs_held c (StableHlo.launchContents m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = Z m c b)
    (hfin := fun c s' => by
      unfold StableHlo.held
      iintro ⟨Hh, HSI⟩
      ihave Hr := (pointsTo_read_all (Pipeline.ucRefs τ sig) (fun b => ((c : Dev nD), b)) (fun b => Z m c b) s') $$ [Hh HSI]
      · isplitl [Hh] <;> iassumption
      icases Hr with ⟨%h, HSI⟩
      imodintro
      isplitr; · ipureintro; exact h
      iexact HSI)
    (hQ := fun _ h _ => ⟨fun c b hb => h c b hb, funext fun g => (no_sem g).elim⟩)

end Cert.Scan

end
-- ==== Proof.RefFrame.lean ====
/-
  The reference's run leaves its arguments as they were: no list of its operations writes one.
-/
module

public import proofs.«01_k».proof.Proof.RefRun
public import proofs.«01_k».proof.Defs

@[expose] public section

noncomputable section

namespace Cert.Scan

open Cert.ReferenceIdeal Cert.ReferenceIdeal.Gen

open Idealize.ShloMosaic
open Idealize.ShloMosaic.TcCoe
open Idealize.SL.Sem

variable {F : FTy → Type} [FloatOps F]

variable (m : (ℓ : Loc nD τ sig) → Buf (Elt F) ℓ)

theorem X0_keep (c : Dev nD) {b : Ref sig .tc} (h : b ∉ takeOps_W) (h' : b ∉ entryOps_W) : X0 m c (Proc.devRef .tc b) = m (c, Proc.devRef .tc b) := by
  show StableHlo.after entryOps (StableHlo.after takeOps (StableHlo.launchContents m c)) (Proc.devRef .tc b) = _
  rw [entryOps_keep h', takeOps_keep h]

theorem Y0_keep (c : Dev nD) {b : Ref sig .tc} (h : b ∉ trip0_W) : Y0 m c (Proc.devRef .tc b) = X0 m c (Proc.devRef .tc b) := by
  show StableHlo.after condOps0 _ (Proc.devRef .tc b) = _
  rw [condOps0_keep (fun h' => h (List.mem_append_left _ h')), atTrip0_keep h]

theorem X1_keep (c : Dev nD) {b : Ref sig .tc} (h : b ∉ midOps_W) : X1 m c (Proc.devRef .tc b) = Y0 m c (Proc.devRef .tc b) := by
  show StableHlo.after midOps (Y0 m c) (Proc.devRef .tc b) = _
  rw [midOps_keep h]

theorem Y1_keep (c : Dev nD) {b : Ref sig .tc} (h : b ∉ trip1_W) : Y1 m c (Proc.devRef .tc b) = X1 m c (Proc.devRef .tc b) := by
  show StableHlo.after condOps1 _ (Proc.devRef .tc b) = _
  rw [condOps1_keep (fun h' => h (List.mem_append_left _ h')), atTrip1_keep h]

theorem Z_keep (c : Dev nD) {b : Ref sig .tc} (h : b ∉ postOps_W) : Z m c (Proc.devRef .tc b) = Y1 m c (Proc.devRef .tc b) := by
  show StableHlo.after postOps (Y1 m c) (Proc.devRef .tc b) = _
  rw [postOps_keep h]

/-- A value that nothing writes is at the end what it was at the start. -/
theorem Z_start (c : Dev nD) {b : Ref sig .tc} (h0 : b ∉ takeOps_W) (h1 : b ∉ entryOps_W) (h2 : b ∉ trip0_W) (h3 : b ∉ midOps_W) (h4 : b ∉ trip1_W)
    (h5 : b ∉ postOps_W) : Z m c (Proc.devRef .tc b) = m (c, Proc.devRef .tc b) := by
  rw [Z_keep m c h5, Y1_keep m c h4, X1_keep m c h3, Y0_keep m c h2, X0_keep m c h0 h1]

theorem end_at {r : PUnit × MemSt nD τ sig (Elt F)} (h : QR m r) (c : Dev nD) (b : Ref sig .tc) (hb : (Proc.devRef .tc b : DevRef τ sig).isScoped = false) :
    r.2.mem ((c.tc : Thread nD τ).loc b) = Z m c (Proc.devRef .tc b) :=
  h.1 c _ (StableHlo.devRef_mem_ucRefs b hb)

theorem arg_kept {r : PUnit × MemSt nD τ sig (Elt F)} (h : QR m r) (c : Dev nD) (b : Ref sig .tc) (hb : (Proc.devRef .tc b : DevRef τ sig).isScoped = false)
    (h0 : b ∉ takeOps_W) (h1 : b ∉ entryOps_W) (h2 : b ∉ trip0_W) (h3 : b ∉ midOps_W) (h4 : b ∉ trip1_W) (h5 : b ∉ postOps_W) :
    r.2.mem ((c.tc : Thread nD τ).loc b) = m ((c.tc : Thread nD τ).loc b) :=
  (end_at m h c b hb).trans (Z_start m c h0 h1 h2 h3 h4 h5)

theorem ref_args {r : PUnit × MemSt nD τ sig (Elt F)} (h : QR m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) := by
  refine ⟨?_, ?_, ?_, ?_, ?_, ?_, ?_, ?_, ?_⟩ <;>
    exact arg_kept m h c _ rfl (by decide) (by decide) (by decide) (by decide) (by decide) (by decide)

theorem frame_ref : Cert.quiescent_ReferenceIdeal := fun m ρ _ =>
  (θ_run _ _ _).mono (fun _ h => ⟨fun c => ref_args m h c, h.2⟩) (run_ref m ρ)

end Cert.Scan

end
-- ==== Proof.NoBias.lean ====
/-
  The frames under the precondition that both biases are zero too.
-/
module

public import proofs.«01_k».proof.Proof.Frames
public import proofs.«01_k».proof.Proof.RefFrame

@[expose] public section

noncomputable section

namespace Cert.Gather

open Cert.KernelIdeal Cert.KernelIdeal.Gen

open Idealize.ShloMosaic
open Idealize.ShloMosaic.TcCoe
open Idealize.SL.Sem

/-- The facts the precondition states. -/
instance rows_no_bias_facts : Cert.Pre_rows_no_bias.Facts where
  bcast_S_S1024x50 := by decide
  bcast_S_S1024 := by decide
  bcast_S1024_S1024x1_0 := by decide
  bcast_S1024x1_S1024x50_0_1 := by decide

theorem small_no_bias (m : (ℓ : Loc nD τ sig) → Buf (Elt Ideal) ℓ) (h : Cert.Pre_KernelIdeal_rows_no_bias m) : Small (F := Ideal) m := fun d j => by
  have e := congrFun (h d) j
  exact small_of_word _ (left_of_and _ _ (left_of_and _ _ e))

theorem frame_ideal_no_bias : Cert.quiescent_KernelIdeal_pre_rows_no_bias := fun m ρ hp =>
  (θ_run (Cert.KernelIdeal.defs (F := Ideal)) _ _).mono (fun _ h => ⟨args_of_run m h, h.2⟩) (run_main (F := Ideal) m ρ (list_small m (small_no_bias m hp)))

theorem frame_ref_no_bias : Cert.quiescent_ReferenceIdeal_pre_rows_no_bias := fun m ρ _ =>
  (θ_run _ _ _).mono (fun _ h => ⟨fun c => Cert.Scan.ref_args m h c, h.2⟩) (Cert.Scan.run_ref m ρ)

end Cert.Gather

end
-- ==== Proof.Plain.lean ====
/-
  The recurrence written plainly over the extended reals: the weighted sum of one gate, the new memory and the new state
  of one step, and the state after a number of steps. With the one identity the two programs differ by: half a hyperbolic
  tangent of half the argument, plus one half, is the logistic function, at the infinities too.
-/
module

public import Idealize.ShloMosaic.Lib.IdealHost
public import Idealize.ShloMosaic.Lib.MatmulPlain
public import Idealize.ShloMosaic.Lib.ValueIdxCore

@[expose] public section

noncomputable section

namespace Cert.Plain

open Idealize.ShloMosaic Idealize.ShloMosaic.ValueIdx

/-- Matrices of the shapes in play. -/
abbrev Mat (r c : ℕ) : Type := (⟨2, ![r, c]⟩ : Shape).Idx → EReal

theorem half_bits : Ideal.ofBits .bf16 0x3F00#16 = (((1 : ℝ) / 2 : ℝ) : EReal) := by
  simp [Ideal.ofBits, Ideal.ieee]
  rw [← EReal.coe_mul]
  norm_num

/-- Half the tangent of half of `x`, plus one half, over the reals. -/
theorem real_logistic (x : ℝ) : 1 / 2 * Real.tanh (1 / 2 * x) + 1 / 2 = (1 + Real.exp (-x))⁻¹ := by
  rw [Real.tanh_eq_sinh_div_cosh, Real.sinh_eq, Real.cosh_eq]
  have h1 : Real.exp (-x) = Real.exp (-(1 / 2 * x)) * Real.exp (-(1 / 2 * x)) := by rw [← Real.exp_add]; ring_nf
  have h2 : Real.exp (1 / 2 * x) * Real.exp (-(1 / 2 * x)) = 1 := by rw [← Real.exp_add]; simp
  rw [h1]
  have p1 := Real.exp_pos (1 / 2 * x)
  have p2 := Real.exp_pos (-(1 / 2 * x))
  generalize Real.exp (1 / 2 * x) = a at *
  generalize Real.exp (-(1 / 2 * x)) = b at *
  have q1 : a + b ≠ 0 := by positivity
  have q2 : 1 + b * b ≠ 0 := by positivity
  field_simp
  nlinarith

/-- The same over the extended reals. -/
theorem logistic_eq (z : EReal) : (((1 : ℝ) / 2 : ℝ) : EReal) * Ideal.tanh ((((1 : ℝ) / 2 : ℝ) : EReal) * z) + (((1 : ℝ) / 2 : ℝ) : EReal) = Ideal.logistic z := by
  induction z using EReal.rec with
  | bot =>
    rw [EReal.coe_mul_bot_of_pos (by norm_num), Ideal.tanh_bot, Ideal.logistic_bot]
    rw [show (-1 : EReal) = ((-1 : ℝ) : EReal) from rfl, ← EReal.coe_mul, ← EReal.coe_add]
    norm_num
  | top =>
    rw [EReal.coe_mul_top_of_pos (by norm_num), Ideal.tanh_top, Ideal.logistic_top]
    rw [show (1 : EReal) = ((1 : ℝ) : EReal) from rfl, ← EReal.coe_mul, ← EReal.coe_add]
    norm_num
  | coe x =>
    rw [← EReal.coe_mul, Ideal.tanh_coe, ← EReal.coe_mul, ← EReal.coe_add, Ideal.logistic_coe, real_logistic]

/-- The column of a gate's weights: gate `q` takes the 256 columns from `256 q` on. -/
abbrev col (q : Fin 4) (j : Fin 256) : Fin 1024 := ⟨256 * q.val + j.val, by omega⟩

section Step
variable (Wx : Mat 128 1024) (Wh : Mat 256 1024) (e : Mat 1024 128) (h c : Mat 1024 256)

/-- The weighted sum of gate `q` at batch row `r` and feature `j`. -/
def gate (q : Fin 4) (r : Fin 1024) (j : Fin 256) : EReal :=
  (∑ k : Fin 128, e (ix2 r k) * Wx (ix2 k (col q j))) + ∑ k : Fin 256, h (ix2 r k) * Wh (ix2 k (col q j))

/-- The new memory: what the forget gate keeps of it, and what the input gate lets in. -/
def newC (r : Fin 1024) (j : Fin 256) : EReal :=
  Ideal.logistic (gate Wx Wh e h 1 r j) * c (ix2 r j) + Ideal.logistic (gate Wx Wh e h 0 r j) * Ideal.tanh (gate Wx Wh e h 2 r j)

/-- The new state: what the output gate shows of the memory. -/
def newH (r : Fin 1024) (j : Fin 256) : EReal := Ideal.logistic (gate Wx Wh e h 3 r j) * Ideal.tanh (newC Wx Wh e h c r j)

end Step

/-- A function of row and column as a matrix. -/
def ofFn {r c : ℕ} (f : Fin r → Fin c → EReal) : Mat r c := fun j => f (j 0) (j 1)

/-- The state and the memory before step `n` of the sequence `xs`, from the state `h₀` and no memory. -/
def run (Wx : Mat 128 1024) (Wh : Mat 256 1024) (xs : ℕ → Mat 1024 128) (h₀ : Mat 1024 256) : ℕ → Mat 1024 256 × Mat 1024 256
  | 0 => (h₀, fun _ => 0)
  | n + 1 => (ofFn (newH Wx Wh (xs n) (run Wx Wh xs h₀ n).1 (run Wx Wh xs h₀ n).2), ofFn (newC Wx Wh (xs n) (run Wx Wh xs h₀ n).1 (run Wx Wh xs h₀ n).2))

/-- Step `n`'s row of a sequence of fifty. -/
def rowsOf (X : (⟨3, ![50, 1024, 128]⟩ : Shape).Idx → EReal) (n : ℕ) : Mat 1024 128 := fun y => X (ix3 (Fin.ofNat 50 n) (y 0) (y 1))

/-- The state before step `n` depends on the rows before it only. -/
theorem run_congr (Wx : Mat 128 1024) (Wh : Mat 256 1024) (xs xs' : ℕ → Mat 1024 128) (h₀ : Mat 1024 256) (n : ℕ) (h : ∀ k, k < n → xs k = xs' k) :
    run Wx Wh xs h₀ n = run Wx Wh xs' h₀ n := by
  induction n with
  | zero => rfl
  | succ n ih =>
    have e := ih fun k hk => h k (by omega)
    show (ofFn _, ofFn _) = (ofFn _, ofFn _)
    rw [e, h n (by omega)]

/-- Step `n`'s rows of the table: the rows the indices' column `n` names. -/
def seqF (ids : (⟨2, ![1024, 50]⟩ : Shape).Idx → BitVec 32) (T : Mat 100000 128) (n : ℕ) : Mat 1024 128 :=
  fun y => T (ix2 ⟨(ids (ix2 (y 0) (Fin.ofNat 50 n))).toNat % 100000, Nat.mod_lt _ (by norm_num)⟩ (y 1))

/-- The forward direction's recurrence, and the backward direction's, which takes the steps from the last. -/
def fwd (ids : (⟨2, ![1024, 50]⟩ : Shape).Idx → BitVec 32) (T : Mat 100000 128) (Wx : Mat 128 1024) (Wh : Mat 256 1024) (h₀ : Mat 1024 256) :
    ℕ → Mat 1024 256 × Mat 1024 256 := run Wx Wh (seqF ids T) h₀
def bwd (ids : (⟨2, ![1024, 50]⟩ : Shape).Idx → BitVec 32) (T : Mat 100000 128) (Wx : Mat 128 1024) (Wh : Mat 256 1024) (h₀ : Mat 1024 256) :
    ℕ → Mat 1024 256 × Mat 1024 256 := run Wx Wh (fun n => seqF ids T (49 - n)) h₀

/-- The first result: at each step the forward state, then the backward state. -/
def states (f b : ℕ → Mat 1024 256 × Mat 1024 256) : (⟨3, ![1024, 50, 512]⟩ : Shape).Idx → EReal := fun y =>
  if h : (y 2).val < 256 then (f ((y 1).val + 1)).1 (ix2 (y 0) ⟨(y 2).val, h⟩)
  else (b (49 - (y 1).val + 1)).1 (ix2 (y 0) ⟨(y 2).val - 256, by have : (y 2).val < 512 := (y 2).isLt; omega⟩)

/-- The second result: the forward direction's last state, then the backward direction's. -/
def lasts (f b : ℕ → Mat 1024 256 × Mat 1024 256) : (⟨2, ![1024, 512]⟩ : Shape).Idx → EReal := fun y =>
  if h : (y 1).val < 256 then (f 50).1 (ix2 (y 0) ⟨(y 1).val, h⟩)
  else (b 50).1 (ix2 (y 0) ⟨(y 1).val - 256, by have : (y 1).val < 512 := (y 1).isLt; omega⟩)

end Cert.Plain

end
-- ==== Proof.CellPlain.lean ====
/-
  The kernel's step over the extended reals is the plain step: a change of width changes nothing there, a product of
  matrices is a sum, and the kernel's logistic function is the logistic function.
-/
module

public import proofs.«01_k».proof.Proof.Cell
public import proofs.«01_k».proof.Proof.Plain
public import Idealize.ShloMosaic.Lib.Pipeline.Value

@[expose] public section

noncomputable section

namespace Cert.Gather

open Cert.KernelIdeal Cert.KernelIdeal.Gen
open Idealize.ShloMosaic Idealize.ShloMosaic.ValueIdx Idealize.SL.Sem
open Cert.Plain (Mat gate newC newH col ofFn)

/-- Both parts of the weights. -/
def wxOf (W : Mat 384 1024) : Mat 128 1024 := fun j => W (ix2 ⟨(j 0).val, by have := idx2_lt0 j; omega⟩ ⟨(j 1).val, idx2_lt1 j⟩)
def whOf (W : Mat 384 1024) : Mat 256 1024 := fun j => W (ix2 ⟨128 + (j 0).val, by have := idx2_lt0 j; omega⟩ ⟨(j 1).val, idx2_lt1 j⟩)

variable (W : Mat 384 1024) (e : Mat 1024 128) (h c : Mat 1024 256)

theorem zx_plain (Wg : Mat 128 256) (r : Fin 1024) (j : Fin 256) : zx (F := Ideal) Wg e (ix2 r j) = ∑ k : Fin 128, e (ix2 r k) * Wg (ix2 k j) := by
  have h := Ideal.matmul_plain_apply (φ₁ := .bf16) (φ₂ := .bf16) none e Wg (constant (F := Ideal) S1024x256 .f32 0x00000000#32) r j
  refine Eq.trans ?_ (h.trans ?_)
  · rfl
  · show Ideal.ofBits .f32 0x00000000#32 + _ = _
    rw [Ideal.ofBits_zero_f32, zero_add]

theorem zh_plain (Wg : Mat 256 256) (r : Fin 1024) (j : Fin 256) : zh (F := Ideal) Wg h (ix2 r j) = ∑ k : Fin 256, h (ix2 r k) * Wg (ix2 k j) := by
  have h := Ideal.matmul_plain_apply (φ₁ := .bf16) (φ₂ := .bf16) none h Wg (constant (F := Ideal) S1024x256 .f32 0x00000000#32) r j
  refine Eq.trans ?_ (h.trans ?_)
  · rfl
  · show Ideal.ofBits .f32 0x00000000#32 + _ = _
    rw [Ideal.ofBits_zero_f32, zero_add]

/-- A gate's weights are its columns of the two parts. -/
theorem slice_x (q : Fin 4) (o : ℕ) (ho : o = 256 * q.val) (hs : S384x1024.Slices ![0, o] S128x256) (k : Fin 128) (j : Fin 256) :
    extractStridedSlice (α := EReal) S128x256 ![0, o] W hs (ix2 k j) = wxOf W (ix2 k (col q j)) := by
  subst ho
  refine congrArg W (funext fun a => Fin.ext ?_)
  match a with
  | ⟨0, _⟩ => show 0 + k.val = k.val; omega
  | ⟨1, _⟩ => rfl

theorem slice_h (q : Fin 4) (o : ℕ) (ho : o = 256 * q.val) (hs : S384x1024.Slices ![128, o] S256x256) (k : Fin 256) (j : Fin 256) :
    extractStridedSlice (α := EReal) S256x256 ![128, o] W hs (ix2 k j) = whOf W (ix2 k (col q j)) := by
  subst ho
  refine congrArg W (funext fun a => Fin.ext ?_)
  match a with
  | ⟨0, _⟩ => rfl
  | ⟨1, _⟩ => rfl

theorem zz_plain (q : Fin 4) (o : ℕ) (ho : o = 256 * q.val) (hs : S384x1024.Slices ![0, o] S128x256) (hs' : S384x1024.Slices ![128, o] S256x256) (r : Fin 1024) (j : Fin 256) :
    zz (F := Ideal) (zx (extractStridedSlice S128x256 ![0, o] W hs) e) (zh (extractStridedSlice S256x256 ![128, o] W hs') h) (ix2 r j)
      = gate (wxOf W) (whOf W) e h q r j := by
  show zx (F := Ideal) _ e (ix2 r j) + zh (F := Ideal) _ h (ix2 r j) = _
  rw [zx_plain, zh_plain]
  unfold gate
  refine congrArg₂ (· + ·) (Finset.sum_congr rfl fun k _ => ?_) (Finset.sum_congr rfl fun k _ => ?_)
  · rw [slice_x W q o ho]
  · rw [slice_h W q o ho]

theorem preI_plain (r : Fin 1024) (j : Fin 256) : preI (F := Ideal) W e h (ix2 r j) = gate (wxOf W) (whOf W) e h 0 r j := zz_plain W e h 0 0 rfl _ _ r j
theorem preF_plain (r : Fin 1024) (j : Fin 256) : preF (F := Ideal) W e h (ix2 r j) = gate (wxOf W) (whOf W) e h 1 r j := zz_plain W e h 1 256 rfl _ _ r j
theorem preG_plain (r : Fin 1024) (j : Fin 256) : preG (F := Ideal) W e h (ix2 r j) = gate (wxOf W) (whOf W) e h 2 r j := zz_plain W e h 2 512 rfl _ _ r j
theorem preO_plain (r : Fin 1024) (j : Fin 256) : preO (F := Ideal) W e h (ix2 r j) = gate (wxOf W) (whOf W) e h 3 r j := zz_plain W e h 3 768 rfl _ _ r j

/-- The kernel's logistic function at an index. -/
theorem sgm_plain (z : Mat 1024 256) (y : S1024x256.Idx) : sgm (F := Ideal) z y = Ideal.logistic (z y) := by
  show Ideal.ofBits .bf16 0x3F00#16 * Ideal.tanh (Ideal.ofBits .bf16 0x3F00#16 * z y) + Ideal.ofBits .bf16 0x3F00#16 = _
  rw [Plain.half_bits, Plain.logistic_eq]

theorem cellC_plain (r : Fin 1024) (j : Fin 256) : cellC (F := Ideal) W e h c (ix2 r j) = newC (wxOf W) (whOf W) e h c r j := by
  show sgm (F := Ideal) (preF W e h) (ix2 r j) * c (ix2 r j) + sgm (F := Ideal) (preI W e h) (ix2 r j) * Ideal.tanh (preG (F := Ideal) W e h (ix2 r j)) = _
  rw [sgm_plain, sgm_plain, preF_plain, preI_plain, preG_plain]
  rfl

theorem cellH_plain (r : Fin 1024) (j : Fin 256) : cellH (F := Ideal) W e h c (ix2 r j) = newH (wxOf W) (whOf W) e h c r j := by
  show sgm (F := Ideal) (preO W e h) (ix2 r j) * Ideal.tanh (cellC (F := Ideal) W e h c (ix2 r j)) = _
  rw [sgm_plain, preO_plain, cellC_plain]
  rfl

theorem ix2_eta (y : S1024x256.Idx) : ix2 (y 0) (y 1) = y := funext fun a => match a with | ⟨0, _⟩ => rfl | ⟨1, _⟩ => rfl

theorem cellC_fn : cellC (F := Ideal) W e h c = ofFn (newC (wxOf W) (whOf W) e h c) :=
  funext fun y => (congrArg (cellC (F := Ideal) W e h c) (ix2_eta y).symm).trans (cellC_plain W e h c (y 0) (y 1))
theorem cellH_fn : cellH (F := Ideal) W e h c = ofFn (newH (wxOf W) (whOf W) e h c) :=
  funext fun y => (congrArg (cellH (F := Ideal) W e h c) (ix2_eta y).symm).trans (cellH_plain W e h c (y 0) (y 1))
theorem cellB_fn : cellB (F := Ideal) W e h c = ofFn (newH (wxOf W) (whOf W) e h c) := cellH_fn W e h c

/-- Ten steps of the kernel from a state the plain recurrence is in are ten steps of it. -/
theorem steps_plain (i : grid1.Coords) (E : S10x1024x128.Idx → EReal) (xs : ℕ → Mat 1024 128) (h₀ : Mat 1024 256) (b : ℕ)
    (hE : ∀ k, k < 10 → eAt (F := Ideal) i E k = xs (b + k)) (s : Mat 1024 256 × Mat 1024 256)
    (hs : s = Plain.run (wxOf W) (whOf W) xs h₀ b) (k : ℕ) (hk : k ≤ 10) :
    stepsFrom (F := Ideal) i E W s k = Plain.run (wxOf W) (whOf W) xs h₀ (b + k) := by
  induction k with
  | zero => exact hs
  | succ k ih =>
    have ih := ih (by omega)
    show (cellB (F := Ideal) W (eAt i E k) (stepsFrom i E W s k).1 (stepsFrom i E W s k).2, cellC (F := Ideal) W (eAt i E k) (stepsFrom i E W s k).1 (stepsFrom i E W s k).2) = _
    rw [cellB_fn, cellC_fn, ih, hE k (by omega)]
    rfl

/-- What a step writes out is the plain recurrence's state after it. -/
theorem out_plain (i : grid1.Coords) (E : S10x1024x128.Idx → EReal) (xs : ℕ → Mat 1024 128) (h₀ : Mat 1024 256) (b : ℕ)
    (hE : ∀ k, k < 10 → eAt (F := Ideal) i E k = xs (b + k)) (s : Mat 1024 256 × Mat 1024 256)
    (hs : s = Plain.run (wxOf W) (whOf W) xs h₀ b) (k : ℕ) (hk : k < 10) :
    outAt (F := Ideal) i E W s k = (Plain.run (wxOf W) (whOf W) xs h₀ (b + k + 1)).1 := by
  unfold outAt
  rw [cellH_fn, steps_plain W i E xs h₀ b hE s hs k (by omega), hE k hk]
  rfl

end Cert.Gather

end
-- ==== Proof.PointPlain.lean ====
/-
  The recurrence's points over the extended reals: the blocks each point reads are ten consecutive steps of one
  direction's sequence, the direction's weights and the starting state; so what a point writes out are ten consecutive
  states of the plain recurrence.
-/
module

public import proofs.«01_k».proof.Proof.Region
public import proofs.«01_k».proof.Proof.CellPlain

@[expose] public section

noncomputable section

namespace Cert.Gather

open Cert.KernelIdeal Cert.KernelIdeal.Gen

open Idealize.ShloMosaic hiding ix2 eq_ix2 ix3 eq_ix3
open Idealize.ShloMosaic.ValueIdx Idealize.SL.Sem
open Idealize.ShloMosaic.TcCoe
open Cert.Plain (Mat)

variable (V : Vals Ideal) (d : Dev nD)

/-- The embeddings of step `n`, -/
def xsV (n : ℕ) : Mat 1024 128 := fun y => (V d main_v4 : S50x1024x128.Idx → EReal) (ix3 (Fin.ofNat 50 n) (y 0) (y 1))
/-- in the order direction `q` takes them, -/
def xsD (q : Fin 2) : ℕ → Mat 1024 128 := if q.val = 0 then xsV V d else fun n => xsV V d (49 - n)
/-- direction `q`'s weights, -/
def wD (q : Fin 2) : Mat 384 1024 := fun y => (V d main_v10 : S2x384x1024.Idx → EReal) (ix3 q (y 0) (y 1))
/-- and its recurrence. -/
def runD (q : Fin 2) : ℕ → Mat 1024 256 × Mat 1024 256 :=
  Plain.run (wxOf (wD V d q)) (whOf (wD V d q)) (xsD V d q) (V d main_arg1 : S1024x256.Idx → EReal)

/-- The direction of point `t`, -/
def dirOf (t : Fin cfg1.N) : Fin 2 := ⟨t.val / 5, by have : t.val < 10 := lt_of_lt_of_eq t.isLt N_1; omega⟩
/-- and the block of fifty steps' ten it reads and writes: forwards, then backwards. -/
def blkNo (t : Fin cfg1.N) : ℕ := if t.val < 5 then t.val else 9 - t.val

theorem blkNo_lt (t : Fin cfg1.N) : blkNo t < 5 := by
  have : t.val < 10 := lt_of_lt_of_eq t.isLt N_1
  unfold blkNo; split <;> omega

/-- The index maps, at each point. -/
theorem at0 : ∀ t : Fin cfg1.N, ∀ a, cc1_transform_0 (grid1.coords t) a = (![blkNo t, 0, 0] : Fin 3 → ℕ) a := by decide +kernel
theorem at1 : ∀ t : Fin cfg1.N, ∀ a, cc1_transform_1 (grid1.coords t) a = (![0, 0] : Fin 2 → ℕ) a := by decide +kernel
theorem at2 : ∀ t : Fin cfg1.N, ∀ a, cc1_transform_2 (grid1.coords t) a = (![(dirOf t).val, 0, 0] : Fin 3 → ℕ) a := by decide +kernel
theorem at3 : ∀ t : Fin cfg1.N, ∀ a, cc1_transform_3 (grid1.coords t) a = (![blkNo t, 0, (dirOf t).val] : Fin 3 → ℕ) a := by decide +kernel
theorem at4 : ∀ t : Fin cfg1.N, ∀ a, cc1_transform_4 (grid1.coords t) a = (![0, (dirOf t).val] : Fin 2 → ℕ) a := by decide +kernel

/-- The blocks point `t` reads, at an index. -/
theorem blkE_at (t : Fin cfg1.N) (r : Fin 10) (n : Fin 1024) (j : Fin 128) :
    (blkE V d t : S10x1024x128.Idx → EReal) (ix3 r n j)
      = (V d main_v4 : S50x1024x128.Idx → EReal) (ix3 ⟨blkNo t * 10 + r.val, by have := blkNo_lt t; have := r.isLt; omega⟩ n j) := by
  show (V d main_v4 : S50x1024x128.Idx → EReal) ((win1_0.rect t).emb (ix3 r n j)) = _
  refine congrArg _ (funext fun a => Fin.ext ?_)
  refine (Pipeline.Window.rect_emb_val win1_0 t (ix3 r n j) a).trans ?_
  have e : win1_0.index t a = _ := at0 t a
  rw [e]
  match a with
  | ⟨0, _⟩ => rfl
  | ⟨1, _⟩ => show 0 * 1024 + n.val = n.val; omega
  | ⟨2, _⟩ => show 0 * 128 + j.val = j.val; omega

theorem blkH_at (t : Fin cfg1.N) : (blkH V d t : S1024x256.Idx → EReal) = (V d main_arg1 : S1024x256.Idx → EReal) := by
  funext y
  show (V d main_arg1 : S1024x256.Idx → EReal) ((win1_1.rect t).emb y) = _
  refine congrArg _ (funext fun a => Fin.ext ?_)
  refine (Pipeline.Window.rect_emb_val win1_1 t y a).trans ?_
  have e : win1_1.index t a = _ := at1 t a
  rw [e]
  match a with
  | ⟨0, _⟩ => show 0 * 1024 + (y 0).val = (y 0).val; omega
  | ⟨1, _⟩ => show 0 * 256 + (y 1).val = (y 1).val; omega

theorem blkW_at (t : Fin cfg1.N) (r : Fin 1) (n : Fin 384) (j : Fin 1024) :
    (blkW V d t : S1x384x1024.Idx → EReal) (ix3 r n j) = (V d main_v10 : S2x384x1024.Idx → EReal) (ix3 (dirOf t) n j) := by
  show (V d main_v10 : S2x384x1024.Idx → EReal) ((win1_2.rect t).emb (ix3 r n j)) = _
  refine congrArg _ (funext fun a => Fin.ext ?_)
  refine (Pipeline.Window.rect_emb_val win1_2 t (ix3 r n j) a).trans ?_
  have e : win1_2.index t a = _ := at2 t a
  rw [e]
  have hr : r.val < 1 := r.isLt
  match a with
  | ⟨0, _⟩ => show (dirOf t).val * 1 + r.val = (dirOf t).val; omega
  | ⟨1, _⟩ => show 0 * 384 + n.val = n.val; omega
  | ⟨2, _⟩ => show 0 * 1024 + j.val = j.val; omega

theorem matW_plain (t : Fin cfg1.N) : (matW (F := Ideal) (blkW V d t) : S384x1024.Idx → EReal) = wD V d (dirOf t) := by
  funext y
  refine (shapeCast_dropUnit_apply ![384, 1024] (blkW V d t : S1x384x1024.Idx → EReal) _ y).trans ?_
  refine Eq.trans (congrArg (blkW V d t : S1x384x1024.Idx → EReal) ?_) (blkW_at V d t 0 (y 0) (y 1))
  funext a
  match a with
  | ⟨0, _⟩ => rfl
  | ⟨1, _⟩ => rfl
  | ⟨2, _⟩ => rfl

/-- Step `k` of point `t` reads its direction's step `10 (t % 5) + k`. -/
theorem eAt_plain (t : Fin cfg1.N) (k : ℕ) (hk : k < 10) :
    (eAt (F := Ideal) (grid1.coords t) (blkE V d t) k : S1024x128.Idx → EReal) = xsD V d (dirOf t) (10 * (t.val % 5) + k) := by
  have ht : t.val < 10 := lt_of_lt_of_eq t.isLt N_1
  funext y
  refine (shapeCast_dropUnit_apply ![1024, 128] (rowBox (blkE V d t : S10x1024x128.Idx → EReal) (rowNo (grid1.coords t) k)) _ y).trans ?_
  refine Eq.trans (congrArg (blkE V d t : S10x1024x128.Idx → EReal) ?_) ((blkE_at V d t (rowNo (grid1.coords t) k) (y 0) (y 1)).trans ?_)
  · funext a
    match a with
    | ⟨0, _⟩ => rfl
    | ⟨1, _⟩ => rfl
    | ⟨2, _⟩ => rfl
  unfold xsD rowNo
  by_cases h : t.val < 5
  · have h0 : ((grid1.coords t) 0).val = 0 := by rw [coord0]; omega
    have h0' : (dirOf t).val = 0 := by show t.val / 5 = 0; omega
    rw [if_pos h0']
    unfold xsV
    refine congrArg (fun n : Fin 50 => (V d main_v4 : S50x1024x128.Idx → EReal) (ix3 n (y 0) (y 1))) (Fin.ext ?_)
    show blkNo t * 10 + (if ((grid1.coords t) 0).val = 0 then Fin.ofNat 10 k else Fin.ofNat 10 (9 - k)).val = (10 * (t.val % 5) + k) % 50
    rw [if_pos h0]
    unfold blkNo
    rw [if_pos h]
    show t.val * 10 + k % 10 = _
    omega
  · have h0 : ¬ ((grid1.coords t) 0).val = 0 := by rw [coord0]; omega
    have h0' : ¬ (dirOf t).val = 0 := by show ¬ t.val / 5 = 0; omega
    rw [if_neg h0']
    unfold xsV
    refine congrArg (fun n : Fin 50 => (V d main_v4 : S50x1024x128.Idx → EReal) (ix3 n (y 0) (y 1))) (Fin.ext ?_)
    show blkNo t * 10 + (if ((grid1.coords t) 0).val = 0 then Fin.ofNat 10 k else Fin.ofNat 10 (9 - k)).val = (49 - (10 * (t.val % 5) + k)) % 50
    rw [if_neg h0]
    unfold blkNo
    rw [if_neg h]
    show (9 - t.val) * 10 + (9 - k) % 10 = _
    omega

/-- The state and the memory a direction starts from. -/
theorem first_plain (H : S1024x256.Idx → EReal) : ((hStart (F := Ideal) H, cStart (F := Ideal)) : Mat 1024 256 × Mat 1024 256) = (H, fun _ => (0 : EReal)) := by
  refine Prod.ext ?_ ?_
  · exact shapeCast_self (α := EReal) H _
  · funext y
    show Ideal.ofBits .f32 0x00000000#32 = 0
    exact Ideal.ofBits_zero_f32

/-- Point `t`'s ten steps start from its direction's recurrence after `10 (t % 5)` steps. -/
theorem start_plain (n : ℕ) : ∀ t : Fin cfg1.N, t.val = n → (startAt V d t : Mat 1024 256 × Mat 1024 256) = runD V d (dirOf t) (10 * (t.val % 5)) := by
  induction n with
  | zero =>
    intro t ht
    have h1 : ((grid1.coords t) 1).val = 0 := by rw [coord1]; omega
    unfold startAt startOf
    rw [if_pos h1, ht, blkH_at]
    exact first_plain _
  | succ n ih =>
    intro t ht
    have hN : t.val < 10 := lt_of_lt_of_eq t.isLt N_1
    unfold startAt startOf
    by_cases h : t.val % 5 = 0
    · have h1 : ((grid1.coords t) 1).val = 0 := by rw [coord1]; omega
      rw [if_pos h1, h, blkH_at]
      exact first_plain _
    · have h1 : ¬ ((grid1.coords t) 1).val = 0 := by rw [coord1]; omega
      rw [if_neg h1]
      have hn : n < cfg1.N := lt_of_lt_of_eq (by omega : n < 10) N_1.symm
      have hk := kept_succ V d ⟨n, hn⟩
      rw [ht]
      refine hk.trans ?_
      have hq : dirOf ⟨n, hn⟩ = dirOf t := Fin.ext (show n / 5 = t.val / 5 by omega)
      have hs := ih ⟨n, hn⟩ rfl
      rw [matW_plain]
      refine (steps_plain (wD V d (dirOf ⟨n, hn⟩)) _ _ (xsD V d (dirOf ⟨n, hn⟩)) _ (10 * (n % 5)) (fun k hk => eAt_plain V d ⟨n, hn⟩ k hk) _ hs 10 le_rfl).trans ?_
      rw [hq, show 10 * ((n + 1) % 5) = 10 * (n % 5) + 10 by omega]
      rfl

/-- Step `k` of point `t` leaves its direction's state after `10 (t % 5) + k + 1` steps. -/
theorem outAt_plain (t : Fin cfg1.N) (k : ℕ) (hk : k < 10) :
    (outAt (F := Ideal) (grid1.coords t) (blkE V d t) (matW (blkW V d t)) (startAt V d t) k : Mat 1024 256)
      = (runD V d (dirOf t) (10 * (t.val % 5) + k + 1)).1 := by
  rw [matW_plain]
  exact out_plain (wD V d (dirOf t)) _ _ (xsD V d (dirOf t)) _ (10 * (t.val % 5)) (fun k hk => eAt_plain V d t k hk) _ (start_plain V d t.val t rfl) k hk

theorem blkZ_plain (t : Fin cfg1.N) (h : t.val % 5 = 4) : (blkZ V d t : S1024x256.Idx → EReal) = (runD V d (dirOf t) 50).1 := by
  refine (outAt_plain V d t 9 (by omega)).trans ?_
  rw [h]

theorem blkY_plain (t : Fin cfg1.N) (r : Fin 10) (n : Fin 1024) (j : Fin 256) :
    (blkY V d t : S10x1024x256.Idx → EReal) (ix3 r n j)
      = (runD V d (dirOf t) (10 * (t.val % 5) + stepOf (grid1.coords t) r + 1)).1 (ix2 n j) := by
  unfold blkY outs
  refine (shapeCast_addUnit_apply ![1024, 256] _ _ _).trans ?_
  refine Eq.trans (congrFun (outAt_plain V d t (stepOf (grid1.coords t) r) (stepOf_lt _ r)) _) (congrArg _ ?_)
  funext a
  match a with
  | ⟨0, _⟩ => rfl
  | ⟨1, _⟩ => rfl

end Cert.Gather

end
-- ==== Proof.ArraysPlain.lean ====
/-
  The recurrence's two arrays over the extended reals: the blocks the points write out tile them, so each entry is the
  state of its direction after its step.
-/
module

public import proofs.«01_k».proof.Proof.PointPlain

@[expose] public section

noncomputable section

namespace Cert.Gather

open Cert.KernelIdeal Cert.KernelIdeal.Gen

open Idealize.ShloMosaic hiding ix2 eq_ix2 ix3 eq_ix3
open Idealize.ShloMosaic.ValueIdx Idealize.SL.Sem
open Idealize.ShloMosaic.TcCoe
open Cert.Plain (Mat)

variable (V : Vals Ideal) (d : Dev nD)

/-- The number of steps direction `q` has taken once it has left row `n`. -/
def taken (q : Fin 2) (n : ℕ) : ℕ := if q.val = 0 then n + 1 else 49 - n + 1

/-- A column of an array of two halves: its direction, and its place in the half. -/
def halfOf (c : Fin 512) : Fin 2 := ⟨c.val / 256, by have := c.isLt; omega⟩
def inHalf (c : Fin 512) : Fin 256 := ⟨c.val % 256, Nat.mod_lt _ (by decide)⟩

/-- The outputs of every step, and the last states. -/
def allY : S50x1024x512.Idx → EReal := fun y => (runD V d (halfOf (y 2)) (taken (halfOf (y 2)) (y 0).val)).1 (ix2 (y 1) (inHalf (y 2)))
def allZ : S1024x512.Idx → EReal := fun y => (runD V d (halfOf (y 1)) 50).1 (ix2 (y 0) (inHalf (y 1)))

/-- Where the blocks of outputs lie. -/
theorem emb3 (t : Fin cfg1.N) (r : Fin 10) (n : Fin 1024) (j : Fin 256) :
    ((win1_3.rect t).emb (ix3 r n j) : S50x1024x512.Idx)
      = ix3 ⟨blkNo t * 10 + r.val, by have := blkNo_lt t; have := r.isLt; omega⟩ n ⟨(dirOf t).val * 256 + j.val, by have := (dirOf t).isLt; have := j.isLt; omega⟩ := by
  funext a
  refine Fin.ext ?_
  refine (Pipeline.Window.rect_emb_val win1_3 t (ix3 r n j) a).trans ?_
  have e : win1_3.index t a = _ := at3 t a
  rw [e]
  match a with
  | ⟨0, _⟩ => rfl
  | ⟨1, _⟩ => show 0 * 1024 + n.val = n.val; omega
  | ⟨2, _⟩ => rfl

theorem emb4 (t : Fin cfg1.N) (n : Fin 1024) (j : Fin 256) :
    ((win1_4.rect t).emb (ix2 n j) : S1024x512.Idx) = ix2 n ⟨(dirOf t).val * 256 + j.val, by have := (dirOf t).isLt; have := j.isLt; omega⟩ := by
  funext a
  refine Fin.ext ?_
  refine (Pipeline.Window.rect_emb_val win1_4 t (ix2 n j) a).trans ?_
  have e : win1_4.index t a = _ := at4 t a
  rw [e]
  match a with
  | ⟨0, _⟩ => show 0 * 1024 + n.val = n.val; omega
  | ⟨1, _⟩ => rfl

theorem halfOf_at (q : Fin 2) (j : Fin 256) (h : q.val * 256 + j.val < 512) : halfOf ⟨q.val * 256 + j.val, h⟩ = q := by
  refine Fin.ext ?_
  have := j.isLt
  show (q.val * 256 + j.val) / 256 = q.val
  omega

theorem inHalf_at (q : Fin 2) (j : Fin 256) (h : q.val * 256 + j.val < 512) : inHalf ⟨q.val * 256 + j.val, h⟩ = j := by
  refine Fin.ext ?_
  have := j.isLt
  show (q.val * 256 + j.val) % 256 = j.val
  omega

/-- A step's number from its point and its row. -/
theorem taken_at (t : Fin cfg1.N) (r : Fin 10) : taken (dirOf t) (blkNo t * 10 + r.val) = 10 * (t.val % 5) + stepOf (grid1.coords t) r + 1 := by
  have ht : t.val < 10 := lt_of_lt_of_eq t.isLt N_1
  have hr := r.isLt
  unfold taken blkNo stepOf
  by_cases h : t.val < 5
  · have h0 : ((grid1.coords t) 0).val = 0 := by rw [coord0]; omega
    have h0' : (dirOf t).val = 0 := by show t.val / 5 = 0; omega
    rw [if_pos h0, if_pos h0', if_pos h]
    omega
  · have h0 : ¬ ((grid1.coords t) 0).val = 0 := by rw [coord0]; omega
    have h0' : ¬ (dirOf t).val = 0 := by show ¬ t.val / 5 = 0; omega
    rw [if_neg h0, if_neg h0', if_neg h]
    omega

/-- The blocks written are blocks of the whole. -/
theorem read3 (t : Fin cfg1.N) : (blkY V d t : S10x1024x256.Idx → EReal) = fun y => allY V d ((win1_3.rect t).emb y) := by
  funext y
  obtain ⟨r, n, j, rfl⟩ : ∃ (r : Fin 10) (n : Fin 1024) (j : Fin 256), y = ix3 r n j := ⟨y 0, y 1, y 2, eq_ix3 y⟩
  rw [blkY_plain, emb3]
  show _ = (runD V d (halfOf ⟨(dirOf t).val * 256 + j.val, _⟩) (taken (halfOf ⟨(dirOf t).val * 256 + j.val, _⟩) (blkNo t * 10 + r.val))).1 (ix2 n (inHalf ⟨(dirOf t).val * 256 + j.val, _⟩))
  rw [halfOf_at, inHalf_at, taken_at]

theorem read4 (t : Fin cfg1.N) (h : t.val % 5 = 4) : (blkZ V d t : S1024x256.Idx → EReal) = fun y => allZ V d ((win1_4.rect t).emb y) := by
  funext y
  obtain ⟨n, j, rfl⟩ : ∃ (n : Fin 1024) (j : Fin 256), y = ix2 n j := ⟨y 0, y 1, eq_ix2 y⟩
  rw [blkZ_plain V d t h, emb4]
  show _ = (runD V d (halfOf ⟨(dirOf t).val * 256 + j.val, _⟩) 50).1 (ix2 n (inHalf ⟨(dirOf t).val * 256 + j.val, _⟩))
  rw [halfOf_at, inHalf_at]

/-- The point that writes a row and a column. -/
theorem cover3 (i : S50x1024x512.Idx) : ∃ (t : Fin cfg1.N) (y : S10x1024x256.Idx), ((win1_3.rect t).emb y : S50x1024x512.Idx) = i := by
  have h0 : (i 0).val < 50 := (i 0).isLt
  have h2 : (i 2).val < 512 := (i 2).isLt
  by_cases h : (i 2).val < 256
  · let t : Fin cfg1.N := ⟨(i 0).val / 10, lt_of_lt_of_eq (by omega : _ < 10) N_1.symm⟩
    refine ⟨t, ix3 ⟨(i 0).val % 10, Nat.mod_lt _ (by decide)⟩ (i 1) ⟨(i 2).val, h⟩, (emb3 t _ _ _).trans ?_⟩
    have hq : (dirOf t).val = 0 := by show (i 0).val / 10 / 5 = 0; omega
    have hb : blkNo t = (i 0).val / 10 := by unfold blkNo; exact if_pos (by show (i 0).val / 10 < 5; omega)
    funext a
    refine Fin.ext ?_
    match a with
    | ⟨0, _⟩ => show blkNo t * 10 + (i 0).val % 10 = (i 0).val; omega
    | ⟨1, _⟩ => rfl
    | ⟨2, _⟩ => show (dirOf t).val * 256 + (i 2).val = (i 2).val; omega
  · let t : Fin cfg1.N := ⟨9 - (i 0).val / 10, lt_of_lt_of_eq (by omega : _ < 10) N_1.symm⟩
    refine ⟨t, ix3 ⟨(i 0).val % 10, Nat.mod_lt _ (by decide)⟩ (i 1) ⟨(i 2).val - 256, by omega⟩, (emb3 t _ _ _).trans ?_⟩
    have hq : (dirOf t).val = 1 := by show (9 - (i 0).val / 10) / 5 = 1; omega
    have hb : blkNo t = 9 - (9 - (i 0).val / 10) := by unfold blkNo; exact if_neg (by show ¬ 9 - (i 0).val / 10 < 5; omega)
    funext a
    refine Fin.ext ?_
    match a with
    | ⟨0, _⟩ => show blkNo t * 10 + (i 0).val % 10 = (i 0).val; omega
    | ⟨1, _⟩ => rfl
    | ⟨2, _⟩ => show (dirOf t).val * 256 + ((i 2).val - 256) = (i 2).val; omega

theorem cover4 (i : S1024x512.Idx) : ∃ (t : Fin cfg1.N), t.val % 5 = 4 ∧ ∃ y : S1024x256.Idx, ((win1_4.rect t).emb y : S1024x512.Idx) = i := by
  have h1 : (i 1).val < 512 := (i 1).isLt
  by_cases h : (i 1).val < 256
  · let t : Fin cfg1.N := ⟨4, lt_of_lt_of_eq (by decide : 4 < 10) N_1.symm⟩
    refine ⟨t, by show 4 % 5 = 4; decide, ix2 (i 0) ⟨(i 1).val, h⟩, (emb4 t _ _).trans ?_⟩
    have hq : (dirOf t).val = 0 := by show 4 / 5 = 0; decide
    funext a
    refine Fin.ext ?_
    match a with
    | ⟨0, _⟩ => rfl
    | ⟨1, _⟩ => show (dirOf t).val * 256 + (i 1).val = (i 1).val; omega
  · let t : Fin cfg1.N := ⟨9, lt_of_lt_of_eq (by decide : 9 < 10) N_1.symm⟩
    refine ⟨t, by show 9 % 5 = 4; decide, ix2 (i 0) ⟨(i 1).val - 256, by omega⟩, (emb4 t _ _).trans ?_⟩
    have hq : (dirOf t).val = 1 := by show 9 / 5 = 1; decide
    funext a
    refine Fin.ext ?_
    match a with
    | ⟨0, _⟩ => rfl
    | ⟨1, _⟩ => show (dirOf t).val * 256 + ((i 1).val - 256) = (i 1).val; omega

/-- The arrays at the end. -/
theorem arr3 : ((dats V 0 d).arrAt 3 cfg1.N : S50x1024x512.Idx → EReal) = allY V d :=
  Pipeline.Dat.arrAt_eq_of_cover (dats V 0 d) 3 (allY V d)
    (fun t _ => (after3 V d t).trans (read3 V d t))
    (fun i => by
      obtain ⟨t, y, e⟩ := cover3 i
      exact ⟨t, flush1_3 t, e ▸ ((cfg1.win 3).blk t).view.emb_mem_set y⟩)

theorem arr4 : ((dats V 0 d).arrAt 4 cfg1.N : S1024x512.Idx → EReal) = allZ V d :=
  Pipeline.Dat.arrAt_eq_of_cover (dats V 0 d) 4 (allZ V d)
    (fun t hf => (after4 V d t).trans (read4 V d t ((flush1_4 t).mp hf)))
    (fun i => by
      obtain ⟨t, ht, y, e⟩ := cover4 i
      exact ⟨t, (flush1_4 t).mpr ht, e ▸ ((cfg1.win 4).blk t).view.emb_mem_set y⟩)

end Cert.Gather

end
-- ==== Proof.KernelEnd.lean ====
/-
  The kernel's two results over the extended reals, as functions of its arguments: the rows gathered are the table's rows
  by steps, the weights are each direction's two arguments one above the other, and so the two arrays hold the states of
  the two directions' recurrences and their last states.
-/
module

public import proofs.«01_k».proof.Proof.ArraysPlain
public import proofs.«01_k».proof.Proof.Frames

@[expose] public section

noncomputable section

namespace Cert.Gather

open Cert.KernelIdeal Cert.KernelIdeal.Gen

open Idealize.ShloMosaic hiding ix2 eq_ix2 ix3 eq_ix3
open Idealize.ShloMosaic.ValueIdx Idealize.SL.Sem
open Idealize.ShloMosaic.TcCoe
open Cert.Plain (Mat seqF fwd bwd states lasts)

section Reads
variable {F : FTy → Type} [FloatOps F] (V : Valuation τ sig (Elt F))

/-- One direction's weights, its two arguments one above the other; -/
def above (a : FVec F S128x1024 .f32) (b : FVec F S256x1024 .f32) : FVec F S384x1024 .f32 :=
  concatenate S384x1024 0 [⟨S128x1024, a⟩, ⟨S256x1024, b⟩] concatenates_S128x1024_S256x1024_S384x1024_d0
/-- and both directions'. -/
def stacked (a b : FVec F S384x1024 .f32) : FVec F S2x384x1024 .bf16 :=
  truncf .bf16 (concatenate S2x384x1024 0 [⟨S1x384x1024, broadcastInDim S1x384x1024 ![1, 2] bcast_S384x1024_S1x384x1024_1_2 a⟩,
    ⟨S1x384x1024, broadcastInDim S1x384x1024 ![1, 2] bcast_S384x1024_S1x384x1024_1_2 b⟩] concatenates_S1x384x1024_S1x384x1024_S2x384x1024_d0) bitsLt_bf16_f32

theorem opsB_rows : StableHlo.after opsB V (Proc.devRef .tc main_v4) = shapeCast S50x1024x128 (V (Proc.devRef .tc main_v3) : S51200x128.Idx → F .f32) shapeCasts_S51200x128_S50x1024x128 := by
  after_results_simp
  rfl
theorem opsB_weights : StableHlo.after opsB V (Proc.devRef .tc main_v10)
    = stacked (above (V (Proc.devRef .tc main_arg3)) (V (Proc.devRef .tc main_arg4))) (above (V (Proc.devRef .tc main_arg6)) (V (Proc.devRef .tc main_arg7))) := by
  after_results_simp
  rfl
theorem opsC_out : StableHlo.after opsC V (Proc.devRef .tc main_v12) = transpose S1024x50x512 [1, 0, 2] (V (Proc.devRef .tc main_v11_0) : S50x1024x512.Idx → F .f32) transposes_S50x1024x512_S1024x50x512_1_0_2 := by
  after_results_simp

end Reads

/-- The weights at an index. -/
theorem wx_above (a : Mat 128 1024) (b : Mat 256 1024) : wxOf (above (F := Ideal) a b) = a := by
  funext y
  refine concatenate_pair_apply_left 0 a b concatenates_S128x1024_S256x1024_S384x1024_d0 _ rfl y (fun k => ?_)
  match k with
  | ⟨0, _⟩ => rfl
  | ⟨1, _⟩ => rfl

theorem wh_above (a : Mat 128 1024) (b : Mat 256 1024) : whOf (above (F := Ideal) a b) = b := by
  funext y
  refine concatenate_pair_apply_right 0 a b concatenates_S128x1024_S256x1024_S384x1024_d0 _ rfl rfl y (fun k hk => ?_) ?_
  · match k with
    | ⟨0, _⟩ => exact absurd rfl hk
    | ⟨1, _⟩ => rfl
  · show (y 0).val + 128 = 128 + (y 0).val
    omega

theorem stacked_zero (a b : Mat 384 1024) (n : Fin 384) (j : Fin 1024) : (stacked (F := Ideal) a b : S2x384x1024.Idx → EReal) (ix3 0 n j) = a (ix2 n j) := by
  show concatenate (α := EReal) S2x384x1024 0 [⟨S1x384x1024, broadcastInDim S1x384x1024 ![1, 2] bcast_S384x1024_S1x384x1024_1_2 a⟩,
    ⟨S1x384x1024, broadcastInDim S1x384x1024 ![1, 2] bcast_S384x1024_S1x384x1024_1_2 b⟩] concatenates_S1x384x1024_S1x384x1024_S2x384x1024_d0 (ix3 0 n j) = _
  refine (concatenate_pair_apply_left 0 _ _ concatenates_S1x384x1024_S1x384x1024_S2x384x1024_d0 (ix3 0 n j : S2x384x1024.Idx) rfl (ix3 0 n j : S1x384x1024.Idx) (fun k => ?_)).trans ?_
  · match k with
    | ⟨0, _⟩ => rfl
    | ⟨1, _⟩ => rfl
    | ⟨2, _⟩ => rfl
  · refine broadcastInDim_apply _ _ _ _ (ix2 n j) (fun k => ?_)
    match k with
    | ⟨0, _⟩ => rfl
    | ⟨1, _⟩ => rfl

theorem stacked_one (a b : Mat 384 1024) (n : Fin 384) (j : Fin 1024) : (stacked (F := Ideal) a b : S2x384x1024.Idx → EReal) (ix3 1 n j) = b (ix2 n j) := by
  show concatenate (α := EReal) S2x384x1024 0 [⟨S1x384x1024, broadcastInDim S1x384x1024 ![1, 2] bcast_S384x1024_S1x384x1024_1_2 a⟩,
    ⟨S1x384x1024, broadcastInDim S1x384x1024 ![1, 2] bcast_S384x1024_S1x384x1024_1_2 b⟩] concatenates_S1x384x1024_S1x384x1024_S2x384x1024_d0 (ix3 1 n j) = _
  refine (concatenate_pair_apply_right 0 _ _ concatenates_S1x384x1024_S1x384x1024_S2x384x1024_d0 (ix3 1 n j : S2x384x1024.Idx) rfl rfl (ix3 0 n j : S1x384x1024.Idx) (fun k hk => ?_) rfl).trans ?_
  · match k with
    | ⟨0, _⟩ => exact absurd rfl hk
    | ⟨1, _⟩ => rfl
    | ⟨2, _⟩ => rfl
  · refine broadcastInDim_apply _ _ _ _ (ix2 n j) (fun k => ?_)
    match k with
    | ⟨0, _⟩ => rfl
    | ⟨1, _⟩ => rfl

variable (m : (ℓ : Loc nD τ sig) → Buf (Elt Ideal) ℓ) (d : Dev nD)

/-- The two directions' recurrences over the arguments. -/
def fwdK : ℕ → Mat 1024 256 × Mat 1024 256 :=
  fwd (m (d, Proc.devRef .tc main_arg0)) (m (d, Proc.devRef .tc main_arg2)) (m (d, Proc.devRef .tc main_arg3)) (m (d, Proc.devRef .tc main_arg4)) (m (d, Proc.devRef .tc main_arg1))
def bwdK : ℕ → Mat 1024 256 × Mat 1024 256 :=
  bwd (m (d, Proc.devRef .tc main_arg0)) (m (d, Proc.devRef .tc main_arg2)) (m (d, Proc.devRef .tc main_arg6)) (m (d, Proc.devRef .tc main_arg7)) (m (d, Proc.devRef .tc main_arg1))

/-- Place `1024 n + r` of the list holds row `r`'s index of step `n`. -/
theorem list_at (n : Fin 50) (r : Fin 1024) : listIn m d (place (1024 * n.val + r.val)) = (m (d, Proc.devRef .tc main_arg0) : S1024x50.Idx → BitVec 32) (ix2 r n) := by
  have hn := n.isLt
  have hr := r.isLt
  rw [listIn_eq]
  let p : S51200.Idx := ValueIdx.ix1 (⟨1024 * n.val + r.val, by omega⟩ : Fin 51200)
  refine (shapeCast_apply _ shapeCasts_S51200_S1x51200 (place (1024 * n.val + r.val)) p ?_).trans ?_
  · rw [Shape.rowMajor_val_two, Shape.rowMajor_val_one]
    show 1024 * n.val + r.val = 0 * 51200 + (1024 * n.val + r.val) % 51200
    omega
  refine (shapeCast_apply _ shapeCasts_S50x1024_S51200 p (ix2 n r) ?_).trans ?_
  · rw [Shape.rowMajor_val_two, Shape.rowMajor_val_one]
    show n.val * 1024 + r.val = 1024 * n.val + r.val
    omega
  · exact transpose_apply _ _ _ _ (ix2 r n) (fun k => match k with
      | ⟨0, _⟩ => rfl
      | ⟨1, _⟩ => rfl)

/-- The recurrence's embeddings: step `n`'s rows of the table. -/
theorem rows_plain (n : ℕ) : xsV (atRefs (W3 m)) d n = seqF (m (d, Proc.devRef .tc main_arg0)) (m (d, Proc.devRef .tc main_arg2)) n := by
  have e : W3 m d (Proc.devRef .tc main_v4) = _ := opsB_rows (W2 m d)
  have e2 : W2 m d (Proc.devRef .tc main_v3) = gathered (tabIn m d) (listIn m d) := Function.update_self _ _ _
  have et : tabIn m d = m (d, Proc.devRef .tc main_arg2) := W1_keep m d (by decide)
  rw [e2, et] at e
  funext y
  show (W3 m d (Proc.devRef .tc main_v4) : S50x1024x128.Idx → EReal) (ix3 (Fin.ofNat 50 n) (y 0) (y 1)) = _
  rw [e]
  have h0 : (y 0).val < 1024 := (y 0).isLt
  have hn : n % 50 < 50 := Nat.mod_lt _ (by decide)
  refine (shapeCast_apply _ shapeCasts_S51200x128_S50x1024x128 _ (ix2 (⟨1024 * (n % 50) + (y 0).val, by omega⟩ : Fin 51200) (y 1)) ?_).trans ?_
  · rw [Shape.rowMajor_val_two, Shape.rowMajor_val_three]
    show (1024 * (n % 50) + (y 0).val) * 128 + (y 1).val = (n % 50 * 1024 + (y 0).val) * 128 + (y 1).val
    omega
  · exact congrArg (fun w : BitVec 32 => (m (d, Proc.devRef .tc main_arg2) : S100000x128.Idx → EReal) (ix2 (rowOf w) (y 1))) (list_at m d (Fin.ofNat 50 n) (y 0))

/-- The recurrence's weights. -/
theorem weights_eq : W3 m d (Proc.devRef .tc main_v10)
    = stacked (F := Ideal) (above (m (d, Proc.devRef .tc main_arg3)) (m (d, Proc.devRef .tc main_arg4))) (above (m (d, Proc.devRef .tc main_arg6)) (m (d, Proc.devRef .tc main_arg7))) := by
  have e : W3 m d (Proc.devRef .tc main_v10) = _ := opsB_weights (W2 m d)
  rw [e, W2_keep m d (b := main_arg3) (by decide), W2_keep m d (b := main_arg4) (by decide), W2_keep m d (b := main_arg6) (by decide), W2_keep m d (b := main_arg7) (by decide)]

theorem wD_zero : wD (atRefs (W3 m)) d 0 = above (F := Ideal) (m (d, Proc.devRef .tc main_arg3)) (m (d, Proc.devRef .tc main_arg4)) := by
  funext y
  show (W3 m d (Proc.devRef .tc main_v10) : S2x384x1024.Idx → EReal) (ix3 0 (y 0) (y 1)) = _
  rw [weights_eq]
  exact (stacked_zero _ _ (y 0) (y 1)).trans (congrArg _ (eq_ix2 y).symm)

theorem wD_one : wD (atRefs (W3 m)) d 1 = above (F := Ideal) (m (d, Proc.devRef .tc main_arg6)) (m (d, Proc.devRef .tc main_arg7)) := by
  funext y
  show (W3 m d (Proc.devRef .tc main_v10) : S2x384x1024.Idx → EReal) (ix3 1 (y 0) (y 1)) = _
  rw [weights_eq]
  exact (stacked_one _ _ (y 0) (y 1)).trans (congrArg _ (eq_ix2 y).symm)

theorem start_eq : atRefs (W3 m) d main_arg1 = m (d, Proc.devRef .tc main_arg1) := W3_keep m d (b := main_arg1) (by decide) (by decide)

/-- The two directions' recurrences are those of the arguments. -/
theorem run_zero : runD (atRefs (W3 m)) d 0 = fwdK m d := by
  have e : xsD (atRefs (W3 m)) d 0 = seqF (m (d, Proc.devRef .tc main_arg0)) (m (d, Proc.devRef .tc main_arg2)) :=
    (if_pos rfl).trans (funext fun n => rows_plain m d n)
  unfold runD
  rw [e, wD_zero, wx_above, wh_above, start_eq]
  rfl

theorem run_one : runD (atRefs (W3 m)) d 1 = bwdK m d := by
  have e : xsD (atRefs (W3 m)) d 1 = fun n => seqF (m (d, Proc.devRef .tc main_arg0)) (m (d, Proc.devRef .tc main_arg2)) (49 - n) :=
    (if_neg (by decide)).trans (funext fun n => rows_plain m d (49 - n))
  unfold runD
  rw [e, wD_one, wx_above, wh_above, start_eq]
  rfl

/-- A column below the middle is the first direction's, from the middle on the second's. -/
theorem run_low (c : Fin 512) (h : c.val < 256) : runD (atRefs (W3 m)) d (halfOf c) = fwdK m d := by
  have e : halfOf c = 0 := Fin.ext (show c.val / 256 = 0 by omega)
  rw [e, run_zero]

theorem run_high (c : Fin 512) (h : ¬ c.val < 256) : runD (atRefs (W3 m)) d (halfOf c) = bwdK m d := by
  have hc := c.isLt
  have e : halfOf c = 1 := Fin.ext (show c.val / 256 = 1 by omega)
  rw [e, run_one]

theorem allY_plain (n : Fin 50) (r : Fin 1024) (c : Fin 512) : allY (atRefs (W3 m)) d (ix3 n r c) = states (fwdK m d) (bwdK m d) (ix3 r n c) := by
  have hc := c.isLt
  show (runD (atRefs (W3 m)) d (halfOf c) (taken (halfOf c) n.val)).1 (ix2 r (inHalf c)) = _
  unfold states
  by_cases h : c.val < 256
  · refine Eq.trans ?_ (dif_pos h).symm
    have t : taken (halfOf c) n.val = n.val + 1 := by unfold taken; exact if_pos (show c.val / 256 = 0 by omega)
    have hi : inHalf c = ⟨c.val, h⟩ := Fin.ext (show c.val % 256 = c.val by omega)
    rw [run_low m d c h, t, hi]
  · refine Eq.trans ?_ (dif_neg h).symm
    have t : taken (halfOf c) n.val = 49 - n.val + 1 := by unfold taken; exact if_neg (show ¬ c.val / 256 = 0 by omega)
    have hi : inHalf c = ⟨c.val - 256, by omega⟩ := Fin.ext (show c.val % 256 = c.val - 256 by omega)
    rw [run_high m d c h, t, hi]

theorem allZ_plain (r : Fin 1024) (c : Fin 512) : allZ (atRefs (W3 m)) d (ix2 r c) = lasts (fwdK m d) (bwdK m d) (ix2 r c) := by
  have hc := c.isLt
  show (runD (atRefs (W3 m)) d (halfOf c) 50).1 (ix2 r (inHalf c)) = _
  unfold lasts
  by_cases h : c.val < 256
  · refine Eq.trans ?_ (dif_pos h).symm
    have hi : inHalf c = ⟨c.val, h⟩ := Fin.ext (show c.val % 256 = c.val by omega)
    rw [run_low m d c h, hi]
  · refine Eq.trans ?_ (dif_neg h).symm
    have hi : inHalf c = ⟨c.val - 256, by omega⟩ := Fin.ext (show c.val % 256 = c.val - 256 by omega)
    rw [run_high m d c h, hi]

/-- The first result. -/
theorem W5_states : W5 m d (Proc.devRef .tc main_v12) = states (fwdK m d) (bwdK m d) := by
  have e : W5 m d (Proc.devRef .tc main_v12) = _ := opsC_out (W4 m d)
  have e4 : W4 m d (Proc.devRef .tc main_v11_0) = allY (atRefs (W3 m)) d := (W4_arr m d 3).trans (arr3 (atRefs (W3 m)) d)
  rw [e4] at e
  refine e.trans (funext fun y => ?_)
  obtain ⟨r, n, c, rfl⟩ : ∃ (r : Fin 1024) (n : Fin 50) (c : Fin 512), y = ix3 r n c := ⟨y 0, y 1, y 2, eq_ix3 y⟩
  refine (transpose_apply _ _ _ _ (ix3 n r c) (fun k => match k with
    | ⟨0, _⟩ => rfl
    | ⟨1, _⟩ => rfl
    | ⟨2, _⟩ => rfl)).trans (allY_plain m d n r c)

/-- The second result. -/
theorem W5_lasts : W5 m d (Proc.devRef .tc main_v11_1) = lasts (fwdK m d) (bwdK m d) := by
  have e4 : W4 m d (Proc.devRef .tc main_v11_1) = allZ (atRefs (W3 m)) d := (W4_arr m d 4).trans (arr4 (atRefs (W3 m)) d)
  refine ((opsC_keep (by decide) _).trans e4).trans (funext fun y => ?_)
  obtain ⟨r, c, rfl⟩ : ∃ (r : Fin 1024) (c : Fin 512), y = ix2 r c := ⟨y 0, y 1, eq_ix2 y⟩
  exact allZ_plain m d r c

end Cert.Gather

end
-- ==== Proof.RefStep.lean ====
/-
  What one step of each of the reference's loops leaves, as functions of what it reads: the weighted sums of a row and of
  the hidden state, the four gates with the new memory and state, and the row put into the sequence of states.
-/
module

public import proofs.«01_k».proof.Proof.RefLoop
public import Idealize.ShloMosaic.Lib.StableHlo.RunClose

@[expose] public section

noncomputable section

namespace Cert.Scan

open Cert.ReferenceIdeal Cert.ReferenceIdeal.Gen

open Idealize.ShloMosaic
open Idealize.ShloMosaic.TcCoe
open Idealize.SL.Sem

variable {F : FTy → Type} [FloatOps F]

/-- The row of the step numbered `n`. -/
def rowAt (X : FVec F S50x1024x128 .f32) (n : IVec S_ 32) : FVec F S1024x128 .f32 :=
  shapeCast S1024x128 (Host.dynamicSlice S1x1024x128 X (fun k => ((![n, constantI S_ 32 0#32, constantI S_ 32 0#32] : Fin 3 → IVec S_ 32) k (Shape.Idx.first h_S_)).toInt) sliceFits_S50x1024x128_S1x1024x128) shapeCasts_S1x1024x128_S1024x128

/-- The weighted sums of a row and of the hidden state, with the bias. -/
def sums (e : FVec F S1024x128 .f32) (Wx : FVec F S128x1024 .f32) (Wh : FVec F S256x1024 .f32) (b : FVec F S1024 .f32) (h : FVec F S1024x256 .f32) : FVec F S1024x1024 .f32 :=
  addf (addf (Host.dotGeneral dot_S1024x128_S128x1024_S1024x1024_1_0_0_1_n_n none e Wx) (Host.dotGeneral dot_S1024x256_S256x1024_S1024x1024_1_0_0_1_n_n none h Wh))
    (broadcastInDim S1024x1024 ![0, 1] bcast_S1x1024_S1024x1024_0_1 (broadcastInDim S1x1024 ![1] bcast_S1024_S1x1024_1 b))

/-- One, everywhere. -/
def ones : FVec F S1024x256 .f32 := broadcastInDim S1024x256 ![] bcast_S_S1024x256 (constant S_ .f32 0x3F800000#32)
/-- The logistic function, as it is written out. -/
def lgt (z : FVec F S1024x256 .f32) : FVec F S1024x256 .f32 := Host.divf ones (addf ones (Host.exp (Host.negf z)))

/-- The new memory and the new state from the weighted sums and the memory. -/
def nextC (z : FVec F S1024x1024 .f32) (c : FVec F S1024x256 .f32) : FVec F S1024x256 .f32 :=
  addf (mulf (lgt (extractStridedSlice S1024x256 ![0, 256] z slices_S1024x1024_S1024x256_0_256)) c)
    (mulf (lgt (extractStridedSlice S1024x256 ![0, 0] z slices_S1024x1024_S1024x256_0_0)) (Host.tanh (extractStridedSlice S1024x256 ![0, 512] z slices_S1024x1024_S1024x256_0_512)))
def nextH (z : FVec F S1024x1024 .f32) (c : FVec F S1024x256 .f32) : FVec F S1024x256 .f32 :=
  mulf (lgt (extractStridedSlice S1024x256 ![0, 768] z slices_S1024x1024_S1024x256_0_768)) (Host.tanh (nextC z c))

/-- The sequence of states with the row of the step numbered `n` put in. -/
def putAt (Y : FVec F S50x1024x256 .f32) (h : FVec F S1024x256 .f32) (n : IVec S_ 32) : FVec F S50x1024x256 .f32 :=
  Host.dynamicUpdateSlice Y (broadcastInDim S1x1024x256 ![1, 2] bcast_S1024x256_S1x1024x256_1_2 h) (fun k => ((![n, constantI S_ 32 0#32, constantI S_ 32 0#32] : Fin 3 → IVec S_ 32) k (Shape.Idx.first h_S_)).toInt) updateFits_S50x1024x256_S1x1024x256

variable (V : Valuation τ sig (Elt F))

theorem sum0_read : StableHlo.after sumOps0 V (Proc.devRef .tc main_while0b_v18)
    = sums (rowAt (V (Proc.devRef .tc main_v4_0)) (V (Proc.devRef .tc main_v4_4))) (V (Proc.devRef .tc main_v4_1)) (V (Proc.devRef .tc main_v4_2)) (V (Proc.devRef .tc main_v4_3)) (V (Proc.devRef .tc main_v4_5)) := by
  after_results_simp_entrywise
  unfold sums rowAt
  rfl

theorem gateC0_read : StableHlo.after gateOps0 V (Proc.devRef .tc main_while0b_v44) = nextC (V (Proc.devRef .tc main_while0b_v18)) (V (Proc.devRef .tc main_v4_6)) := by
  after_results_simp
  rfl
theorem gateH0_read : StableHlo.after gateOps0 V (Proc.devRef .tc main_while0b_v46) = nextH (V (Proc.devRef .tc main_while0b_v18)) (V (Proc.devRef .tc main_v4_6)) := by
  after_results_simp
  rfl

theorem keepH0_read : StableHlo.after keepOps0 V (Proc.devRef .tc main_v4_5) = V (Proc.devRef .tc main_while0b_v46) := by
  after_results_simp
  rfl
theorem keepC0_read : StableHlo.after keepOps0 V (Proc.devRef .tc main_v4_6) = V (Proc.devRef .tc main_while0b_v44) := by
  after_results_simp
  rfl
theorem keepY0_read : StableHlo.after keepOps0 V (Proc.devRef .tc main_v4_7) = putAt (V (Proc.devRef .tc main_v4_7)) (V (Proc.devRef .tc main_while0b_v46)) (V (Proc.devRef .tc main_v4_4)) := by
  after_results_simp_entrywise
  rfl

theorem sum1_read : StableHlo.after sumOps1 V (Proc.devRef .tc main_while1b_v18)
    = sums (rowAt (V (Proc.devRef .tc main_v7_0)) (V (Proc.devRef .tc main_v7_4))) (V (Proc.devRef .tc main_v7_1)) (V (Proc.devRef .tc main_v7_2)) (V (Proc.devRef .tc main_v7_3)) (V (Proc.devRef .tc main_v7_5)) := by
  after_results_simp_entrywise
  unfold sums rowAt
  rfl

theorem gateC1_read : StableHlo.after gateOps1 V (Proc.devRef .tc main_while1b_v44) = nextC (V (Proc.devRef .tc main_while1b_v18)) (V (Proc.devRef .tc main_v7_6)) := by
  after_results_simp
  rfl
theorem gateH1_read : StableHlo.after gateOps1 V (Proc.devRef .tc main_while1b_v46) = nextH (V (Proc.devRef .tc main_while1b_v18)) (V (Proc.devRef .tc main_v7_6)) := by
  after_results_simp
  rfl

theorem keepH1_read : StableHlo.after keepOps1 V (Proc.devRef .tc main_v7_5) = V (Proc.devRef .tc main_while1b_v46) := by
  after_results_simp
  rfl
theorem keepC1_read : StableHlo.after keepOps1 V (Proc.devRef .tc main_v7_6) = V (Proc.devRef .tc main_while1b_v44) := by
  after_results_simp
  rfl
theorem keepY1_read : StableHlo.after keepOps1 V (Proc.devRef .tc main_v7_7) = putAt (V (Proc.devRef .tc main_v7_7)) (V (Proc.devRef .tc main_while1b_v46)) (V (Proc.devRef .tc main_v7_4)) := by
  after_results_simp_entrywise
  rfl

end Cert.Scan

end
-- ==== Proof.RefPlain.lean ====
/-
  The reference's loops over the extended reals run the plain recurrence when the bias is zero: after `k` steps the hidden
  state and the memory are the recurrence's, and the rows of the sequence of states before row `k` are its states.
-/
module

public import proofs.«01_k».proof.Proof.RefStep
public import proofs.«01_k».proof.Proof.Plain
public import Idealize.ShloMosaic.Lib.DynamicIndex
public import Idealize.ShloMosaic.Lib.KernelVsHost
public import Idealize.ShloMosaic.Lib.Pipeline.Value
public import Idealize.ShloMosaic.Lib.Pointwise.ShapeOpsCore

@[expose] public section

noncomputable section

namespace Cert.Scan

open Cert.ReferenceIdeal Cert.ReferenceIdeal.Gen

open Idealize.ShloMosaic hiding ix2 eq_ix2
open Idealize.ShloMosaic.ValueIdx
open Idealize.ShloMosaic.TcCoe
open Idealize.SL.Sem
open Cert.Plain (Mat gate newC newH col ofFn rowsOf)

/-- A product of matrices at an index is a sum. -/
theorem dot_plain {M K N : ℕ} (A : Mat M K) (B : Mat K N) (r : Fin M) (j : Fin N) :
    Host.dotGeneral (F := Ideal) (φ₁ := .f32) (φ₂ := .f32) (DotDims.plain M K N) none A B (ix2 r j) = ∑ k : Fin K, A (ix2 r k) * B (ix2 k j) := by
  rw [← matmul_zero_eq_dotGeneral]
  refine (Ideal.matmul_plain_apply none A B _ r j).trans ?_
  show Ideal.ofBits .f32 0x00000000#32 + _ = _
  rw [Ideal.ofBits_zero_f32, zero_add]

/-- The counter of step `k`, read signed. -/
theorem iv_toInt (k : ℕ) (hk : k < 50) : (Scf.iv 0#32 1#32 k).toInt = (k : Int) := by
  rw [show Scf.iv 0#32 1#32 k = BitVec.ofNat 32 k by unfold Scf.iv; simp]
  exact toInt_ofNat_of_lt (by omega)

/-- The row of step `k`. -/
theorem rowAt_plain (X : FVec Ideal S50x1024x128 .f32) (k : ℕ) (hk : k < 50) : rowAt (F := Ideal) X (fun _ => Scf.iv 0#32 1#32 k) = rowsOf X k := by
  have hs : S50x1024x128.Slices ![k, 0, 0] S1x1024x128 := ⟨rfl, fun a => match a with
    | ⟨0, _⟩ => show k + 1 ≤ 50 by omega
    | ⟨1, _⟩ => show 0 + 1024 ≤ 1024 by omega
    | ⟨2, _⟩ => show 0 + 128 ≤ 128 by omega⟩
  unfold rowAt
  rw [Host.dynamicSlice_eq_extractStridedSlice S1x1024x128 X _ ![k, 0, 0] _ hs (fun a => match a with
    | ⟨0, _⟩ => iv_toInt k hk
    | ⟨1, _⟩ => rfl
    | ⟨2, _⟩ => rfl)]
  funext y
  refine (shapeCast_dropUnit_apply ![1024, 128] _ _ y).trans ?_
  refine congrArg X (funext fun a => Fin.ext ?_)
  match a with
  | ⟨0, _⟩ => show k + 0 = k % 50; omega
  | ⟨1, _⟩ => show 0 + (y 0).val = (y 0).val; omega
  | ⟨2, _⟩ => show 0 + (y 1).val = (y 1).val; omega

section Step
variable (e : Mat 1024 128) (Wx : Mat 128 1024) (Wh : Mat 256 1024) (b : FVec Ideal S1024 .f32) (hb : b = fun _ => (0 : EReal)) (h c : Mat 1024 256)

include hb in
/-- A weighted sum is a gate's. -/
theorem sums_plain (q : Fin 4) (r : Fin 1024) (j : Fin 256) : sums (F := Ideal) e Wx Wh b h (ix2 r (col q j)) = gate Wx Wh e h q r j := by
  subst hb
  show (Host.dotGeneral (F := Ideal) (DotDims.plain 1024 128 1024) none e Wx (ix2 r (col q j)) + Host.dotGeneral (F := Ideal) (DotDims.plain 1024 256 1024) none h Wh (ix2 r (col q j))) + (0 : EReal) = _
  rw [add_zero, dot_plain, dot_plain]
  rfl

theorem lgt_plain (z : Mat 1024 256) (y : S1024x256.Idx) : lgt (F := Ideal) z y = Ideal.logistic (z y) := by
  show Ideal.div (Ideal.ofBits .f32 0x3F800000#32) (Ideal.ofBits .f32 0x3F800000#32 + Ideal.exp (-z y)) = _
  rw [Ideal.ofBits_one_f32]
  rfl

/-- The columns of a gate. -/
theorem slice_plain (z : Mat 1024 1024) (q : Fin 4) (o : ℕ) (ho : o = 256 * q.val) (hs : S1024x1024.Slices ![0, o] S1024x256) (r : Fin 1024) (j : Fin 256) :
    extractStridedSlice (α := EReal) S1024x256 ![0, o] z hs (ix2 r j) = z (ix2 r (col q j)) := by
  subst ho
  refine congrArg z (funext fun a => Fin.ext ?_)
  match a with
  | ⟨0, _⟩ => show 0 + r.val = r.val; omega
  | ⟨1, _⟩ => rfl

include hb in
theorem nextC_plain (r : Fin 1024) (j : Fin 256) : nextC (F := Ideal) (sums (F := Ideal) e Wx Wh b h) c (ix2 r j) = newC Wx Wh e h c r j := by
  show lgt (F := Ideal) _ (ix2 r j) * c (ix2 r j) + lgt (F := Ideal) _ (ix2 r j) * Ideal.tanh (extractStridedSlice (α := EReal) S1024x256 ![0, 512] (sums (F := Ideal) e Wx Wh b h) _ (ix2 r j)) = _
  rw [lgt_plain, lgt_plain, slice_plain _ 1 256 rfl, slice_plain _ 0 0 rfl, slice_plain _ 2 512 rfl, sums_plain _ _ _ _ hb, sums_plain _ _ _ _ hb, sums_plain _ _ _ _ hb]
  rfl

include hb in
theorem nextH_plain (r : Fin 1024) (j : Fin 256) : nextH (F := Ideal) (sums (F := Ideal) e Wx Wh b h) c (ix2 r j) = newH Wx Wh e h c r j := by
  show lgt (F := Ideal) _ (ix2 r j) * Ideal.tanh (nextC (F := Ideal) (sums (F := Ideal) e Wx Wh b h) c (ix2 r j)) = _
  rw [lgt_plain, slice_plain _ 3 768 rfl, sums_plain _ _ _ _ hb, nextC_plain _ _ _ _ hb]
  rfl

include hb in
theorem nextC_fn : nextC (F := Ideal) (sums (F := Ideal) e Wx Wh b h) c = ofFn (newC Wx Wh e h c) :=
  funext fun y => (congrArg (nextC (F := Ideal) (sums (F := Ideal) e Wx Wh b h) c) (eq_ix2 y)).trans (nextC_plain e Wx Wh b hb h c (y 0) (y 1))
include hb in
theorem nextH_fn : nextH (F := Ideal) (sums (F := Ideal) e Wx Wh b h) c = ofFn (newH Wx Wh e h c) :=
  funext fun y => (congrArg (nextH (F := Ideal) (sums (F := Ideal) e Wx Wh b h) c) (eq_ix2 y)).trans (nextH_plain e Wx Wh b hb h c (y 0) (y 1))

end Step

/-- A row put in: that row is the state, the others stay. -/
theorem putAt_plain (Y : FVec Ideal S50x1024x256 .f32) (h : Mat 1024 256) (k : ℕ) (hk : k < 50) (y : S50x1024x256.Idx) :
    putAt (F := Ideal) Y h (fun _ => Scf.iv 0#32 1#32 k) y = if (y 0).val = k then h (ix2 (y 1) (y 2)) else Y y := by
  have h1 : (y 1).val < 1024 := (y 1).isLt
  have h2 : (y 2).val < 256 := (y 2).isLt
  have c0 := Host.clampedStart_of_le (s := S50x1024x256) (t := S1x1024x256) updateFits_S50x1024x256_S1x1024x256.1
    (fun k' => ((![(fun _ => Scf.iv 0#32 1#32 k), constantI S_ 32 0#32, constantI S_ 32 0#32] : Fin 3 → IVec S_ 32) k' (Shape.Idx.first h_S_)).toInt) 0 k (iv_toInt k hk) (show k + 1 ≤ 50 by omega)
  have c1 := Host.clampedStart_of_le (s := S50x1024x256) (t := S1x1024x256) updateFits_S50x1024x256_S1x1024x256.1
    (fun k' => ((![(fun _ => Scf.iv 0#32 1#32 k), constantI S_ 32 0#32, constantI S_ 32 0#32] : Fin 3 → IVec S_ 32) k' (Shape.Idx.first h_S_)).toInt) 1 0 rfl (show 0 + 1024 ≤ 1024 by omega)
  have c2 := Host.clampedStart_of_le (s := S50x1024x256) (t := S1x1024x256) updateFits_S50x1024x256_S1x1024x256.1
    (fun k' => ((![(fun _ => Scf.iv 0#32 1#32 k), constantI S_ 32 0#32, constantI S_ 32 0#32] : Fin 3 → IVec S_ 32) k' (Shape.Idx.first h_S_)).toInt) 2 0 rfl (show 0 + 256 ≤ 256 by omega)
  unfold putAt
  rw [Host.dynamicUpdateSlice_apply]
  by_cases hv : (y 0).val = k
  · rw [if_pos hv, dif_pos]
    · show h _ = h _
      refine congrArg h (funext fun a => Fin.ext ?_)
      match a with
      | ⟨0, _⟩ => show (y 1).val - Host.clampedStart _ _ _ _ 1 = (y 1).val; rw [c1]; omega
      | ⟨1, _⟩ => show (y 2).val - Host.clampedStart _ _ _ _ 2 = (y 2).val; rw [c2]; omega
    · intro a
      match a with
      | ⟨0, _⟩ => exact ⟨by show Host.clampedStart _ _ _ _ 0 ≤ (y 0).val; rw [c0]; omega, by show (y 0).val < Host.clampedStart _ _ _ _ 0 + 1; rw [c0]; omega⟩
      | ⟨1, _⟩ => exact ⟨by show Host.clampedStart _ _ _ _ 1 ≤ (y 1).val; rw [c1]; omega, by show (y 1).val < Host.clampedStart _ _ _ _ 1 + 1024; rw [c1]; omega⟩
      | ⟨2, _⟩ => exact ⟨by show Host.clampedStart _ _ _ _ 2 ≤ (y 2).val; rw [c2]; omega, by show (y 2).val < Host.clampedStart _ _ _ _ 2 + 256; rw [c2]; omega⟩
  · rw [if_neg hv, dif_neg]
    intro hall
    have h0 := hall 0
    have h0' : Host.clampedStart _ _ _ _ 0 ≤ (y 0).val ∧ (y 0).val < Host.clampedStart _ _ _ _ 0 + 1 := h0
    rw [c0] at h0'
    omega

variable (W₀ : Dev nD → Valuation τ sig (Elt Ideal)) (c : Dev nD)

/-! ## Loop 0 -/

/-- The plain recurrence loop 0 runs. -/
def plain0 : ℕ → Mat 1024 256 × Mat 1024 256 :=
  Plain.run (W₀ c (Proc.devRef .tc main_v4_1)) (W₀ c (Proc.devRef .tc main_v4_2)) (rowsOf (W₀ c (Proc.devRef .tc main_v4_0))) (W₀ c (Proc.devRef .tc main_v4_5))

/-- What the step after `k` steps leaves. -/
theorem step0 (k : ℕ) : StableHlo.atTrip condOps0 bodyI0 W₀ (k + 1) c
    = StableHlo.after keepOps0 (StableHlo.after gateOps0 (StableHlo.after sumOps0 (StableHlo.after condOps0 (StableHlo.atTrip condOps0 bodyI0 W₀ k c)))) := rfl

theorem loop0_plain (hn : W₀ c (Proc.devRef .tc main_v4_4) = fun _ => Scf.iv 0#32 1#32 0) (hb : W₀ c (Proc.devRef .tc main_v4_3) = fun _ => (0 : EReal))
    (hc : W₀ c (Proc.devRef .tc main_v4_6) = fun _ => (0 : EReal)) (k : ℕ) (hk : k ≤ 50) :
    StableHlo.atTrip condOps0 bodyI0 W₀ k c (Proc.devRef .tc main_v4_5) = (plain0 W₀ c k).1
    ∧ StableHlo.atTrip condOps0 bodyI0 W₀ k c (Proc.devRef .tc main_v4_6) = (plain0 W₀ c k).2
    ∧ ∀ y : S50x1024x256.Idx, (y 0).val < k → StableHlo.atTrip condOps0 bodyI0 W₀ k c (Proc.devRef .tc main_v4_7) y = (plain0 W₀ c ((y 0).val + 1)).1 (ix2 (y 1) (y 2)) := by
  induction k with
  | zero => exact ⟨rfl, hc, fun y h => absurd h (Nat.not_lt_zero _)⟩
  | succ k ih =>
    obtain ⟨ih5, ih6, ih7⟩ := ih (by omega)
    have hctr := ctr0_at W₀ c hn k
    have e0 := atTrip0_keep (b := main_v4_0) (by decide) W₀ c k
    have e1 := atTrip0_keep (b := main_v4_1) (by decide) W₀ c k
    have e2 := atTrip0_keep (b := main_v4_2) (by decide) W₀ c k
    have e3 := (atTrip0_keep (b := main_v4_3) (by decide) W₀ c k).trans hb
    rw [step0]
    generalize StableHlo.atTrip condOps0 bodyI0 W₀ k c = T at *
    have z : StableHlo.after sumOps0 (StableHlo.after condOps0 T) (Proc.devRef .tc main_while0b_v18)
        = sums (F := Ideal) (rowsOf (W₀ c (Proc.devRef .tc main_v4_0)) k) (W₀ c (Proc.devRef .tc main_v4_1)) (W₀ c (Proc.devRef .tc main_v4_2)) (T (Proc.devRef .tc main_v4_3)) (plain0 W₀ c k).1 := by
      rw [sum0_read, condOps0_keep (by decide), condOps0_keep (by decide), condOps0_keep (by decide), condOps0_keep (by decide), condOps0_keep (by decide), condOps0_keep (by decide),
        e0, e1, e2, hctr, ih5]
      exact congrArg (fun r => sums (F := Ideal) r _ _ _ _) (rowAt_plain _ k (by omega))
    have m6 : StableHlo.after sumOps0 (StableHlo.after condOps0 T) (Proc.devRef .tc main_v4_6) = (plain0 W₀ c k).2 := by
      rw [sumOps0_keep (by decide), condOps0_keep (by decide), ih6]
    have g5 : StableHlo.after gateOps0 (StableHlo.after sumOps0 (StableHlo.after condOps0 T)) (Proc.devRef .tc main_while0b_v46) = (plain0 W₀ c (k + 1)).1 := by
      rw [gateH0_read, z, m6]
      exact nextH_fn _ _ _ _ e3 _ _
    have g6 : StableHlo.after gateOps0 (StableHlo.after sumOps0 (StableHlo.after condOps0 T)) (Proc.devRef .tc main_while0b_v44) = (plain0 W₀ c (k + 1)).2 := by
      rw [gateC0_read, z, m6]
      exact nextC_fn _ _ _ _ e3 _ _
    refine ⟨(keepH0_read _).trans g5, (keepC0_read _).trans g6, fun y hy => ?_⟩
    rw [keepY0_read, g5, gateOps0_keep (by decide), sumOps0_keep (by decide), condOps0_keep (by decide), gateOps0_keep (by decide), sumOps0_keep (by decide), condOps0_keep (by decide), hctr]
    refine (putAt_plain _ _ k (by omega) y).trans ?_
    by_cases hv : (y 0).val = k
    · rw [if_pos hv, hv]
    · rw [if_neg hv]; exact ih7 y (by omega)

/-! ## Loop 1 -/

/-- The plain recurrence loop 1 runs. -/
def plain1 : ℕ → Mat 1024 256 × Mat 1024 256 :=
  Plain.run (W₀ c (Proc.devRef .tc main_v7_1)) (W₀ c (Proc.devRef .tc main_v7_2)) (rowsOf (W₀ c (Proc.devRef .tc main_v7_0))) (W₀ c (Proc.devRef .tc main_v7_5))

/-- What the step after `k` steps leaves. -/
theorem step1 (k : ℕ) : StableHlo.atTrip condOps1 bodyI1 W₀ (k + 1) c
    = StableHlo.after keepOps1 (StableHlo.after gateOps1 (StableHlo.after sumOps1 (StableHlo.after condOps1 (StableHlo.atTrip condOps1 bodyI1 W₀ k c)))) := rfl

theorem loop1_plain (hn : W₀ c (Proc.devRef .tc main_v7_4) = fun _ => Scf.iv 0#32 1#32 0) (hb : W₀ c (Proc.devRef .tc main_v7_3) = fun _ => (0 : EReal))
    (hc : W₀ c (Proc.devRef .tc main_v7_6) = fun _ => (0 : EReal)) (k : ℕ) (hk : k ≤ 50) :
    StableHlo.atTrip condOps1 bodyI1 W₀ k c (Proc.devRef .tc main_v7_5) = (plain1 W₀ c k).1
    ∧ StableHlo.atTrip condOps1 bodyI1 W₀ k c (Proc.devRef .tc main_v7_6) = (plain1 W₀ c k).2
    ∧ ∀ y : S50x1024x256.Idx, (y 0).val < k → StableHlo.atTrip condOps1 bodyI1 W₀ k c (Proc.devRef .tc main_v7_7) y = (plain1 W₀ c ((y 0).val + 1)).1 (ix2 (y 1) (y 2)) := by
  induction k with
  | zero => exact ⟨rfl, hc, fun y h => absurd h (Nat.not_lt_zero _)⟩
  | succ k ih =>
    obtain ⟨ih5, ih6, ih7⟩ := ih (by omega)
    have hctr := ctr1_at W₀ c hn k
    have e0 := atTrip1_keep (b := main_v7_0) (by decide) W₀ c k
    have e1 := atTrip1_keep (b := main_v7_1) (by decide) W₀ c k
    have e2 := atTrip1_keep (b := main_v7_2) (by decide) W₀ c k
    have e3 := (atTrip1_keep (b := main_v7_3) (by decide) W₀ c k).trans hb
    rw [step1]
    generalize StableHlo.atTrip condOps1 bodyI1 W₀ k c = T at *
    have z : StableHlo.after sumOps1 (StableHlo.after condOps1 T) (Proc.devRef .tc main_while1b_v18)
        = sums (F := Ideal) (rowsOf (W₀ c (Proc.devRef .tc main_v7_0)) k) (W₀ c (Proc.devRef .tc main_v7_1)) (W₀ c (Proc.devRef .tc main_v7_2)) (T (Proc.devRef .tc main_v7_3)) (plain1 W₀ c k).1 := by
      rw [sum1_read, condOps1_keep (by decide), condOps1_keep (by decide), condOps1_keep (by decide), condOps1_keep (by decide), condOps1_keep (by decide), condOps1_keep (by decide),
        e0, e1, e2, hctr, ih5]
      exact congrArg (fun r => sums (F := Ideal) r _ _ _ _) (rowAt_plain _ k (by omega))
    have m6 : StableHlo.after sumOps1 (StableHlo.after condOps1 T) (Proc.devRef .tc main_v7_6) = (plain1 W₀ c k).2 := by
      rw [sumOps1_keep (by decide), condOps1_keep (by decide), ih6]
    have g5 : StableHlo.after gateOps1 (StableHlo.after sumOps1 (StableHlo.after condOps1 T)) (Proc.devRef .tc main_while1b_v46) = (plain1 W₀ c (k + 1)).1 := by
      rw [gateH1_read, z, m6]
      exact nextH_fn _ _ _ _ e3 _ _
    have g6 : StableHlo.after gateOps1 (StableHlo.after sumOps1 (StableHlo.after condOps1 T)) (Proc.devRef .tc main_while1b_v44) = (plain1 W₀ c (k + 1)).2 := by
      rw [gateC1_read, z, m6]
      exact nextC_fn _ _ _ _ e3 _ _
    refine ⟨(keepH1_read _).trans g5, (keepC1_read _).trans g6, fun y hy => ?_⟩
    rw [keepY1_read, g5, gateOps1_keep (by decide), sumOps1_keep (by decide), condOps1_keep (by decide), gateOps1_keep (by decide), sumOps1_keep (by decide), condOps1_keep (by decide), hctr]
    refine (putAt_plain _ _ k (by omega) y).trans ?_
    by_cases hv : (y 0).val = k
    · rw [if_pos hv, hv]
    · rw [if_neg hv]; exact ih7 y (by omega)

end Cert.Scan

end
-- ==== Proof.RefTake.lean ====
/-
  The reference's look-up: where every index names a row of the table, the looked-up array holds the rows they name. The
  indices are then not negative, so they are taken as they are, and none is masked out.
-/
module

public import proofs.«01_k».proof.Proof.RefLoop
public import Idealize.ShloMosaic.Lib.StableHlo.RunClose
public import Idealize.ShloMosaic.Lib.DynamicIndex
public import Idealize.ShloMosaic.Lib.ReduceAll
public import Idealize.ShloMosaic.Lib.ValueIdxCore

@[expose] public section

noncomputable section

namespace Cert.Scan

open Cert.ReferenceIdeal Cert.ReferenceIdeal.Gen

open Idealize.ShloMosaic Idealize.ShloMosaic.ValueIdx
open Idealize.ShloMosaic.TcCoe
open Idealize.SL.Sem

variable {F : FTy → Type} [FloatOps F]

variable (ids : IVec S1024x50 32) (T : FVec F S100000x128 .f32)

/-- The indices as the look-up takes them: a negative one counted from the end. -/
def wrapped : IVec S1024x50x1 32 :=
  broadcastInDim S1024x50x1 ![0, 1] bcast_S1024x50_S1024x50x1_0_1
    (select (cmpi .slt ids (broadcastInDim S1024x50 ![] bcast_S_S1024x50 (constantI S_ 32 0#32))) (addi ids (broadcastInDim S1024x50 ![] bcast_S_S1024x50 (constantI S_ 32 100000#32))) ids)
/-- Whether an index lies in the table. -/
def inside : IVec S1024x50x1 1 :=
  andi (cmpi .sge (wrapped ids) (broadcastInDim S1024x50x1 ![] bcast_S_S1024x50x1 (constantI S_ 32 0#32)))
    (cmpi .sle (wrapped ids) (broadcastInDim S1024x50x1 ![0, 1, 2] bcast_S1x1x1_S1024x50x1_0_1_2 (broadcastInDim S1x1x1 ![2] bcast_S1_S1x1x1_2 (constantI S1 32 99999#32))))
/-- The look-up as it is written. -/
def takeFn : FVec F S1024x50x128 .f32 :=
  select (broadcastInDim S1024x50x128 ![0, 1] bcast_S1024x50_S1024x50x128_0_1 (Host.reduce IntOp.andi (inside ids) (constantI S_ 1 1#1) reducesTo_S1024x50x1_S1024x50_d2 h_S_))
    (Host.gather gather_S100000x128_S1024x50x1_S1024x50x128_2_0_n_n_0_2_1128 T (wrapped ids))
    (broadcastInDim S1024x50x128 ![] bcast_S_S1024x50x128 (constant S_ .f32 0x7FC00000#32))

theorem take_read (V : Valuation τ sig (Elt F)) :
    StableHlo.after takeOps V (Proc.devRef .tc main_v0) = takeFn (V (Proc.devRef .tc main_arg0)) (V (Proc.devRef .tc main_arg2)) := by
  after_results_simp
  rfl

/-- The rows the indices name. -/
def looked : FVec F S1024x50x128 .f32 := fun y => T (ix2 ⟨(ids (ix2 (y 0) (y 1))).toNat % 100000, Nat.mod_lt _ (by norm_num)⟩ (y 2))

/-- The gather at an index. -/
theorem rows_apply (idx : IVec S1024x50x1 32) (y : S1024x50x128.Idx) :
    Host.gather gather_S100000x128_S1024x50x1_S1024x50x128_2_0_n_n_0_2_1128 T idx y
      = T (ix2 ⟨min (idx (ix3 (y 0) (y 1) 0)).toInt.toNat 99999, by omega⟩ (y 2)) := by
  unfold Host.gather
  congr 1
  funext a
  refine Fin.ext ?_
  show gather_S100000x128_S1024x50x1_S1024x50x128_2_0_n_n_0_2_1128.start y idx a + gather_S100000x128_S1024x50x1_S1024x50x128_2_0_n_n_0_2_1128.batchCoord y a
      + gather_S100000x128_S1024x50x1_S1024x50x128_2_0_n_n_0_2_1128.offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S1024x50x1_S1024x50x128_2_0_n_n_0_2_1128.startIndexMap from List.mem_singleton.mpr rfl)]
    have hsi : gather_S100000x128_S1024x50x1_S1024x50x128_2_0_n_n_0_2_1128.siIdx y ⟨List.idxOf (0 : Fin 2) gather_S100000x128_S1024x50x1_S1024x50x128_2_0_n_n_0_2_1128.startIndexMap,
        List.idxOf_lt_length_iff.2 (List.mem_singleton.mpr rfl)⟩ = ix3 (y 0) (y 1) 0 := by
      funext b; refine Fin.ext ?_
      match b with
      | ⟨0, _⟩ => rfl
      | ⟨1, _⟩ => rfl
      | ⟨2, _⟩ => rfl
    exact congrArg (fun i => min (idx i).toInt.toNat 99999) hsi
  · unfold GatherDims.start
    rw [dif_neg (show (1 : Fin 2) ∉ gather_S100000x128_S1024x50x1_S1024x50x128_2_0_n_n_0_2_1128.startIndexMap from by
      intro h; exact absurd (List.mem_singleton.mp h) (by decide))]
    simp only [Nat.zero_add]
    rfl

/-- A word below the table's height, read signed. -/
theorem toInt_small (v : BitVec 32) (h : v.toNat < 100000) : v.toInt = (v.toNat : Int) := by
  rw [BitVec.toInt_eq_toNat_cond]
  split <;> omega

section Small
variable (h : ∀ j, (ids j).toNat < 100000)
include h

theorem wrapped_eq (i : S1024x50x1.Idx) : wrapped ids i = ids (ix2 (i 0) (i 1)) := by
  unfold wrapped
  refine Eq.trans ?_ (select_slt_zero_of_nonneg ids (addi ids (broadcastInDim S1024x50 ![] bcast_S_S1024x50 (constantI S_ 32 100000#32))) ids (ix2 (i 0) (i 1)) ?_)
  · refine congrArg (select (cmpi .slt ids (constantI S1024x50 32 0#32)) _ ids) ?_
    funext a
    match a with
    | ⟨0, _⟩ => rfl
    | ⟨1, _⟩ => rfl
  · rw [toInt_small _ (h _)]; omega

theorem inside_eq (i : S1024x50x1.Idx) : inside ids i = 1#1 := by
  show IntOp.andi (IntOp.cmpi .sge (wrapped ids i) 0#32) (IntOp.cmpi .sle (wrapped ids i) 99999#32) = 1#1
  rw [wrapped_eq ids h]
  have hs := h (ix2 (i 0) (i 1))
  have ht := toInt_small _ hs
  generalize ids (ix2 (i 0) (i 1)) = v at *
  have e1 : (0#32).sle v = true := by rw [BitVec.sle_eq_decide, decide_eq_true_eq, ht]; show (0 : Int) ≤ _; omega
  have e2 : v.sle 99999#32 = true := by rw [BitVec.sle_eq_decide, decide_eq_true_eq, ht]; show _ ≤ (99999 : Int); omega
  show BitVec.ofBool ((0#32).sle v) &&& BitVec.ofBool (v.sle 99999#32) = 1#1
  rw [e1, e2]
  rfl

theorem takeFn_eq : takeFn ids T = looked ids T := by
  funext y
  have hm : ∀ j, Host.reduce IntOp.andi (inside ids) (constantI S_ 1 1#1) reducesTo_S1024x50x1_S1024x50_d2 h_S_ j = 1#1 := fun j =>
    Host.reduce_andi_one _ _ _ _ j rfl (inside_eq ids h)
  have e : takeFn ids T y = Host.gather gather_S100000x128_S1024x50x1_S1024x50x128_2_0_n_n_0_2_1128 T (wrapped ids) y := by
    unfold takeFn select
    exact if_pos (hm _)
  rw [e, rows_apply]
  unfold looked
  refine congrArg T (funext fun a => Fin.ext ?_)
  match a with
  | ⟨0, _⟩ =>
    show min (wrapped ids (ix3 (y 0) (y 1) 0)).toInt.toNat 99999 = (ids (ix2 (y 0) (y 1))).toNat % 100000
    rw [wrapped_eq ids h]
    have hs := h (ix2 (y 0) (y 1))
    have ht := toInt_small _ hs
    show min (ids (ix2 (y 0) (y 1))).toInt.toNat 99999 = _
    rw [ht, Nat.mod_eq_of_lt hs]; omega
  | ⟨1, _⟩ => rfl

end Small

end Cert.Scan

end
-- ==== Proof.RefEnd.lean ====
/-
  The reference's two results over the extended reals, as functions of its arguments: the states of the two directions'
  recurrences, step by step, and their last states.
-/
module

public import proofs.«01_k».proof.Proof.RefFrame
public import proofs.«01_k».proof.Proof.RefPlain
public import proofs.«01_k».proof.Proof.RefTake
public import Idealize.ShloMosaic.Lib.Pointwise.SelectCore

@[expose] public section

noncomputable section

namespace Cert.Scan

open Cert.ReferenceIdeal Cert.ReferenceIdeal.Gen

open Idealize.ShloMosaic hiding ix2 eq_ix2 ix3 eq_ix3
open Idealize.ShloMosaic.ValueIdx
open Idealize.ShloMosaic.TcCoe
open Idealize.SL.Sem
open Cert.Plain (Mat gate newC newH col ofFn rowsOf seqF fwd bwd states lasts)

section Reads
variable {F : FTy → Type} [FloatOps F] (V : Valuation τ sig (Elt F))

theorem entry_v1 : StableHlo.after entryOps V (Proc.devRef .tc main_v1) = transpose S50x1024x128 [1, 0, 2] (V (Proc.devRef .tc main_v0)) transposes_S1024x50x128_S50x1024x128_1_0_2 := by
  after_results_simp
theorem entry_0 : StableHlo.after entryOps V (Proc.devRef .tc main_v4_0) = transpose S50x1024x128 [1, 0, 2] (V (Proc.devRef .tc main_v0)) transposes_S1024x50x128_S50x1024x128_1_0_2 := by
  after_results_simp
  rfl
theorem entry_1 : StableHlo.after entryOps V (Proc.devRef .tc main_v4_1) = V (Proc.devRef .tc main_arg3) := by
  after_results_simp
  rfl
theorem entry_2 : StableHlo.after entryOps V (Proc.devRef .tc main_v4_2) = V (Proc.devRef .tc main_arg4) := by
  after_results_simp
  rfl
theorem entry_3 : StableHlo.after entryOps V (Proc.devRef .tc main_v4_3) = V (Proc.devRef .tc main_arg5) := by
  after_results_simp
  rfl
theorem entry_5 : StableHlo.after entryOps V (Proc.devRef .tc main_v4_5) = V (Proc.devRef .tc main_arg1) := by
  after_results_simp
  rfl
theorem entry_6 : StableHlo.after entryOps V (Proc.devRef .tc main_v4_6) = broadcastInDim S1024x256 ![] bcast_S_S1024x256 (constant S_ .f32 0x00000000#32) := by
  after_results_simp
  rfl
theorem entry_v2 : StableHlo.after entryOps V (Proc.devRef .tc main_v2) = broadcastInDim S1024x256 ![] bcast_S_S1024x256 (constant S_ .f32 0x00000000#32) := by
  after_results_simp

theorem mid_0 : StableHlo.after midOps V (Proc.devRef .tc main_v7_0) = Host.reverse [0] (V (Proc.devRef .tc main_v1)) := by
  after_results_simp
  rfl
theorem mid_1 : StableHlo.after midOps V (Proc.devRef .tc main_v7_1) = V (Proc.devRef .tc main_arg6) := by
  after_results_simp
  rfl
theorem mid_2 : StableHlo.after midOps V (Proc.devRef .tc main_v7_2) = V (Proc.devRef .tc main_arg7) := by
  after_results_simp
  rfl
theorem mid_3 : StableHlo.after midOps V (Proc.devRef .tc main_v7_3) = V (Proc.devRef .tc main_arg8) := by
  after_results_simp
  rfl
theorem mid_5 : StableHlo.after midOps V (Proc.devRef .tc main_v7_5) = V (Proc.devRef .tc main_arg1) := by
  after_results_simp
  rfl
theorem mid_6 : StableHlo.after midOps V (Proc.devRef .tc main_v7_6) = V (Proc.devRef .tc main_v2) := by
  after_results_simp
  rfl

/-- The first result from the two sequences of states; the second from the two last states. -/
def joined (a b : FVec F S50x1024x256 .f32) : FVec F S1024x50x512 .f32 :=
  transpose S1024x50x512 [1, 0, 2] (concatenate S50x1024x512 2 [⟨S50x1024x256, a⟩, ⟨S50x1024x256, Host.reverse [0] b⟩] concatenates_S50x1024x256_S50x1024x256_S50x1024x512_d2)
    transposes_S50x1024x512_S1024x50x512_1_0_2
def ends (a b : FVec F S1024x256 .f32) : FVec F S1024x512 .f32 :=
  concatenate S1024x512 1 [⟨S1024x256, a⟩, ⟨S1024x256, b⟩] concatenates_S1024x256_S1024x256_S1024x512_d1

theorem post_10 : StableHlo.after postOps V (Proc.devRef .tc main_v10) = joined (V (Proc.devRef .tc main_v4_7)) (V (Proc.devRef .tc main_v7_7)) := by
  after_results_simp
  rfl
theorem post_11 : StableHlo.after postOps V (Proc.devRef .tc main_v11) = ends (V (Proc.devRef .tc main_v4_5)) (V (Proc.devRef .tc main_v7_5)) := by
  after_results_simp
  rfl

end Reads

/-- Rows joined side by side, read at an index. -/
theorem joined_plain (a b : FVec Ideal S50x1024x256 .f32) (f g : ℕ → Mat 1024 256 × Mat 1024 256)
    (ha : ∀ y : S50x1024x256.Idx, a y = (f ((y 0).val + 1)).1 (ix2 (y 1) (y 2))) (hb : ∀ y : S50x1024x256.Idx, b y = (g ((y 0).val + 1)).1 (ix2 (y 1) (y 2))) :
    joined (F := Ideal) a b = states f g := by
  funext y
  have h0 : (y 0).val < 1024 := (y 0).isLt
  have h1 : (y 1).val < 50 := (y 1).isLt
  have h2 : (y 2).val < 512 := (y 2).isLt
  unfold joined
  refine (transpose_apply _ _ _ y (ix3 (⟨(y 1).val, h1⟩ : Fin 50) (⟨(y 0).val, h0⟩ : Fin 1024) (⟨(y 2).val, h2⟩ : Fin 512)) (fun k => match k with
    | ⟨0, _⟩ => rfl
    | ⟨1, _⟩ => rfl
    | ⟨2, _⟩ => rfl)).trans ?_
  refine (concatenate_pair_apply 2 a (Host.reverse [0] b) concatenates_S50x1024x256_S50x1024x256_S50x1024x512_d2 _).trans ?_
  unfold states
  by_cases hlt : (y 2).val < 256
  · refine (dif_pos hlt).trans (Eq.trans ?_ (dif_pos hlt).symm)
    refine (ha _).trans ?_
    refine congrArg (f ((y 1).val + 1)).1 (funext fun k => ?_)
    match k with
    | ⟨0, _⟩ => rfl
    | ⟨1, _⟩ => rfl
  · refine (dif_neg hlt).trans (Eq.trans ?_ (dif_neg hlt).symm)
    refine (Host.reverse_apply [0] b _).trans ((hb _).trans ?_)
    have e : ((Fin.rev (⟨(y 1).val, h1⟩ : Fin 50)).val + 1) = 49 - (y 1).val + 1 := by rw [Fin.val_rev]; show 50 - ((y 1).val + 1) + 1 = _; omega
    refine Eq.trans ?_ (congrArg (fun n => (g n).1 (ix2 (y 0) ⟨(y 2).val - 256, by omega⟩)) e)
    refine congrArg (g ((Fin.rev (⟨(y 1).val, h1⟩ : Fin 50)).val + 1)).1 (funext fun k => ?_)
    match k with
    | ⟨0, _⟩ => rfl
    | ⟨1, _⟩ => rfl

theorem ends_plain (f g : ℕ → Mat 1024 256 × Mat 1024 256) : ends (F := Ideal) (f 50).1 (g 50).1 = lasts f g := by
  funext y
  have h0 : (y 0).val < 1024 := (y 0).isLt
  have h1 : (y 1).val < 512 := (y 1).isLt
  unfold ends
  refine (concatenate_pair_apply 1 _ _ concatenates_S1024x256_S1024x256_S1024x512_d1 y).trans ?_
  unfold lasts
  by_cases hlt : (y 1).val < 256
  · refine (dif_pos hlt).trans (Eq.trans ?_ (dif_pos hlt).symm)
    refine congrArg (f 50).1 (funext fun k => ?_)
    match k with
    | ⟨0, _⟩ => rfl
    | ⟨1, _⟩ => rfl
  · refine (dif_neg hlt).trans (Eq.trans ?_ (dif_neg hlt).symm)
    refine congrArg (g 50).1 (funext fun k => ?_)
    match k with
    | ⟨0, _⟩ => rfl
    | ⟨1, _⟩ => rfl

variable (m : (ℓ : Loc nD τ sig) → Buf (Elt Ideal) ℓ) (c : Dev nD)

/-- The two recurrences over the arguments. -/
def fwdR : ℕ → Mat 1024 256 × Mat 1024 256 :=
  fwd (m (c, Proc.devRef .tc main_arg0)) (m (c, Proc.devRef .tc main_arg2)) (m (c, Proc.devRef .tc main_arg3)) (m (c, Proc.devRef .tc main_arg4)) (m (c, Proc.devRef .tc main_arg1))
def bwdR : ℕ → Mat 1024 256 × Mat 1024 256 :=
  bwd (m (c, Proc.devRef .tc main_arg0)) (m (c, Proc.devRef .tc main_arg2)) (m (c, Proc.devRef .tc main_arg6)) (m (c, Proc.devRef .tc main_arg7)) (m (c, Proc.devRef .tc main_arg1))

section
variable (hi : ∀ j : S1024x50.Idx, ((m (c, Proc.devRef .tc main_arg0) : S1024x50.Idx → BitVec 32) j).toNat < 100000)
  (hb0 : m (c, Proc.devRef .tc main_arg5) = fun _ => (0 : EReal)) (hb1 : m (c, Proc.devRef .tc main_arg8) = fun _ => (0 : EReal))

include hi in
/-- The looked-up rows, by steps. -/
theorem steps_rows : transpose S50x1024x128 [1, 0, 2] (StableHlo.after takeOps (StableHlo.launchContents m c) (Proc.devRef .tc main_v0) : S1024x50x128.Idx → EReal) transposes_S1024x50x128_S50x1024x128_1_0_2
    = fun y => seqF (m (c, Proc.devRef .tc main_arg0)) (m (c, Proc.devRef .tc main_arg2)) (y 0).val (ix2 (y 1) (y 2)) := by
  rw [take_read]
  funext y
  refine (transpose_apply _ _ _ y (ix3 (y 1) (y 0) (y 2)) (fun k => match k with
    | ⟨0, _⟩ => rfl
    | ⟨1, _⟩ => rfl
    | ⟨2, _⟩ => rfl)).trans ?_
  have e := congrFun (takeFn_eq (F := Ideal) (m (c, Proc.devRef .tc main_arg0)) (m (c, Proc.devRef .tc main_arg2)) hi) (ix3 (y 1) (y 0) (y 2))
  refine e.trans ?_
  have hy : (y 0).val < 50 := (y 0).isLt
  have e0 : Fin.ofNat 50 (y 0).val = y 0 := Fin.ext (Nat.mod_eq_of_lt hy)
  exact congrArg (fun n : Fin 50 => (m (c, Proc.devRef .tc main_arg2) : S100000x128.Idx → EReal)
    (ix2 ⟨((m (c, Proc.devRef .tc main_arg0) : S1024x50.Idx → BitVec 32) (ix2 (y 1) n)).toNat % 100000, Nat.mod_lt _ (by norm_num)⟩ (y 2))) e0.symm

include hi in
theorem X0_rows (n : ℕ) (hn : n < 50) : rowsOf (X0 m c (Proc.devRef .tc main_v4_0)) n = seqF (m (c, Proc.devRef .tc main_arg0)) (m (c, Proc.devRef .tc main_arg2)) n := by
  have e : X0 m c (Proc.devRef .tc main_v4_0) = _ := (entry_0 (StableHlo.after takeOps (StableHlo.launchContents m c))).trans (steps_rows m c hi)
  rw [e]
  funext y
  refine congrFun (congrArg (seqF (m (c, Proc.devRef .tc main_arg0)) (m (c, Proc.devRef .tc main_arg2))) (show n % 50 = n by omega)) _ |>.trans ?_
  exact congrArg _ (eq_ix2 y).symm

include hi in
theorem X1_rows (n : ℕ) (hn : n < 50) : rowsOf (X1 m c (Proc.devRef .tc main_v7_0)) n = seqF (m (c, Proc.devRef .tc main_arg0)) (m (c, Proc.devRef .tc main_arg2)) (49 - n) := by
  have e0 : X0 m c (Proc.devRef .tc main_v1) = _ := (entry_v1 (StableHlo.after takeOps (StableHlo.launchContents m c))).trans (steps_rows m c hi)
  have e : X1 m c (Proc.devRef .tc main_v7_0) = Host.reverse [0] (Y0 m c (Proc.devRef .tc main_v1)) := mid_0 (Y0 m c)
  rw [e, Y0_keep m c (by decide), e0]
  funext y
  have hr : (Fin.rev (Fin.ofNat 50 n)).val = 49 - n := by rw [Fin.val_rev]; show 50 - (n % 50 + 1) = _; omega
  refine Eq.trans ?_ (congrFun (congrArg (seqF (m (c, Proc.devRef .tc main_arg0)) (m (c, Proc.devRef .tc main_arg2))) hr) y)
  exact congrArg (seqF (m (c, Proc.devRef .tc main_arg0)) (m (c, Proc.devRef .tc main_arg2)) (Fin.rev (Fin.ofNat 50 n)).val) (eq_ix2 y).symm

include hi in
theorem fwd_run (n : ℕ) (hn : n ≤ 50) : plain0 (X0 m) c n = fwdR m c n := by
  unfold plain0 fwdR fwd
  have e1 : X0 m c (Proc.devRef .tc main_v4_1) = m (c, Proc.devRef .tc main_arg3) := (entry_1 (StableHlo.after takeOps (StableHlo.launchContents m c))).trans (takeOps_keep (by decide) (StableHlo.launchContents m c))
  have e2 : X0 m c (Proc.devRef .tc main_v4_2) = m (c, Proc.devRef .tc main_arg4) := (entry_2 (StableHlo.after takeOps (StableHlo.launchContents m c))).trans (takeOps_keep (by decide) (StableHlo.launchContents m c))
  have e5 : X0 m c (Proc.devRef .tc main_v4_5) = m (c, Proc.devRef .tc main_arg1) := (entry_5 (StableHlo.after takeOps (StableHlo.launchContents m c))).trans (takeOps_keep (by decide) (StableHlo.launchContents m c))
  rw [e1, e2, e5]
  exact Plain.run_congr _ _ _ _ _ n fun k hk => X0_rows m c hi k (by omega)

/-- An argument is unchanged as the second loop's operands are made. -/
theorem Y0_arg {b : Ref sig .tc} (h0 : b ∉ takeOps_W) (h1 : b ∉ entryOps_W) (h2 : b ∉ trip0_W) : Y0 m c (Proc.devRef .tc b) = m (c, Proc.devRef .tc b) :=
  (Y0_keep m c h2).trans (X0_keep m c h0 h1)

include hi in
theorem bwd_run (n : ℕ) (hn : n ≤ 50) : plain1 (X1 m) c n = bwdR m c n := by
  unfold plain1 bwdR bwd
  have e1 : X1 m c (Proc.devRef .tc main_v7_1) = m (c, Proc.devRef .tc main_arg6) := (mid_1 (Y0 m c)).trans (Y0_arg m c (by decide) (by decide) (by decide))
  have e2 : X1 m c (Proc.devRef .tc main_v7_2) = m (c, Proc.devRef .tc main_arg7) := (mid_2 (Y0 m c)).trans (Y0_arg m c (by decide) (by decide) (by decide))
  have e5 : X1 m c (Proc.devRef .tc main_v7_5) = m (c, Proc.devRef .tc main_arg1) := (mid_5 (Y0 m c)).trans (Y0_arg m c (by decide) (by decide) (by decide))
  rw [e1, e2, e5]
  exact Plain.run_congr _ _ _ _ _ n fun k hk => X1_rows m c hi k (by omega)

theorem zeros_eq : (broadcastInDim S1024x256 ![] bcast_S_S1024x256 (constant (F := Ideal) S_ .f32 0x00000000#32) : S1024x256.Idx → EReal) = fun _ => 0 :=
  funext fun _ => Ideal.ofBits_zero_f32

include hb0 in
theorem X0_bias : X0 m c (Proc.devRef .tc main_v4_3) = fun _ => (0 : EReal) :=
  ((entry_3 (StableHlo.after takeOps (StableHlo.launchContents m c))).trans (takeOps_keep (by decide) (StableHlo.launchContents m c))).trans hb0
theorem X0_mem : X0 m c (Proc.devRef .tc main_v4_6) = fun _ => (0 : EReal) := (entry_6 (StableHlo.after takeOps (StableHlo.launchContents m c))).trans zeros_eq
include hb1 in
theorem X1_bias : X1 m c (Proc.devRef .tc main_v7_3) = fun _ => (0 : EReal) :=
  ((mid_3 (Y0 m c)).trans (Y0_arg m c (by decide) (by decide) (by decide))).trans hb1
theorem X1_mem : X1 m c (Proc.devRef .tc main_v7_6) = fun _ => (0 : EReal) :=
  (mid_6 (Y0 m c)).trans ((Y0_keep m c (by decide)).trans ((entry_v2 (StableHlo.after takeOps (StableHlo.launchContents m c))).trans zeros_eq))

include hi hb0 hb1 in
/-- The first result. -/
theorem Z_states : Z m c (Proc.devRef .tc main_v10) = states (fwdR m c) (bwdR m c) := by
  have l0 := loop0_plain (X0 m) c (X0_ctr m c) (X0_bias m c hb0) (X0_mem m c) 50 le_rfl
  have l1 := loop1_plain (X1 m) c (X1_ctr m c) (X1_bias m c hb1) (X1_mem m c) 50 le_rfl
  have z : Z m c (Proc.devRef .tc main_v10) = joined (F := Ideal) (Y1 m c (Proc.devRef .tc main_v4_7)) (Y1 m c (Proc.devRef .tc main_v7_7)) := post_10 (Y1 m c)
  rw [z]
  have a : Y1 m c (Proc.devRef .tc main_v4_7) = StableHlo.atTrip condOps0 bodyI0 (X0 m) 50 c (Proc.devRef .tc main_v4_7) :=
    (Y1_keep m c (by decide)).trans ((X1_keep m c (by decide)).trans (condOps0_keep (by decide) _))
  have b : Y1 m c (Proc.devRef .tc main_v7_7) = StableHlo.atTrip condOps1 bodyI1 (X1 m) 50 c (Proc.devRef .tc main_v7_7) := condOps1_keep (by decide) _
  refine joined_plain _ _ _ _ (fun y => ?_) (fun y => ?_)
  · have hy : (y 0).val < 50 := (y 0).isLt
    rw [a, ← fwd_run m c hi _ (by omega)]
    exact l0.2.2 y hy
  · have hy : (y 0).val < 50 := (y 0).isLt
    rw [b, ← bwd_run m c hi _ (by omega)]
    exact l1.2.2 y hy

include hi hb0 hb1 in
/-- The second result. -/
theorem Z_lasts : Z m c (Proc.devRef .tc main_v11) = lasts (fwdR m c) (bwdR m c) := by
  have l0 := loop0_plain (X0 m) c (X0_ctr m c) (X0_bias m c hb0) (X0_mem m c) 50 le_rfl
  have l1 := loop1_plain (X1 m) c (X1_ctr m c) (X1_bias m c hb1) (X1_mem m c) 50 le_rfl
  have z : Z m c (Proc.devRef .tc main_v11) = ends (F := Ideal) (Y1 m c (Proc.devRef .tc main_v4_5)) (Y1 m c (Proc.devRef .tc main_v7_5)) := post_11 (Y1 m c)
  have a : Y1 m c (Proc.devRef .tc main_v4_5) = (fwdR m c 50).1 :=
    ((Y1_keep m c (by decide)).trans ((X1_keep m c (by decide)).trans (condOps0_keep (by decide) _))).trans (l0.1.trans (congrArg Prod.fst (fwd_run m c hi 50 le_rfl)))
  have b : Y1 m c (Proc.devRef .tc main_v7_5) = (bwdR m c 50).1 := (condOps1_keep (by decide) _).trans (l1.1.trans (congrArg Prod.fst (bwd_run m c hi 50 le_rfl)))
  rw [z, a, b]
  exact ends_plain _ _

end

end Cert.Scan

end
-- ==== Proof.Equal.lean ====
/-
  The kernel and the reference leave the same two results over the extended reals: both are the states and the last states
  of the two directions' recurrences over the arguments. The kernel reads no bias, so the precondition takes both biases
  to be zero.
-/
module

public import proofs.«01_k».proof.Proof.NoBias
public import proofs.«01_k».proof.Proof.KernelEnd
public import proofs.«01_k».proof.Proof.RefEnd

@[expose] public section

noncomputable section

namespace Cert.Gather

open Idealize.ShloMosaic
open Idealize.ShloMosaic.TcCoe
open Idealize.SL.Sem
open Cert.Plain (states lasts)

/-- A comparison that says equal to zero says zero. -/
theorem zero_of_cmp (x : EReal) (h : FloatOps.cmpf (F := Ideal) (φ := .f32) .oeq x (Ideal.ofBits .f32 0x00000000#32) = 1#1) : x = 0 := by
  rw [Ideal.ofBits_zero_f32] at h
  have h' : BitVec.ofBool (decide (x = 0)) = 1#1 := h
  by_contra hx
  rw [decide_eq_false hx] at h'
  exact absurd h' (by decide)

/-- The bias at a column, as the precondition reads it at the column's row. -/
theorem bias_at (b : Cert.KernelIdeal.S1024.Idx → EReal) (r : Fin 1024) (j : Fin 50)
    (h : broadcastInDim Cert.Pre_rows_no_bias.S1024x50 ![0, 1] rows_no_bias_facts.bcast_S1024x1_S1024x50_0_1
      (broadcastInDim Cert.Pre_rows_no_bias.S1024x1 ![0] rows_no_bias_facts.bcast_S1024_S1024x1_0
        (cmpf (F := Ideal) (φ := .f32) .oeq b (broadcastInDim Cert.Pre_rows_no_bias.S1024 ![] rows_no_bias_facts.bcast_S_S1024
          (constant (F := Ideal) Cert.Pre_rows_no_bias.S_ .f32 0x00000000#32)))) (ValueIdx.ix2 r j) = 1#1) : b (ValueIdx.ix1 r) = 0 := by
  rw [broadcastInDim_apply _ _ _ _ (ValueIdx.ix2 r (0 : Fin 1)) (fun k => match k with
      | ⟨0, _⟩ => rfl
      | ⟨1, _⟩ => rfl),
    broadcastInDim_apply _ _ _ _ (ValueIdx.ix1 r) (fun k => match k with
      | ⟨0, _⟩ => rfl)] at h
  exact zero_of_cmp _ h

variable (m : (ℓ : Loc Cert.KernelIdeal.nD Cert.KernelIdeal.τ Cert.KernelIdeal.sig) → Buf (Elt Ideal) ℓ)

/-- The precondition's biases are zero. -/
theorem bias_first (h : Cert.Pre_KernelIdeal_rows_no_bias m) (d : Dev Cert.KernelIdeal.nD) :
    (m (d, Proc.devRef .tc Cert.KernelIdeal.main_arg5) : Cert.KernelIdeal.S1024.Idx → EReal) = fun _ => (0 : EReal) := by
  funext y
  have e := congrFun (h d) (ValueIdx.ix2 (y 0) (0 : Fin 50))
  have e' := right_of_and _ _ (left_of_and _ _ e)
  have hy : y = ValueIdx.ix1 (y 0) := ValueIdx.eq_ix1 y
  rw [hy]
  exact bias_at _ (y 0) 0 e'

theorem bias_second (h : Cert.Pre_KernelIdeal_rows_no_bias m) (d : Dev Cert.KernelIdeal.nD) :
    (m (d, Proc.devRef .tc Cert.KernelIdeal.main_arg8) : Cert.KernelIdeal.S1024.Idx → EReal) = fun _ => (0 : EReal) := by
  funext y
  have e := congrFun (h d) (ValueIdx.ix2 (y 0) (0 : Fin 50))
  have e' := right_of_and _ _ e
  have hy : y = ValueIdx.ix1 (y 0) := ValueIdx.eq_ix1 y
  rw [hy]
  exact bias_at _ (y 0) 0 e'

theorem equal : Cert.algebraic_KernelIdeal_ReferenceIdeal_pre_rows_no_bias := fun m g m' g' hp hm => by
  refine ⟨fun d => states (fwdK m d) (bwdK m d), fun d => lasts (fwdK m d) (bwdK m d), ?_, ?_⟩
  · refine (θ_run (Cert.KernelIdeal.defs (F := Ideal)) _ _).mono (fun r h d => ?_) (run_main (F := Ideal) m g (list_small m (small_no_bias m hp)))
    exact ⟨(h.1 d (Proc.devRef .tc Cert.KernelIdeal.main_v12) (by decide)).trans (W5_states m d), (h.1 d (Proc.devRef .tc Cert.KernelIdeal.main_v11_1) (by decide)).trans (W5_lasts m d), args_of_run m h d⟩
  · refine (θ_run _ _ _).mono (fun r h d => ?_) (Cert.Scan.run_ref m' g')
    obtain ⟨a0, a1, a2, a3, a4, a5, a6, a7, a8⟩ := hm d
    have hi : ∀ j : Cert.ReferenceIdeal.S1024x50.Idx, ((m' (d, Proc.devRef .tc Cert.ReferenceIdeal.main_arg0) : Cert.ReferenceIdeal.S1024x50.Idx → BitVec 32) j).toNat < 100000 := fun j => by
      have e := congrFun a0 j
      exact lt_of_eq_of_lt (congrArg BitVec.toNat e) (small_no_bias m hp d j)
    have hb0 : (m' (d, Proc.devRef .tc Cert.ReferenceIdeal.main_arg5) : Cert.ReferenceIdeal.S1024.Idx → EReal) = fun _ => (0 : EReal) := a5.trans (bias_first m hp d)
    have hb1 : (m' (d, Proc.devRef .tc Cert.ReferenceIdeal.main_arg8) : Cert.ReferenceIdeal.S1024.Idx → EReal) = fun _ => (0 : EReal) := a8.trans (bias_second m hp d)
    have ef : Cert.Scan.fwdR m' d = fwdK m d := by
      unfold Cert.Scan.fwdR fwdK
      exact congr (congr (congr (congr (congrArg Cert.Plain.fwd a0) a2) a3) a4) a1
    have eb : Cert.Scan.bwdR m' d = bwdK m d := by
      unfold Cert.Scan.bwdR bwdK
      exact congr (congr (congr (congr (congrArg Cert.Plain.bwd a0) a2) a6) a7) a1
    refine ⟨(Cert.Scan.end_at m' h d Cert.ReferenceIdeal.main_v10 (by decide)).trans ((Cert.Scan.Z_states m' d hi hb0 hb1).trans ?_),
      (Cert.Scan.end_at m' h d Cert.ReferenceIdeal.main_v11 (by decide)).trans ((Cert.Scan.Z_lasts m' d hi hb0 hb1).trans ?_), Cert.Scan.ref_args m' h d⟩
    · rw [ef, eb]
    · rw [ef, eb]

end Cert.Gather

end
-- ==== Proof.lean ====
/- The proof of the certificate, put together from its parts. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.FrameBits
public import proofs.«01_k».proof.Proof.RefFrame
public import proofs.«01_k».proof.Proof.NoBias
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Gather.rows_facts,
  Cert.Gather.rows_no_bias_facts, Cert.Gather.frame_kernel, Cert.Gather.frame_ideal, Cert.Gather.frame_ideal_no_bias, Cert.Scan.frame_ref,
  Cert.Gather.frame_ref_no_bias, trivial, Cert.Gather.equal⟩

end Cert.Proof

end
